-- ==== Defs.lean ====
def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_InGates (m : (ℓ : Loc Cert.InGates.nD Cert.InGates.τ Cert.InGates.sig) → Buf (Elt Bits) ℓ) : Prop :=
  True

def Pre_InGatesIdeal (m : (ℓ : Loc Cert.InGatesIdeal.nD Cert.InGatesIdeal.τ Cert.InGatesIdeal.sig) → Buf (Elt Ideal) ℓ) : Prop :=
  True

def Pre_InGatesRefIdeal (m : (ℓ : Loc Cert.InGatesRefIdeal.nD Cert.InGatesRefIdeal.τ Cert.InGatesRefIdeal.sig) → Buf (Elt Ideal) ℓ) : Prop :=
  True

def Pre_InConv (m : (ℓ : Loc Cert.InConv.nD Cert.InConv.τ Cert.InConv.sig) → Buf (Elt Bits) ℓ) : Prop :=
  True

def Pre_InConvIdeal (m : (ℓ : Loc Cert.InConvIdeal.nD Cert.InConvIdeal.τ Cert.InConvIdeal.sig) → Buf (Elt Ideal) ℓ) : Prop :=
  True

def Pre_InConvRefIdeal (m : (ℓ : Loc Cert.InConvRefIdeal.nD Cert.InConvRefIdeal.τ Cert.InConvRefIdeal.sig) → Buf (Elt Ideal) ℓ) : Prop :=
  True

def Pre_InU (m : (ℓ : Loc Cert.InU.nD Cert.InU.τ Cert.InU.sig) → Buf (Elt Bits) ℓ) : Prop :=
  True

def Pre_InUIdeal (m : (ℓ : Loc Cert.InUIdeal.nD Cert.InUIdeal.τ Cert.InUIdeal.sig) → Buf (Elt Ideal) ℓ) : Prop :=
  True

def Pre_InURefIdeal (m : (ℓ : Loc Cert.InURefIdeal.nD Cert.InURefIdeal.τ Cert.InURefIdeal.sig) → Buf (Elt Ideal) ℓ) : Prop :=
  True

def Pre_InCkv (m : (ℓ : Loc Cert.InCkv.nD Cert.InCkv.τ Cert.InCkv.sig) → Buf (Elt Bits) ℓ) : Prop :=
  True

def Pre_InCkvIdeal (m : (ℓ : Loc Cert.InCkvIdeal.nD Cert.InCkvIdeal.τ Cert.InCkvIdeal.sig) → Buf (Elt Ideal) ℓ) : Prop :=
  True

def Pre_InCkvRefIdeal (m : (ℓ : Loc Cert.InCkvRefIdeal.nD Cert.InCkvRefIdeal.τ Cert.InCkvRefIdeal.sig) → Buf (Elt Ideal) ℓ) : Prop :=
  True

def Pre_InQ (m : (ℓ : Loc Cert.InQ.nD Cert.InQ.τ Cert.InQ.sig) → Buf (Elt Bits) ℓ) : Prop :=
  True

def Pre_InQIdeal (m : (ℓ : Loc Cert.InQIdeal.nD Cert.InQIdeal.τ Cert.InQIdeal.sig) → Buf (Elt Ideal) ℓ) : Prop :=
  True

def Pre_InQRefIdeal (m : (ℓ : Loc Cert.InQRefIdeal.nD Cert.InQRefIdeal.τ Cert.InQRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_Ln0 (m : (ℓ : Loc Cert.Ln0.nD Cert.Ln0.τ Cert.Ln0.sig) → Buf (Elt Bits) ℓ) : Prop :=
  True

def Pre_Ln0Ideal (m : (ℓ : Loc Cert.Ln0Ideal.nD Cert.Ln0Ideal.τ Cert.Ln0Ideal.sig) → Buf (Elt Ideal) ℓ) : Prop :=
  True

def Pre_Ln0RefIdeal (m : (ℓ : Loc Cert.Ln0RefIdeal.nD Cert.Ln0RefIdeal.τ Cert.Ln0RefIdeal.sig) → Buf (Elt Ideal) ℓ) : Prop :=
  True

def Pre_SsmMeta (m : (ℓ : Loc Cert.SsmMeta.nD Cert.SsmMeta.τ Cert.SsmMeta.sig) → Buf (Elt Bits) ℓ) : Prop :=
  True

def Pre_SsmMetaIdeal (m : (ℓ : Loc Cert.SsmMetaIdeal.nD Cert.SsmMetaIdeal.τ Cert.SsmMetaIdeal.sig) → Buf (Elt Ideal) ℓ) : Prop :=
  True

def Pre_SsmMetaRefIdeal (m : (ℓ : Loc Cert.SsmMetaRefIdeal.nD Cert.SsmMetaRefIdeal.τ Cert.SsmMetaRefIdeal.sig) → Buf (Elt Ideal) ℓ) : Prop :=
  True

def Pre_AttnMeta (m : (ℓ : Loc Cert.AttnMeta.nD Cert.AttnMeta.τ Cert.AttnMeta.sig) → Buf (Elt Bits) ℓ) : Prop :=
  True

def Pre_AttnMetaIdeal (m : (ℓ : Loc Cert.AttnMetaIdeal.nD Cert.AttnMetaIdeal.τ Cert.AttnMetaIdeal.sig) → Buf (Elt Ideal) ℓ) : Prop :=
  True

def Pre_AttnMetaIdeal_attn_meta_finite [hPre_attn_meta_finite : Cert.Pre_attn_meta_finite.Facts] (m : (ℓ : Loc Cert.AttnMetaIdeal.nD Cert.AttnMetaIdeal.τ Cert.AttnMetaIdeal.sig) → Buf (Elt Ideal) ℓ) : Prop :=
  ∀ c : Dev Cert.AttnMetaIdeal.nD,
    (Cert.Pre_attn_meta_finite.fn (F := Ideal) (m ((c.tc : Thread Cert.AttnMetaIdeal.nD Cert.AttnMetaIdeal.τ).loc Cert.AttnMetaIdeal.main_arg0)) (m ((c.tc : Thread Cert.AttnMetaIdeal.nD Cert.AttnMetaIdeal.τ).loc Cert.AttnMetaIdeal.main_arg1)) (m ((c.tc : Thread Cert.AttnMetaIdeal.nD Cert.AttnMetaIdeal.τ).loc Cert.AttnMetaIdeal.main_arg2))) = (fun _ => 1#1)

def Pre_AttnMetaRefIdeal (m : (ℓ : Loc Cert.AttnMetaRefIdeal.nD Cert.AttnMetaRefIdeal.τ Cert.AttnMetaRefIdeal.sig) → Buf (Elt Ideal) ℓ) : Prop :=
  True

def Pre_AttnMetaRefIdeal_attn_meta_finite [hPre_attn_meta_finite : Cert.Pre_attn_meta_finite.Facts] (m : (ℓ : Loc Cert.AttnMetaRefIdeal.nD Cert.AttnMetaRefIdeal.τ Cert.AttnMetaRefIdeal.sig) → Buf (Elt Ideal) ℓ) : Prop :=
  ∀ c : Dev Cert.AttnMetaRefIdeal.nD,
    (Cert.Pre_attn_meta_finite.fn (F := Ideal) (m ((c.tc : Thread Cert.AttnMetaRefIdeal.nD Cert.AttnMetaRefIdeal.τ).loc Cert.AttnMetaRefIdeal.main_arg0)) (m ((c.tc : Thread Cert.AttnMetaRefIdeal.nD Cert.AttnMetaRefIdeal.τ).loc Cert.AttnMetaRefIdeal.main_arg1)) (m ((c.tc : Thread Cert.AttnMetaRefIdeal.nD Cert.AttnMetaRefIdeal.τ).loc Cert.AttnMetaRefIdeal.main_arg2))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_InGates [hInGates : Cert.InGates.Facts] : Prop :=
  ∀ (m : (ℓ : Loc Cert.InGates.nD Cert.InGates.τ Cert.InGates.sig) → Buf (Elt Bits) ℓ) (g : Dev Cert.InGates.nD → PrngReg), Pre_InGates m →
    θ_run (Cert.InGates.defs (F := Bits)) (onTc (τ := Cert.InGates.τ) (Cert.InGates.main (F := Bits))) ⟨m, fun _ => 0, g⟩ (fun r => (∀ c : Dev Cert.InGates.nD,
      r.2.mem ((c.tc : Thread Cert.InGates.nD Cert.InGates.τ).loc Cert.InGates.main_arg0) = m ((c.tc : Thread Cert.InGates.nD Cert.InGates.τ).loc Cert.InGates.main_arg0)
      ∧ r.2.mem ((c.tc : Thread Cert.InGates.nD Cert.InGates.τ).loc Cert.InGates.main_arg1) = m ((c.tc : Thread Cert.InGates.nD Cert.InGates.τ).loc Cert.InGates.main_arg1)
      ∧ r.2.mem ((c.tc : Thread Cert.InGates.nD Cert.InGates.τ).loc Cert.InGates.main_arg2) = m ((c.tc : Thread Cert.InGates.nD Cert.InGates.τ).loc Cert.InGates.main_arg2))
      ∧ r.2.sem = fun _ => 0)

def quiescent_InGatesIdeal [hInGatesIdeal : Cert.InGatesIdeal.Facts] : Prop :=
  ∀ (m : (ℓ : Loc Cert.InGatesIdeal.nD Cert.InGatesIdeal.τ Cert.InGatesIdeal.sig) → Buf (Elt Ideal) ℓ) (g : Dev Cert.InGatesIdeal.nD → PrngReg), Pre_InGatesIdeal m →
    θ_run (Cert.InGatesIdeal.defs (F := Ideal)) (onTc (τ := Cert.InGatesIdeal.τ) (Cert.InGatesIdeal.main (F := Ideal))) ⟨m, fun _ => 0, g⟩ (fun r => (∀ c : Dev Cert.InGatesIdeal.nD,
      r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
      ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1)
      ∧ r.2.mem ((c.tc : Thread Cert.InGatesIdeal.nD Cert.InGatesIdeal.τ).loc Cert.InGatesIdeal.main_arg2) = m ((c.tc : Thread Cert.InGatesIdeal.nD Cert.InGatesIdeal.τ).loc Cert.InGatesIdeal.main_arg2))
      ∧ r.2.sem = fun _ => 0)

def quiescent_InGatesRefIdeal [hInGatesRefIdeal : Cert.InGatesRefIdeal.Facts] : Prop :=
  ∀ (m : (ℓ : Loc Cert.InGatesRefIdeal.nD Cert.InGatesRefIdeal.τ Cert.InGatesRefIdeal.sig) → Buf (Elt Ideal) ℓ) (g : Dev Cert.InGatesRefIdeal.nD → PrngReg), Pre_InGatesRefIdeal m →
    θ_run (Cert.InGatesRefIdeal.defs (F := Ideal)) (onTc (τ := Cert.InGatesRefIdeal.τ) (Cert.InGatesRefIdeal.main (F := Ideal))) ⟨m, fun _ => 0, g⟩ (fun r => (∀ c : Dev Cert.InGatesRefIdeal.nD,
      r.2.mem ((c.tc : Thread Cert.InGatesRefIdeal.nD Cert.InGatesRefIdeal.τ).loc Cert.InGatesRefIdeal.main_arg0) = m ((c.tc : Thread Cert.InGatesRefIdeal.nD Cert.InGatesRefIdeal.τ).loc Cert.InGatesRefIdeal.main_arg0)
      ∧ r.2.mem ((c.tc : Thread Cert.InGatesRefIdeal.nD Cert.InGatesRefIdeal.τ).loc Cert.InGatesRefIdeal.main_arg1) = m ((c.tc : Thread Cert.InGatesRefIdeal.nD Cert.InGatesRefIdeal.τ).loc Cert.InGatesRefIdeal.main_arg1)
      ∧ r.2.mem ((c.tc : Thread Cert.InGatesRefIdeal.nD Cert.InGatesRefIdeal.τ).loc Cert.InGatesRefIdeal.main_arg2) = m ((c.tc : Thread Cert.InGatesRefIdeal.nD Cert.InGatesRefIdeal.τ).loc Cert.InGatesRefIdeal.main_arg2))
      ∧ r.2.sem = fun _ => 0)

def quiescent_InConv [hInConv : Cert.InConv.Facts] : Prop :=
  ∀ (m : (ℓ : Loc Cert.InConv.nD Cert.InConv.τ Cert.InConv.sig) → Buf (Elt Bits) ℓ) (g : Dev Cert.InConv.nD → PrngReg), Pre_InConv m →
    θ_run (Cert.InConv.defs (F := Bits)) (onTc (τ := Cert.InConv.τ) (Cert.InConv.main (F := Bits))) ⟨m, fun _ => 0, g⟩ (fun r => (∀ c : Dev Cert.InConv.nD,
      r.2.mem ((c.tc : Thread Cert.InConv.nD Cert.InConv.τ).loc Cert.InConv.main_arg0) = m ((c.tc : Thread Cert.InConv.nD Cert.InConv.τ).loc Cert.InConv.main_arg0)
      ∧ r.2.mem ((c.tc : Thread Cert.InConv.nD Cert.InConv.τ).loc Cert.InConv.main_arg1) = m ((c.tc : Thread Cert.InConv.nD Cert.InConv.τ).loc Cert.InConv.main_arg1))
      ∧ r.2.sem = fun _ => 0)

def quiescent_InConvIdeal [hInConvIdeal : Cert.InConvIdeal.Facts] : Prop :=
  ∀ (m : (ℓ : Loc Cert.InConvIdeal.nD Cert.InConvIdeal.τ Cert.InConvIdeal.sig) → Buf (Elt Ideal) ℓ) (g : Dev Cert.InConvIdeal.nD → PrngReg), Pre_InConvIdeal m →
    θ_run (Cert.InConvIdeal.defs (F := Ideal)) (onTc (τ := Cert.InConvIdeal.τ) (Cert.InConvIdeal.main (F := Ideal))) ⟨m, fun _ => 0, g⟩ (fun r => (∀ c : Dev Cert.InConvIdeal.nD,
      r.2.mem ((c.tc : Thread Cert.InConvIdeal.nD Cert.InConvIdeal.τ).loc Cert.InConvIdeal.main_arg0) = m ((c.tc : Thread Cert.InConvIdeal.nD Cert.InConvIdeal.τ).loc Cert.InConvIdeal.main_arg0)
      ∧ r.2.mem ((c.tc : Thread Cert.InConvIdeal.nD Cert.InConvIdeal.τ).loc Cert.InConvIdeal.main_arg1) = m ((c.tc : Thread Cert.InConvIdeal.nD Cert.InConvIdeal.τ).loc Cert.InConvIdeal.main_arg1))
      ∧ r.2.sem = fun _ => 0)

def quiescent_InConvRefIdeal [hInConvRefIdeal : Cert.InConvRefIdeal.Facts] : Prop :=
  ∀ (m : (ℓ : Loc Cert.InConvRefIdeal.nD Cert.InConvRefIdeal.τ Cert.InConvRefIdeal.sig) → Buf (Elt Ideal) ℓ) (g : Dev Cert.InConvRefIdeal.nD → PrngReg), Pre_InConvRefIdeal m →
    θ_run (Cert.InConvRefIdeal.defs (F := Ideal)) (onTc (τ := Cert.InConvRefIdeal.τ) (Cert.InConvRefIdeal.main (F := Ideal))) ⟨m, fun _ => 0, g⟩ (fun r => (∀ c : Dev Cert.InConvRefIdeal.nD,
      r.2.mem ((c.tc : Thread Cert.InConvRefIdeal.nD Cert.InConvRefIdeal.τ).loc Cert.InConvRefIdeal.main_arg0) = m ((c.tc : Thread Cert.InConvRefIdeal.nD Cert.InConvRefIdeal.τ).loc Cert.InConvRefIdeal.main_arg0)
      ∧ r.2.mem ((c.tc : Thread Cert.InConvRefIdeal.nD Cert.InConvRefIdeal.τ).loc Cert.InConvRefIdeal.main_arg1) = m ((c.tc : Thread Cert.InConvRefIdeal.nD Cert.InConvRefIdeal.τ).loc Cert.InConvRefIdeal.main_arg1))
      ∧ r.2.sem = fun _ => 0)

def quiescent_InU [hInU : Cert.InU.Facts] : Prop :=
  ∀ (m : (ℓ : Loc Cert.InU.nD Cert.InU.τ Cert.InU.sig) → Buf (Elt Bits) ℓ) (g : Dev Cert.InU.nD → PrngReg), Pre_InU m →
    θ_run (Cert.InU.defs (F := Bits)) (onTc (τ := Cert.InU.τ) (Cert.InU.main (F := Bits))) ⟨m, fun _ => 0, g⟩ (fun r => (∀ c : Dev Cert.InU.nD,
      r.2.mem ((c.tc : Thread Cert.InU.nD Cert.InU.τ).loc Cert.InU.main_arg0) = m ((c.tc : Thread Cert.InU.nD Cert.InU.τ).loc Cert.InU.main_arg0)
      ∧ r.2.mem ((c.tc : Thread Cert.InU.nD Cert.InU.τ).loc Cert.InU.main_arg1) = m ((c.tc : Thread Cert.InU.nD Cert.InU.τ).loc Cert.InU.main_arg1))
      ∧ r.2.sem = fun _ => 0)

def quiescent_InUIdeal [hInUIdeal : Cert.InUIdeal.Facts] : Prop :=
  ∀ (m : (ℓ : Loc Cert.InUIdeal.nD Cert.InUIdeal.τ Cert.InUIdeal.sig) → Buf (Elt Ideal) ℓ) (g : Dev Cert.InUIdeal.nD → PrngReg), Pre_InUIdeal m →
    θ_run (Cert.InUIdeal.defs (F := Ideal)) (onTc (τ := Cert.InUIdeal.τ) (Cert.InUIdeal.main (F := Ideal))) ⟨m, fun _ => 0, g⟩ (fun r => (∀ c : Dev Cert.InUIdeal.nD,
      r.2.mem ((c.tc : Thread Cert.InUIdeal.nD Cert.InUIdeal.τ).loc Cert.InUIdeal.main_arg0) = m ((c.tc : Thread Cert.InUIdeal.nD Cert.InUIdeal.τ).loc Cert.InUIdeal.main_arg0)
      ∧ r.2.mem ((c.tc : Thread Cert.InUIdeal.nD Cert.InUIdeal.τ).loc Cert.InUIdeal.main_arg1) = m ((c.tc : Thread Cert.InUIdeal.nD Cert.InUIdeal.τ).loc Cert.InUIdeal.main_arg1))
      ∧ r.2.sem = fun _ => 0)

def quiescent_InURefIdeal [hInURefIdeal : Cert.InURefIdeal.Facts] : Prop :=
  ∀ (m : (ℓ : Loc Cert.InURefIdeal.nD Cert.InURefIdeal.τ Cert.InURefIdeal.sig) → Buf (Elt Ideal) ℓ) (g : Dev Cert.InURefIdeal.nD → PrngReg), Pre_InURefIdeal m →
    θ_run (Cert.InURefIdeal.defs (F := Ideal)) (onTc (τ := Cert.InURefIdeal.τ) (Cert.InURefIdeal.main (F := Ideal))) ⟨m, fun _ => 0, g⟩ (fun r => (∀ c : Dev Cert.InURefIdeal.nD,
      r.2.mem ((c.tc : Thread Cert.InURefIdeal.nD Cert.InURefIdeal.τ).loc Cert.InURefIdeal.main_arg0) = m ((c.tc : Thread Cert.InURefIdeal.nD Cert.InURefIdeal.τ).loc Cert.InURefIdeal.main_arg0)
      ∧ r.2.mem ((c.tc : Thread Cert.InURefIdeal.nD Cert.InURefIdeal.τ).loc Cert.InURefIdeal.main_arg1) = m ((c.tc : Thread Cert.InURefIdeal.nD Cert.InURefIdeal.τ).loc Cert.InURefIdeal.main_arg1))
      ∧ r.2.sem = fun _ => 0)

def quiescent_InCkv [hInCkv : Cert.InCkv.Facts] : Prop :=
  ∀ (m : (ℓ : Loc Cert.InCkv.nD Cert.InCkv.τ Cert.InCkv.sig) → Buf (Elt Bits) ℓ) (g : Dev Cert.InCkv.nD → PrngReg), Pre_InCkv m →
    θ_run (Cert.InCkv.defs (F := Bits)) (onTc (τ := Cert.InCkv.τ) (Cert.InCkv.main (F := Bits))) ⟨m, fun _ => 0, g⟩ (fun r => (∀ c : Dev Cert.InCkv.nD,
      r.2.mem ((c.tc : Thread Cert.InCkv.nD Cert.InCkv.τ).loc Cert.InCkv.main_arg0) = m ((c.tc : Thread Cert.InCkv.nD Cert.InCkv.τ).loc Cert.InCkv.main_arg0)
      ∧ r.2.mem ((c.tc : Thread Cert.InCkv.nD Cert.InCkv.τ).loc Cert.InCkv.main_arg1) = m ((c.tc : Thread Cert.InCkv.nD Cert.InCkv.τ).loc Cert.InCkv.main_arg1))
      ∧ r.2.sem = fun _ => 0)

def quiescent_InCkvIdeal [hInCkvIdeal : Cert.InCkvIdeal.Facts] : Prop :=
  ∀ (m : (ℓ : Loc Cert.InCkvIdeal.nD Cert.InCkvIdeal.τ Cert.InCkvIdeal.sig) → Buf (Elt Ideal) ℓ) (g : Dev Cert.InCkvIdeal.nD → PrngReg), Pre_InCkvIdeal m →
    θ_run (Cert.InCkvIdeal.defs (F := Ideal)) (onTc (τ := Cert.InCkvIdeal.τ) (Cert.InCkvIdeal.main (F := Ideal))) ⟨m, fun _ => 0, g⟩ (fun r => (∀ c : Dev Cert.InCkvIdeal.nD,
      r.2.mem ((c.tc : Thread Cert.InCkvIdeal.nD Cert.InCkvIdeal.τ).loc Cert.InCkvIdeal.main_arg0) = m ((c.tc : Thread Cert.InCkvIdeal.nD Cert.InCkvIdeal.τ).loc Cert.InCkvIdeal.main_arg0)
      ∧ r.2.mem ((c.tc : Thread Cert.InCkvIdeal.nD Cert.InCkvIdeal.τ).loc Cert.InCkvIdeal.main_arg1) = m ((c.tc : Thread Cert.InCkvIdeal.nD Cert.InCkvIdeal.τ).loc Cert.InCkvIdeal.main_arg1))
      ∧ r.2.sem = fun _ => 0)

def quiescent_InCkvRefIdeal [hInCkvRefIdeal : Cert.InCkvRefIdeal.Facts] : Prop :=
  ∀ (m : (ℓ : Loc Cert.InCkvRefIdeal.nD Cert.InCkvRefIdeal.τ Cert.InCkvRefIdeal.sig) → Buf (Elt Ideal) ℓ) (g : Dev Cert.InCkvRefIdeal.nD → PrngReg), Pre_InCkvRefIdeal m →
    θ_run (Cert.InCkvRefIdeal.defs (F := Ideal)) (onTc (τ := Cert.InCkvRefIdeal.τ) (Cert.InCkvRefIdeal.main (F := Ideal))) ⟨m, fun _ => 0, g⟩ (fun r => (∀ c : Dev Cert.InCkvRefIdeal.nD,
      r.2.mem ((c.tc : Thread Cert.InCkvRefIdeal.nD Cert.InCkvRefIdeal.τ).loc Cert.InCkvRefIdeal.main_arg0) = m ((c.tc : Thread Cert.InCkvRefIdeal.nD Cert.InCkvRefIdeal.τ).loc Cert.InCkvRefIdeal.main_arg0)
      ∧ r.2.mem ((c.tc : Thread Cert.InCkvRefIdeal.nD Cert.InCkvRefIdeal.τ).loc Cert.InCkvRefIdeal.main_arg1) = m ((c.tc : Thread Cert.InCkvRefIdeal.nD Cert.InCkvRefIdeal.τ).loc Cert.InCkvRefIdeal.main_arg1))
      ∧ r.2.sem = fun _ => 0)

def quiescent_InQ [hInQ : Cert.InQ.Facts] : Prop :=
  ∀ (m : (ℓ : Loc Cert.InQ.nD Cert.InQ.τ Cert.InQ.sig) → Buf (Elt Bits) ℓ) (g : Dev Cert.InQ.nD → PrngReg), Pre_InQ m →
    θ_run (Cert.InQ.defs (F := Bits)) (onTc (τ := Cert.InQ.τ) (Cert.InQ.main (F := Bits))) ⟨m, fun _ => 0, g⟩ (fun r => (∀ c : Dev Cert.InQ.nD,
      r.2.mem ((c.tc : Thread Cert.InQ.nD Cert.InQ.τ).loc Cert.InQ.main_arg0) = m ((c.tc : Thread Cert.InQ.nD Cert.InQ.τ).loc Cert.InQ.main_arg0)
      ∧ r.2.mem ((c.tc : Thread Cert.InQ.nD Cert.InQ.τ).loc Cert.InQ.main_arg1) = m ((c.tc : Thread Cert.InQ.nD Cert.InQ.τ).loc Cert.InQ.main_arg1)
      ∧ r.2.mem ((c.tc : Thread Cert.InQ.nD Cert.InQ.τ).loc Cert.InQ.main_arg2) = m ((c.tc : Thread Cert.InQ.nD Cert.InQ.τ).loc Cert.InQ.main_arg2))
      ∧ r.2.sem = fun _ => 0)

def quiescent_InQIdeal [hInQIdeal : Cert.InQIdeal.Facts] : Prop :=
  ∀ (m : (ℓ : Loc Cert.InQIdeal.nD Cert.InQIdeal.τ Cert.InQIdeal.sig) → Buf (Elt Ideal) ℓ) (g : Dev Cert.InQIdeal.nD → PrngReg), Pre_InQIdeal m →
    θ_run (Cert.InQIdeal.defs (F := Ideal)) (onTc (τ := Cert.InQIdeal.τ) (Cert.InQIdeal.main (F := Ideal))) ⟨m, fun _ => 0, g⟩ (fun r => (∀ c : Dev Cert.InQIdeal.nD,
      r.2.mem ((c.tc : Thread Cert.InQIdeal.nD Cert.InQIdeal.τ).loc Cert.InQIdeal.main_arg0) = m ((c.tc : Thread Cert.InQIdeal.nD Cert.InQIdeal.τ).loc Cert.InQIdeal.main_arg0)
      ∧ r.2.mem ((c.tc : Thread Cert.InQIdeal.nD Cert.InQIdeal.τ).loc Cert.InQIdeal.main_arg1) = m ((c.tc : Thread Cert.InQIdeal.nD Cert.InQIdeal.τ).loc Cert.InQIdeal.main_arg1)
      ∧ r.2.mem ((c.tc : Thread Cert.InQIdeal.nD Cert.InQIdeal.τ).loc Cert.InQIdeal.main_arg2) = m ((c.tc : Thread Cert.InQIdeal.nD Cert.InQIdeal.τ).loc Cert.InQIdeal.main_arg2))
      ∧ r.2.sem = fun _ => 0)

def quiescent_InQRefIdeal [hInQRefIdeal : Cert.InQRefIdeal.Facts] : Prop :=
  ∀ (m : (ℓ : Loc Cert.InQRefIdeal.nD Cert.InQRefIdeal.τ Cert.InQRefIdeal.sig) → Buf (Elt Ideal) ℓ) (g : Dev Cert.InQRefIdeal.nD → PrngReg), Pre_InQRefIdeal m →
    θ_run (Cert.InQRefIdeal.defs (F := Ideal)) (onTc (τ := Cert.InQRefIdeal.τ) (Cert.InQRefIdeal.main (F := Ideal))) ⟨m, fun _ => 0, g⟩ (fun r => (∀ c : Dev Cert.InQRefIdeal.nD,
      r.2.mem ((c.tc : Thread Cert.InQRefIdeal.nD Cert.InQRefIdeal.τ).loc Cert.InQRefIdeal.main_arg0) = m ((c.tc : Thread Cert.InQRefIdeal.nD Cert.InQRefIdeal.τ).loc Cert.InQRefIdeal.main_arg0)
      ∧ r.2.mem ((c.tc : Thread Cert.InQRefIdeal.nD Cert.InQRefIdeal.τ).loc Cert.InQRefIdeal.main_arg1) = m ((c.tc : Thread Cert.InQRefIdeal.nD Cert.InQRefIdeal.τ).loc Cert.InQRefIdeal.main_arg1)
      ∧ r.2.mem ((c.tc : Thread Cert.InQRefIdeal.nD Cert.InQRefIdeal.τ).loc Cert.InQRefIdeal.main_arg2) = m ((c.tc : Thread Cert.InQRefIdeal.nD Cert.InQRefIdeal.τ).loc Cert.InQRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1)
      ∧ r.2.mem ((c.tc : Thread Cert.MmOut.nD Cert.MmOut.τ).loc Cert.MmOut.main_arg2) = m ((c.tc : Thread Cert.MmOut.nD Cert.MmOut.τ).loc Cert.MmOut.main_arg2)
      ∧ r.2.mem ((c.tc : Thread Cert.MmOut.nD Cert.MmOut.τ).loc Cert.MmOut.main_arg3) = m ((c.tc : Thread Cert.MmOut.nD Cert.MmOut.τ).loc Cert.MmOut.main_arg3)
      ∧ r.2.mem ((c.tc : Thread Cert.MmOut.nD Cert.MmOut.τ).loc Cert.MmOut.main_arg4) = m ((c.tc : Thread Cert.MmOut.nD Cert.MmOut.τ).loc Cert.MmOut.main_arg4))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
      ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2)
      ∧ r.2.mem ((c.tc : Thread Cert.MmOutIdeal.nD Cert.MmOutIdeal.τ).loc Cert.MmOutIdeal.main_arg3) = m ((c.tc : Thread Cert.MmOutIdeal.nD Cert.MmOutIdeal.τ).loc Cert.MmOutIdeal.main_arg3)
      ∧ r.2.mem ((c.tc : Thread Cert.MmOutIdeal.nD Cert.MmOutIdeal.τ).loc Cert.MmOutIdeal.main_arg4) = m ((c.tc : Thread Cert.MmOutIdeal.nD Cert.MmOutIdeal.τ).loc Cert.MmOutIdeal.main_arg4))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1)
      ∧ r.2.mem ((c.tc : Thread Cert.MmOutRefIdeal.nD Cert.MmOutRefIdeal.τ).loc Cert.MmOutRefIdeal.main_arg2) = m ((c.tc : Thread Cert.MmOutRefIdeal.nD Cert.MmOutRefIdeal.τ).loc Cert.MmOutRefIdeal.main_arg2)
      ∧ r.2.mem ((c.tc : Thread Cert.MmOutRefIdeal.nD Cert.MmOutRefIdeal.τ).loc Cert.MmOutRefIdeal.main_arg3) = m ((c.tc : Thread Cert.MmOutRefIdeal.nD Cert.MmOutRefIdeal.τ).loc Cert.MmOutRefIdeal.main_arg3)
      ∧ r.2.mem ((c.tc : Thread Cert.MmOutRefIdeal.nD Cert.MmOutRefIdeal.τ).loc Cert.MmOutRefIdeal.main_arg4) = m ((c.tc : Thread Cert.MmOutRefIdeal.nD Cert.MmOutRefIdeal.τ).loc Cert.MmOutRefIdeal.main_arg4))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1)
      ∧ r.2.mem ((c.tc : Thread Cert.MmDown.nD Cert.MmDown.τ).loc Cert.MmDown.main_arg2) = m ((c.tc : Thread Cert.MmDown.nD Cert.MmDown.τ).loc Cert.MmDown.main_arg2)
      ∧ r.2.mem ((c.tc : Thread Cert.MmDown.nD Cert.MmDown.τ).loc Cert.MmDown.main_arg3) = m ((c.tc : Thread Cert.MmDown.nD Cert.MmDown.τ).loc Cert.MmDown.main_arg3)
      ∧ r.2.mem ((c.tc : Thread Cert.MmDown.nD Cert.MmDown.τ).loc Cert.MmDown.main_arg4) = m ((c.tc : Thread Cert.MmDown.nD Cert.MmDown.τ).loc Cert.MmDown.main_arg4))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
      ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2)
      ∧ r.2.mem ((c.tc : Thread Cert.MmDownIdeal.nD Cert.MmDownIdeal.τ).loc Cert.MmDownIdeal.main_arg3) = m ((c.tc : Thread Cert.MmDownIdeal.nD Cert.MmDownIdeal.τ).loc Cert.MmDownIdeal.main_arg3)
      ∧ r.2.mem ((c.tc : Thread Cert.MmDownIdeal.nD Cert.MmDownIdeal.τ).loc Cert.MmDownIdeal.main_arg4) = m ((c.tc : Thread Cert.MmDownIdeal.nD Cert.MmDownIdeal.τ).loc Cert.MmDownIdeal.main_arg4))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1)
      ∧ r.2.mem ((c.tc : Thread Cert.MmDownRefIdeal.nD Cert.MmDownRefIdeal.τ).loc Cert.MmDownRefIdeal.main_arg2) = m ((c.tc : Thread Cert.MmDownRefIdeal.nD Cert.MmDownRefIdeal.τ).loc Cert.MmDownRefIdeal.main_arg2)
      ∧ r.2.mem ((c.tc : Thread Cert.MmDownRefIdeal.nD Cert.MmDownRefIdeal.τ).loc Cert.MmDownRefIdeal.main_arg3) = m ((c.tc : Thread Cert.MmDownRefIdeal.nD Cert.MmDownRefIdeal.τ).loc Cert.MmDownRefIdeal.main_arg3)
      ∧ r.2.mem ((c.tc : Thread Cert.MmDownRefIdeal.nD Cert.MmDownRefIdeal.τ).loc Cert.MmDownRefIdeal.main_arg4) = m ((c.tc : Thread Cert.MmDownRefIdeal.nD Cert.MmDownRefIdeal.τ).loc Cert.MmDownRefIdeal.main_arg4))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1)
      ∧ r.2.mem ((c.tc : Thread Cert.KvUp.nD Cert.KvUp.τ).loc Cert.KvUp.main_arg2) = m ((c.tc : Thread Cert.KvUp.nD Cert.KvUp.τ).loc Cert.KvUp.main_arg2)
      ∧ r.2.mem ((c.tc : Thread Cert.KvUp.nD Cert.KvUp.τ).loc Cert.KvUp.main_arg3) = m ((c.tc : Thread Cert.KvUp.nD Cert.KvUp.τ).loc Cert.KvUp.main_arg3)
      ∧ r.2.mem ((c.tc : Thread Cert.KvUp.nD Cert.KvUp.τ).loc Cert.KvUp.main_arg4) = m ((c.tc : Thread Cert.KvUp.nD Cert.KvUp.τ).loc Cert.KvUp.main_arg4))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
      ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2)
      ∧ r.2.mem ((c.tc : Thread Cert.KvUpIdeal.nD Cert.KvUpIdeal.τ).loc Cert.KvUpIdeal.main_arg3) = m ((c.tc : Thread Cert.KvUpIdeal.nD Cert.KvUpIdeal.τ).loc Cert.KvUpIdeal.main_arg3)
      ∧ r.2.mem ((c.tc : Thread Cert.KvUpIdeal.nD Cert.KvUpIdeal.τ).loc Cert.KvUpIdeal.main_arg4) = m ((c.tc : Thread Cert.KvUpIdeal.nD Cert.KvUpIdeal.τ).loc Cert.KvUpIdeal.main_arg4))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1)
      ∧ r.2.mem ((c.tc : Thread Cert.KvUpRefIdeal.nD Cert.KvUpRefIdeal.τ).loc Cert.KvUpRefIdeal.main_arg2) = m ((c.tc : Thread Cert.KvUpRefIdeal.nD Cert.KvUpRefIdeal.τ).loc Cert.KvUpRefIdeal.main_arg2)
      ∧ r.2.mem ((c.tc : Thread Cert.KvUpRefIdeal.nD Cert.KvUpRefIdeal.τ).loc Cert.KvUpRefIdeal.main_arg3) = m ((c.tc : Thread Cert.KvUpRefIdeal.nD Cert.KvUpRefIdeal.τ).loc Cert.KvUpRefIdeal.main_arg3)
      ∧ r.2.mem ((c.tc : Thread Cert.KvUpRefIdeal.nD Cert.KvUpRefIdeal.τ).loc Cert.KvUpRefIdeal.main_arg4) = m ((c.tc : Thread Cert.KvUpRefIdeal.nD Cert.KvUpRefIdeal.τ).loc Cert.KvUpRefIdeal.main_arg4))
      ∧ r.2.sem = fun _ => 0)

def quiescent_Ln0 [hLn0 : Cert.Ln0.Facts] : Prop :=
  ∀ (m : (ℓ : Loc Cert.Ln0.nD Cert.Ln0.τ Cert.Ln0.sig) → Buf (Elt Bits) ℓ) (g : Dev Cert.Ln0.nD → PrngReg), Pre_Ln0 m →
    θ_run (Cert.Ln0.defs (F := Bits)) (onTc (τ := Cert.Ln0.τ) (Cert.Ln0.main (F := Bits))) ⟨m, fun _ => 0, g⟩ (fun r => (∀ c : Dev Cert.Ln0.nD,
      r.2.mem ((c.tc : Thread Cert.Ln0.nD Cert.Ln0.τ).loc Cert.Ln0.main_arg0) = m ((c.tc : Thread Cert.Ln0.nD Cert.Ln0.τ).loc Cert.Ln0.main_arg0)
      ∧ r.2.mem ((c.tc : Thread Cert.Ln0.nD Cert.Ln0.τ).loc Cert.Ln0.main_arg1) = m ((c.tc : Thread Cert.Ln0.nD Cert.Ln0.τ).loc Cert.Ln0.main_arg1)
      ∧ r.2.mem ((c.tc : Thread Cert.Ln0.nD Cert.Ln0.τ).loc Cert.Ln0.main_arg2) = m ((c.tc : Thread Cert.Ln0.nD Cert.Ln0.τ).loc Cert.Ln0.main_arg2)
      ∧ r.2.mem ((c.tc : Thread Cert.Ln0.nD Cert.Ln0.τ).loc Cert.Ln0.main_arg3) = m ((c.tc : Thread Cert.Ln0.nD Cert.Ln0.τ).loc Cert.Ln0.main_arg3))
      ∧ r.2.sem = fun _ => 0)

def quiescent_Ln0Ideal [hLn0Ideal : Cert.Ln0Ideal.Facts] : Prop :=
  ∀ (m : (ℓ : Loc Cert.Ln0Ideal.nD Cert.Ln0Ideal.τ Cert.Ln0Ideal.sig) → Buf (Elt Ideal) ℓ) (g : Dev Cert.Ln0Ideal.nD → PrngReg), Pre_Ln0Ideal m →
    θ_run (Cert.Ln0Ideal.defs (F := Ideal)) (onTc (τ := Cert.Ln0Ideal.τ) (Cert.Ln0Ideal.main (F := Ideal))) ⟨m, fun _ => 0, g⟩ (fun r => (∀ c : Dev Cert.Ln0Ideal.nD,
      r.2.mem ((c.tc : Thread Cert.Ln0Ideal.nD Cert.Ln0Ideal.τ).loc Cert.Ln0Ideal.main_arg0) = m ((c.tc : Thread Cert.Ln0Ideal.nD Cert.Ln0Ideal.τ).loc Cert.Ln0Ideal.main_arg0)
      ∧ r.2.mem ((c.tc : Thread Cert.Ln0Ideal.nD Cert.Ln0Ideal.τ).loc Cert.Ln0Ideal.main_arg1) = m ((c.tc : Thread Cert.Ln0Ideal.nD Cert.Ln0Ideal.τ).loc Cert.Ln0Ideal.main_arg1)
      ∧ r.2.mem ((c.tc : Thread Cert.Ln0Ideal.nD Cert.Ln0Ideal.τ).loc Cert.Ln0Ideal.main_arg2) = m ((c.tc : Thread Cert.Ln0Ideal.nD Cert.Ln0Ideal.τ).loc Cert.Ln0Ideal.main_arg2)
      ∧ r.2.mem ((c.tc : Thread Cert.Ln0Ideal.nD Cert.Ln0Ideal.τ).loc Cert.Ln0Ideal.main_arg3) = m ((c.tc : Thread Cert.Ln0Ideal.nD Cert.Ln0Ideal.τ).loc Cert.Ln0Ideal.main_arg3))
      ∧ r.2.sem = fun _ => 0)

def quiescent_Ln0RefIdeal [hLn0RefIdeal : Cert.Ln0RefIdeal.Facts] : Prop :=
  ∀ (m : (ℓ : Loc Cert.Ln0RefIdeal.nD Cert.Ln0RefIdeal.τ Cert.Ln0RefIdeal.sig) → Buf (Elt Ideal) ℓ) (g : Dev Cert.Ln0RefIdeal.nD → PrngReg), Pre_Ln0RefIdeal m →
    θ_run (Cert.Ln0RefIdeal.defs (F := Ideal)) (onTc (τ := Cert.Ln0RefIdeal.τ) (Cert.Ln0RefIdeal.main (F := Ideal))) ⟨m, fun _ => 0, g⟩ (fun r => (∀ c : Dev Cert.Ln0RefIdeal.nD,
      r.2.mem ((c.tc : Thread Cert.Ln0RefIdeal.nD Cert.Ln0RefIdeal.τ).loc Cert.Ln0RefIdeal.main_arg0) = m ((c.tc : Thread Cert.Ln0RefIdeal.nD Cert.Ln0RefIdeal.τ).loc Cert.Ln0RefIdeal.main_arg0)
      ∧ r.2.mem ((c.tc : Thread Cert.Ln0RefIdeal.nD Cert.Ln0RefIdeal.τ).loc Cert.Ln0RefIdeal.main_arg1) = m ((c.tc : Thread Cert.Ln0RefIdeal.nD Cert.Ln0RefIdeal.τ).loc Cert.Ln0RefIdeal.main_arg1)
      ∧ r.2.mem ((c.tc : Thread Cert.Ln0RefIdeal.nD Cert.Ln0RefIdeal.τ).loc Cert.Ln0RefIdeal.main_arg2) = m ((c.tc : Thread Cert.Ln0RefIdeal.nD Cert.Ln0RefIdeal.τ).loc Cert.Ln0RefIdeal.main_arg2)
      ∧ r.2.mem ((c.tc : Thread Cert.Ln0RefIdeal.nD Cert.Ln0RefIdeal.τ).loc Cert.Ln0RefIdeal.main_arg3) = m ((c.tc : Thread Cert.Ln0RefIdeal.nD Cert.Ln0RefIdeal.τ).loc Cert.Ln0RefIdeal.main_arg3))
      ∧ r.2.sem = fun _ => 0)

def quiescent_SsmMeta [hSsmMeta : Cert.SsmMeta.Facts] : Prop :=
  ∀ (m : (ℓ : Loc Cert.SsmMeta.nD Cert.SsmMeta.τ Cert.SsmMeta.sig) → Buf (Elt Bits) ℓ) (g : Dev Cert.SsmMeta.nD → PrngReg), Pre_SsmMeta m →
    θ_run (Cert.SsmMeta.defs (F := Bits)) (onTc (τ := Cert.SsmMeta.τ) (Cert.SsmMeta.main (F := Bits))) ⟨m, fun _ => 0, g⟩ (fun r => (∀ c : Dev Cert.SsmMeta.nD,
      r.2.mem ((c.tc : Thread Cert.SsmMeta.nD Cert.SsmMeta.τ).loc Cert.SsmMeta.main_arg0) = m ((c.tc : Thread Cert.SsmMeta.nD Cert.SsmMeta.τ).loc Cert.SsmMeta.main_arg0)
      ∧ r.2.mem ((c.tc : Thread Cert.SsmMeta.nD Cert.SsmMeta.τ).loc Cert.SsmMeta.main_arg1) = m ((c.tc : Thread Cert.SsmMeta.nD Cert.SsmMeta.τ).loc Cert.SsmMeta.main_arg1)
      ∧ r.2.mem ((c.tc : Thread Cert.SsmMeta.nD Cert.SsmMeta.τ).loc Cert.SsmMeta.main_arg2) = m ((c.tc : Thread Cert.SsmMeta.nD Cert.SsmMeta.τ).loc Cert.SsmMeta.main_arg2))
      ∧ r.2.sem = fun _ => 0)

def quiescent_SsmMetaIdeal [hSsmMetaIdeal : Cert.SsmMetaIdeal.Facts] : Prop :=
  ∀ (m : (ℓ : Loc Cert.SsmMetaIdeal.nD Cert.SsmMetaIdeal.τ Cert.SsmMetaIdeal.sig) → Buf (Elt Ideal) ℓ) (g : Dev Cert.SsmMetaIdeal.nD → PrngReg), Pre_SsmMetaIdeal m →
    θ_run (Cert.SsmMetaIdeal.defs (F := Ideal)) (onTc (τ := Cert.SsmMetaIdeal.τ) (Cert.SsmMetaIdeal.main (F := Ideal))) ⟨m, fun _ => 0, g⟩ (fun r => (∀ c : Dev Cert.SsmMetaIdeal.nD,
      r.2.mem ((c.tc : Thread Cert.SsmMetaIdeal.nD Cert.SsmMetaIdeal.τ).loc Cert.SsmMetaIdeal.main_arg0) = m ((c.tc : Thread Cert.SsmMetaIdeal.nD Cert.SsmMetaIdeal.τ).loc Cert.SsmMetaIdeal.main_arg0)
      ∧ r.2.mem ((c.tc : Thread Cert.SsmMetaIdeal.nD Cert.SsmMetaIdeal.τ).loc Cert.SsmMetaIdeal.main_arg1) = m ((c.tc : Thread Cert.SsmMetaIdeal.nD Cert.SsmMetaIdeal.τ).loc Cert.SsmMetaIdeal.main_arg1)
      ∧ r.2.mem ((c.tc : Thread Cert.SsmMetaIdeal.nD Cert.SsmMetaIdeal.τ).loc Cert.SsmMetaIdeal.main_arg2) = m ((c.tc : Thread Cert.SsmMetaIdeal.nD Cert.SsmMetaIdeal.τ).loc Cert.SsmMetaIdeal.main_arg2))
      ∧ r.2.sem = fun _ => 0)

def quiescent_SsmMetaRefIdeal [hSsmMetaRefIdeal : Cert.SsmMetaRefIdeal.Facts] : Prop :=
  ∀ (m : (ℓ : Loc Cert.SsmMetaRefIdeal.nD Cert.SsmMetaRefIdeal.τ Cert.SsmMetaRefIdeal.sig) → Buf (Elt Ideal) ℓ) (g : Dev Cert.SsmMetaRefIdeal.nD → PrngReg), Pre_SsmMetaRefIdeal m →
    θ_run (Cert.SsmMetaRefIdeal.defs (F := Ideal)) (onTc (τ := Cert.SsmMetaRefIdeal.τ) (Cert.SsmMetaRefIdeal.main (F := Ideal))) ⟨m, fun _ => 0, g⟩ (fun r => (∀ c : Dev Cert.SsmMetaRefIdeal.nD,
      r.2.mem ((c.tc : Thread Cert.SsmMetaRefIdeal.nD Cert.SsmMetaRefIdeal.τ).loc Cert.SsmMetaRefIdeal.main_arg0) = m ((c.tc : Thread Cert.SsmMetaRefIdeal.nD Cert.SsmMetaRefIdeal.τ).loc Cert.SsmMetaRefIdeal.main_arg0)
      ∧ r.2.mem ((c.tc : Thread Cert.SsmMetaRefIdeal.nD Cert.SsmMetaRefIdeal.τ).loc Cert.SsmMetaRefIdeal.main_arg1) = m ((c.tc : Thread Cert.SsmMetaRefIdeal.nD Cert.SsmMetaRefIdeal.τ).loc Cert.SsmMetaRefIdeal.main_arg1)
      ∧ r.2.mem ((c.tc : Thread Cert.SsmMetaRefIdeal.nD Cert.SsmMetaRefIdeal.τ).loc Cert.SsmMetaRefIdeal.main_arg2) = m ((c.tc : Thread Cert.SsmMetaRefIdeal.nD Cert.SsmMetaRefIdeal.τ).loc Cert.SsmMetaRefIdeal.main_arg2))
      ∧ r.2.sem = fun _ => 0)

def quiescent_AttnMeta [hAttnMeta : Cert.AttnMeta.Facts] : Prop :=
  ∀ (m : (ℓ : Loc Cert.AttnMeta.nD Cert.AttnMeta.τ Cert.AttnMeta.sig) → Buf (Elt Bits) ℓ) (g : Dev Cert.AttnMeta.nD → PrngReg), Pre_AttnMeta m →
    θ_run (Cert.AttnMeta.defs (F := Bits)) (onTc (τ := Cert.AttnMeta.τ) (Cert.AttnMeta.main (F := Bits))) ⟨m, fun _ => 0, g⟩ (fun r => (∀ c : Dev Cert.AttnMeta.nD,
      r.2.mem ((c.tc : Thread Cert.AttnMeta.nD Cert.AttnMeta.τ).loc Cert.AttnMeta.main_arg0) = m ((c.tc : Thread Cert.AttnMeta.nD Cert.AttnMeta.τ).loc Cert.AttnMeta.main_arg0)
      ∧ r.2.mem ((c.tc : Thread Cert.AttnMeta.nD Cert.AttnMeta.τ).loc Cert.AttnMeta.main_arg1) = m ((c.tc : Thread Cert.AttnMeta.nD Cert.AttnMeta.τ).loc Cert.AttnMeta.main_arg1)
      ∧ r.2.mem ((c.tc : Thread Cert.AttnMeta.nD Cert.AttnMeta.τ).loc Cert.AttnMeta.main_arg2) = m ((c.tc : Thread Cert.AttnMeta.nD Cert.AttnMeta.τ).loc Cert.AttnMeta.main_arg2))
      ∧ r.2.sem = fun _ => 0)

def quiescent_AttnMetaIdeal [hAttnMetaIdeal : Cert.AttnMetaIdeal.Facts] : Prop :=
  ∀ (m : (ℓ : Loc Cert.AttnMetaIdeal.nD Cert.AttnMetaIdeal.τ Cert.AttnMetaIdeal.sig) → Buf (Elt Ideal) ℓ) (g : Dev Cert.AttnMetaIdeal.nD → PrngReg), Pre_AttnMetaIdeal m →
    θ_run (Cert.AttnMetaIdeal.defs (F := Ideal)) (onTc (τ := Cert.AttnMetaIdeal.τ) (Cert.AttnMetaIdeal.main (F := Ideal))) ⟨m, fun _ => 0, g⟩ (fun r => (∀ c : Dev Cert.AttnMetaIdeal.nD,
      r.2.mem ((c.tc : Thread Cert.AttnMetaIdeal.nD Cert.AttnMetaIdeal.τ).loc Cert.AttnMetaIdeal.main_arg0) = m ((c.tc : Thread Cert.AttnMetaIdeal.nD Cert.AttnMetaIdeal.τ).loc Cert.AttnMetaIdeal.main_arg0)
      ∧ r.2.mem ((c.tc : Thread Cert.AttnMetaIdeal.nD Cert.AttnMetaIdeal.τ).loc Cert.AttnMetaIdeal.main_arg1) = m ((c.tc : Thread Cert.AttnMetaIdeal.nD Cert.AttnMetaIdeal.τ).loc Cert.AttnMetaIdeal.main_arg1)
      ∧ r.2.mem ((c.tc : Thread Cert.AttnMetaIdeal.nD Cert.AttnMetaIdeal.τ).loc Cert.AttnMetaIdeal.main_arg2) = m ((c.tc : Thread Cert.AttnMetaIdeal.nD Cert.AttnMetaIdeal.τ).loc Cert.AttnMetaIdeal.main_arg2))
      ∧ r.2.sem = fun _ => 0)

def quiescent_AttnMetaIdeal_pre_attn_meta_finite [hAttnMetaIdeal : Cert.AttnMetaIdeal.Facts] [hPre_attn_meta_finite : Cert.Pre_attn_meta_finite.Facts] : Prop :=
  ∀ (m : (ℓ : Loc Cert.AttnMetaIdeal.nD Cert.AttnMetaIdeal.τ Cert.AttnMetaIdeal.sig) → Buf (Elt Ideal) ℓ) (g : Dev Cert.AttnMetaIdeal.nD → PrngReg), Pre_AttnMetaIdeal_attn_meta_finite m →
    θ_run (Cert.AttnMetaIdeal.defs (F := Ideal)) (onTc (τ := Cert.AttnMetaIdeal.τ) (Cert.AttnMetaIdeal.main (F := Ideal))) ⟨m, fun _ => 0, g⟩ (fun r => (∀ c : Dev Cert.AttnMetaIdeal.nD,
      r.2.mem ((c.tc : Thread Cert.AttnMetaIdeal.nD Cert.AttnMetaIdeal.τ).loc Cert.AttnMetaIdeal.main_arg0) = m ((c.tc : Thread Cert.AttnMetaIdeal.nD Cert.AttnMetaIdeal.τ).loc Cert.AttnMetaIdeal.main_arg0)
      ∧ r.2.mem ((c.tc : Thread Cert.AttnMetaIdeal.nD Cert.AttnMetaIdeal.τ).loc Cert.AttnMetaIdeal.main_arg1) = m ((c.tc : Thread Cert.AttnMetaIdeal.nD Cert.AttnMetaIdeal.τ).loc Cert.AttnMetaIdeal.main_arg1)
      ∧ r.2.mem ((c.tc : Thread Cert.AttnMetaIdeal.nD Cert.AttnMetaIdeal.τ).loc Cert.AttnMetaIdeal.main_arg2) = m ((c.tc : Thread Cert.AttnMetaIdeal.nD Cert.AttnMetaIdeal.τ).loc Cert.AttnMetaIdeal.main_arg2))
      ∧ r.2.sem = fun _ => 0)

def quiescent_AttnMetaRefIdeal [hAttnMetaRefIdeal : Cert.AttnMetaRefIdeal.Facts] : Prop :=
  ∀ (m : (ℓ : Loc Cert.AttnMetaRefIdeal.nD Cert.AttnMetaRefIdeal.τ Cert.AttnMetaRefIdeal.sig) → Buf (Elt Ideal) ℓ) (g : Dev Cert.AttnMetaRefIdeal.nD → PrngReg), Pre_AttnMetaRefIdeal m →
    θ_run (Cert.AttnMetaRefIdeal.defs (F := Ideal)) (onTc (τ := Cert.AttnMetaRefIdeal.τ) (Cert.AttnMetaRefIdeal.main (F := Ideal))) ⟨m, fun _ => 0, g⟩ (fun r => (∀ c : Dev Cert.AttnMetaRefIdeal.nD,
      r.2.mem ((c.tc : Thread Cert.AttnMetaRefIdeal.nD Cert.AttnMetaRefIdeal.τ).loc Cert.AttnMetaRefIdeal.main_arg0) = m ((c.tc : Thread Cert.AttnMetaRefIdeal.nD Cert.AttnMetaRefIdeal.τ).loc Cert.AttnMetaRefIdeal.main_arg0)
      ∧ r.2.mem ((c.tc : Thread Cert.AttnMetaRefIdeal.nD Cert.AttnMetaRefIdeal.τ).loc Cert.AttnMetaRefIdeal.main_arg1) = m ((c.tc : Thread Cert.AttnMetaRefIdeal.nD Cert.AttnMetaRefIdeal.τ).loc Cert.AttnMetaRefIdeal.main_arg1)
      ∧ r.2.mem ((c.tc : Thread Cert.AttnMetaRefIdeal.nD Cert.AttnMetaRefIdeal.τ).loc Cert.AttnMetaRefIdeal.main_arg2) = m ((c.tc : Thread Cert.AttnMetaRefIdeal.nD Cert.AttnMetaRefIdeal.τ).loc Cert.AttnMetaRefIdeal.main_arg2))
      ∧ r.2.sem = fun _ => 0)

def quiescent_AttnMetaRefIdeal_pre_attn_meta_finite [hAttnMetaRefIdeal : Cert.AttnMetaRefIdeal.Facts] [hPre_attn_meta_finite : Cert.Pre_attn_meta_finite.Facts] : Prop :=
  ∀ (m : (ℓ : Loc Cert.AttnMetaRefIdeal.nD Cert.AttnMetaRefIdeal.τ Cert.AttnMetaRefIdeal.sig) → Buf (Elt Ideal) ℓ) (g : Dev Cert.AttnMetaRefIdeal.nD → PrngReg), Pre_AttnMetaRefIdeal_attn_meta_finite m →
    θ_run (Cert.AttnMetaRefIdeal.defs (F := Ideal)) (onTc (τ := Cert.AttnMetaRefIdeal.τ) (Cert.AttnMetaRefIdeal.main (F := Ideal))) ⟨m, fun _ => 0, g⟩ (fun r => (∀ c : Dev Cert.AttnMetaRefIdeal.nD,
      r.2.mem ((c.tc : Thread Cert.AttnMetaRefIdeal.nD Cert.AttnMetaRefIdeal.τ).loc Cert.AttnMetaRefIdeal.main_arg0) = m ((c.tc : Thread Cert.AttnMetaRefIdeal.nD Cert.AttnMetaRefIdeal.τ).loc Cert.AttnMetaRefIdeal.main_arg0)
      ∧ r.2.mem ((c.tc : Thread Cert.AttnMetaRefIdeal.nD Cert.AttnMetaRefIdeal.τ).loc Cert.AttnMetaRefIdeal.main_arg1) = m ((c.tc : Thread Cert.AttnMetaRefIdeal.nD Cert.AttnMetaRefIdeal.τ).loc Cert.AttnMetaRefIdeal.main_arg1)
      ∧ r.2.mem ((c.tc : Thread Cert.AttnMetaRefIdeal.nD Cert.AttnMetaRefIdeal.τ).loc Cert.AttnMetaRefIdeal.main_arg2) = m ((c.tc : Thread Cert.AttnMetaRefIdeal.nD Cert.AttnMetaRefIdeal.τ).loc Cert.AttnMetaRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_InGates_InGatesIdeal : Prop :=
  True

def algebraic_InGatesIdeal_InGatesRefIdeal [hInGatesIdeal : Cert.InGatesIdeal.Facts] [hInGatesRefIdeal : Cert.InGatesRefIdeal.Facts] : Prop :=
  ∀ (m : (ℓ : Loc Cert.InGatesIdeal.nD Cert.InGatesIdeal.τ Cert.InGatesIdeal.sig) → Buf (Elt Ideal) ℓ) (g : Dev Cert.InGatesIdeal.nD → PrngReg)
    (m' : (ℓ : Loc Cert.InGatesRefIdeal.nD Cert.InGatesRefIdeal.τ Cert.InGatesRefIdeal.sig) → Buf (Elt Ideal) ℓ) (g' : Dev Cert.InGatesRefIdeal.nD → PrngReg), Pre_InGatesIdeal m →
    (∀ c : Dev Cert.InGatesIdeal.nD,
      m' ((c.tc : Thread Cert.InGatesRefIdeal.nD Cert.InGatesRefIdeal.τ).loc Cert.InGatesRefIdeal.main_arg0) = m ((c.tc : Thread Cert.InGatesIdeal.nD Cert.InGatesIdeal.τ).loc Cert.InGatesIdeal.main_arg0)
      ∧ m' ((c.tc : Thread Cert.InGatesRefIdeal.nD Cert.InGatesRefIdeal.τ).loc Cert.InGatesRefIdeal.main_arg1) = m ((c.tc : Thread Cert.InGatesIdeal.nD Cert.InGatesIdeal.τ).loc Cert.InGatesIdeal.main_arg1)
      ∧ m' ((c.tc : Thread Cert.InGatesRefIdeal.nD Cert.InGatesRefIdeal.τ).loc Cert.InGatesRefIdeal.main_arg2) = m ((c.tc : Thread Cert.InGatesIdeal.nD Cert.InGatesIdeal.τ).loc Cert.InGatesIdeal.main_arg2)) →
    ∃ (v0 : (c : Dev Cert.InGatesIdeal.nD) → Buf (Elt Ideal) ((c.tc : Thread Cert.InGatesIdeal.nD Cert.InGatesIdeal.τ).loc Cert.InGatesIdeal.main_v1)),
      θ_run (Cert.InGatesIdeal.defs (F := Ideal)) (onTc (τ := Cert.InGatesIdeal.τ) (Cert.InGatesIdeal.main (F := Ideal))) ⟨m, fun _ => 0, g⟩ (fun r => ∀ c : Dev Cert.InGatesIdeal.nD,
          r.2.mem ((c.tc : Thread Cert.InGatesIdeal.nD Cert.InGatesIdeal.τ).loc Cert.InGatesIdeal.main_v1) = v0 c
          ∧ r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
          ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1)
          ∧ r.2.mem ((c.tc : Thread Cert.InGatesIdeal.nD Cert.InGatesIdeal.τ).loc Cert.InGatesIdeal.main_arg2) = m ((c.tc : Thread Cert.InGatesIdeal.nD Cert.InGatesIdeal.τ).loc Cert.InGatesIdeal.main_arg2))
      ∧ θ_run (Cert.InGatesRefIdeal.defs (F := Ideal)) (onTc (τ := Cert.InGatesRefIdeal.τ) (Cert.InGatesRefIdeal.main (F := Ideal))) ⟨m', fun _ => 0, g'⟩ (fun r => ∀ c : Dev Cert.InGatesRefIdeal.nD,
          r.2.mem ((c.tc : Thread Cert.InGatesRefIdeal.nD Cert.InGatesRefIdeal.τ).loc Cert.InGatesRefIdeal.main_v12) = v0 c
          ∧ r.2.mem ((c.tc : Thread Cert.InGatesRefIdeal.nD Cert.InGatesRefIdeal.τ).loc Cert.InGatesRefIdeal.main_arg0) = m' ((c.tc : Thread Cert.InGatesRefIdeal.nD Cert.InGatesRefIdeal.τ).loc Cert.InGatesRefIdeal.main_arg0)
          ∧ r.2.mem ((c.tc : Thread Cert.InGatesRefIdeal.nD Cert.InGatesRefIdeal.τ).loc Cert.InGatesRefIdeal.main_arg1) = m' ((c.tc : Thread Cert.InGatesRefIdeal.nD Cert.InGatesRefIdeal.τ).loc Cert.InGatesRefIdeal.main_arg1)
          ∧ r.2.mem ((c.tc : Thread Cert.InGatesRefIdeal.nD Cert.InGatesRefIdeal.τ).loc Cert.InGatesRefIdeal.main_arg2) = m' ((c.tc : Thread Cert.InGatesRefIdeal.nD Cert.InGatesRefIdeal.τ).loc Cert.InGatesRefIdeal.main_arg2))

def preserves_InConv_InConvIdeal : Prop :=
  True

def algebraic_InConvIdeal_InConvRefIdeal [hInConvIdeal : Cert.InConvIdeal.Facts] [hInConvRefIdeal : Cert.InConvRefIdeal.Facts] : Prop :=
  ∀ (m : (ℓ : Loc Cert.InConvIdeal.nD Cert.InConvIdeal.τ Cert.InConvIdeal.sig) → Buf (Elt Ideal) ℓ) (g : Dev Cert.InConvIdeal.nD → PrngReg)
    (m' : (ℓ : Loc Cert.InConvRefIdeal.nD Cert.InConvRefIdeal.τ Cert.InConvRefIdeal.sig) → Buf (Elt Ideal) ℓ) (g' : Dev Cert.InConvRefIdeal.nD → PrngReg), Pre_InConvIdeal m →
    (∀ c : Dev Cert.InConvIdeal.nD,
      m' ((c.tc : Thread Cert.InConvRefIdeal.nD Cert.InConvRefIdeal.τ).loc Cert.InConvRefIdeal.main_arg0) = m ((c.tc : Thread Cert.InConvIdeal.nD Cert.InConvIdeal.τ).loc Cert.InConvIdeal.main_arg0)
      ∧ m' ((c.tc : Thread Cert.InConvRefIdeal.nD Cert.InConvRefIdeal.τ).loc Cert.InConvRefIdeal.main_arg1) = m ((c.tc : Thread Cert.InConvIdeal.nD Cert.InConvIdeal.τ).loc Cert.InConvIdeal.main_arg1)) →
    ∃ (v0 : (c : Dev Cert.InConvIdeal.nD) → Buf (Elt Ideal) ((c.tc : Thread Cert.InConvIdeal.nD Cert.InConvIdeal.τ).loc Cert.InConvIdeal.main_v0)),
      θ_run (Cert.InConvIdeal.defs (F := Ideal)) (onTc (τ := Cert.InConvIdeal.τ) (Cert.InConvIdeal.main (F := Ideal))) ⟨m, fun _ => 0, g⟩ (fun r => ∀ c : Dev Cert.InConvIdeal.nD,
          r.2.mem ((c.tc : Thread Cert.InConvIdeal.nD Cert.InConvIdeal.τ).loc Cert.InConvIdeal.main_v0) = v0 c
          ∧ r.2.mem ((c.tc : Thread Cert.InConvIdeal.nD Cert.InConvIdeal.τ).loc Cert.InConvIdeal.main_arg0) = m ((c.tc : Thread Cert.InConvIdeal.nD Cert.InConvIdeal.τ).loc Cert.InConvIdeal.main_arg0)
          ∧ r.2.mem ((c.tc : Thread Cert.InConvIdeal.nD Cert.InConvIdeal.τ).loc Cert.InConvIdeal.main_arg1) = m ((c.tc : Thread Cert.InConvIdeal.nD Cert.InConvIdeal.τ).loc Cert.InConvIdeal.main_arg1))
      ∧ θ_run (Cert.InConvRefIdeal.defs (F := Ideal)) (onTc (τ := Cert.InConvRefIdeal.τ) (Cert.InConvRefIdeal.main (F := Ideal))) ⟨m', fun _ => 0, g'⟩ (fun r => ∀ c : Dev Cert.InConvRefIdeal.nD,
          r.2.mem ((c.tc : Thread Cert.InConvRefIdeal.nD Cert.InConvRefIdeal.τ).loc Cert.InConvRefIdeal.main_v3) = v0 c
          ∧ r.2.mem ((c.tc : Thread Cert.InConvRefIdeal.nD Cert.InConvRefIdeal.τ).loc Cert.InConvRefIdeal.main_arg0) = m' ((c.tc : Thread Cert.InConvRefIdeal.nD Cert.InConvRefIdeal.τ).loc Cert.InConvRefIdeal.main_arg0)
          ∧ r.2.mem ((c.tc : Thread Cert.InConvRefIdeal.nD Cert.InConvRefIdeal.τ).loc Cert.InConvRefIdeal.main_arg1) = m' ((c.tc : Thread Cert.InConvRefIdeal.nD Cert.InConvRefIdeal.τ).loc Cert.InConvRefIdeal.main_arg1))

def preserves_InU_InUIdeal : Prop :=
  True

def algebraic_InUIdeal_InURefIdeal [hInUIdeal : Cert.InUIdeal.Facts] [hInURefIdeal : Cert.InURefIdeal.Facts] : Prop :=
  ∀ (m : (ℓ : Loc Cert.InUIdeal.nD Cert.InUIdeal.τ Cert.InUIdeal.sig) → Buf (Elt Ideal) ℓ) (g : Dev Cert.InUIdeal.nD → PrngReg)
    (m' : (ℓ : Loc Cert.InURefIdeal.nD Cert.InURefIdeal.τ Cert.InURefIdeal.sig) → Buf (Elt Ideal) ℓ) (g' : Dev Cert.InURefIdeal.nD → PrngReg), Pre_InUIdeal m →
    (∀ c : Dev Cert.InUIdeal.nD,
      m' ((c.tc : Thread Cert.InURefIdeal.nD Cert.InURefIdeal.τ).loc Cert.InURefIdeal.main_arg0) = m ((c.tc : Thread Cert.InUIdeal.nD Cert.InUIdeal.τ).loc Cert.InUIdeal.main_arg0)
      ∧ m' ((c.tc : Thread Cert.InURefIdeal.nD Cert.InURefIdeal.τ).loc Cert.InURefIdeal.main_arg1) = m ((c.tc : Thread Cert.InUIdeal.nD Cert.InUIdeal.τ).loc Cert.InUIdeal.main_arg1)) →
    ∃ (v0 : (c : Dev Cert.InUIdeal.nD) → Buf (Elt Ideal) ((c.tc : Thread Cert.InUIdeal.nD Cert.InUIdeal.τ).loc Cert.InUIdeal.main_v0)),
      θ_run (Cert.InUIdeal.defs (F := Ideal)) (onTc (τ := Cert.InUIdeal.τ) (Cert.InUIdeal.main (F := Ideal))) ⟨m, fun _ => 0, g⟩ (fun r => ∀ c : Dev Cert.InUIdeal.nD,
          r.2.mem ((c.tc : Thread Cert.InUIdeal.nD Cert.InUIdeal.τ).loc Cert.InUIdeal.main_v0) = v0 c
          ∧ r.2.mem ((c.tc : Thread Cert.InUIdeal.nD Cert.InUIdeal.τ).loc Cert.InUIdeal.main_arg0) = m ((c.tc : Thread Cert.InUIdeal.nD Cert.InUIdeal.τ).loc Cert.InUIdeal.main_arg0)
          ∧ r.2.mem ((c.tc : Thread Cert.InUIdeal.nD Cert.InUIdeal.τ).loc Cert.InUIdeal.main_arg1) = m ((c.tc : Thread Cert.InUIdeal.nD Cert.InUIdeal.τ).loc Cert.InUIdeal.main_arg1))
      ∧ θ_run (Cert.InURefIdeal.defs (F := Ideal)) (onTc (τ := Cert.InURefIdeal.τ) (Cert.InURefIdeal.main (F := Ideal))) ⟨m', fun _ => 0, g'⟩ (fun r => ∀ c : Dev Cert.InURefIdeal.nD,
          r.2.mem ((c.tc : Thread Cert.InURefIdeal.nD Cert.InURefIdeal.τ).loc Cert.InURefIdeal.main_v2) = v0 c
          ∧ r.2.mem ((c.tc : Thread Cert.InURefIdeal.nD Cert.InURefIdeal.τ).loc Cert.InURefIdeal.main_arg0) = m' ((c.tc : Thread Cert.InURefIdeal.nD Cert.InURefIdeal.τ).loc Cert.InURefIdeal.main_arg0)
          ∧ r.2.mem ((c.tc : Thread Cert.InURefIdeal.nD Cert.InURefIdeal.τ).loc Cert.InURefIdeal.main_arg1) = m' ((c.tc : Thread Cert.InURefIdeal.nD Cert.InURefIdeal.τ).loc Cert.InURefIdeal.main_arg1))

def preserves_InCkv_InCkvIdeal : Prop :=
  True

def algebraic_InCkvIdeal_InCkvRefIdeal [hInCkvIdeal : Cert.InCkvIdeal.Facts] [hInCkvRefIdeal : Cert.InCkvRefIdeal.Facts] : Prop :=
  ∀ (m : (ℓ : Loc Cert.InCkvIdeal.nD Cert.InCkvIdeal.τ Cert.InCkvIdeal.sig) → Buf (Elt Ideal) ℓ) (g : Dev Cert.InCkvIdeal.nD → PrngReg)
    (m' : (ℓ : Loc Cert.InCkvRefIdeal.nD Cert.InCkvRefIdeal.τ Cert.InCkvRefIdeal.sig) → Buf (Elt Ideal) ℓ) (g' : Dev Cert.InCkvRefIdeal.nD → PrngReg), Pre_InCkvIdeal m →
    (∀ c : Dev Cert.InCkvIdeal.nD,
      m' ((c.tc : Thread Cert.InCkvRefIdeal.nD Cert.InCkvRefIdeal.τ).loc Cert.InCkvRefIdeal.main_arg0) = m ((c.tc : Thread Cert.InCkvIdeal.nD Cert.InCkvIdeal.τ).loc Cert.InCkvIdeal.main_arg0)
      ∧ m' ((c.tc : Thread Cert.InCkvRefIdeal.nD Cert.InCkvRefIdeal.τ).loc Cert.InCkvRefIdeal.main_arg1) = m ((c.tc : Thread Cert.InCkvIdeal.nD Cert.InCkvIdeal.τ).loc Cert.InCkvIdeal.main_arg1)) →
    ∃ (v0 : (c : Dev Cert.InCkvIdeal.nD) → Buf (Elt Ideal) ((c.tc : Thread Cert.InCkvIdeal.nD Cert.InCkvIdeal.τ).loc Cert.InCkvIdeal.main_v0)),
      θ_run (Cert.InCkvIdeal.defs (F := Ideal)) (onTc (τ := Cert.InCkvIdeal.τ) (Cert.InCkvIdeal.main (F := Ideal))) ⟨m, fun _ => 0, g⟩ (fun r => ∀ c : Dev Cert.InCkvIdeal.nD,
          r.2.mem ((c.tc : Thread Cert.InCkvIdeal.nD Cert.InCkvIdeal.τ).loc Cert.InCkvIdeal.main_v0) = v0 c
          ∧ r.2.mem ((c.tc : Thread Cert.InCkvIdeal.nD Cert.InCkvIdeal.τ).loc Cert.InCkvIdeal.main_arg0) = m ((c.tc : Thread Cert.InCkvIdeal.nD Cert.InCkvIdeal.τ).loc Cert.InCkvIdeal.main_arg0)
          ∧ r.2.mem ((c.tc : Thread Cert.InCkvIdeal.nD Cert.InCkvIdeal.τ).loc Cert.InCkvIdeal.main_arg1) = m ((c.tc : Thread Cert.InCkvIdeal.nD Cert.InCkvIdeal.τ).loc Cert.InCkvIdeal.main_arg1))
      ∧ θ_run (Cert.InCkvRefIdeal.defs (F := Ideal)) (onTc (τ := Cert.InCkvRefIdeal.τ) (Cert.InCkvRefIdeal.main (F := Ideal))) ⟨m', fun _ => 0, g'⟩ (fun r => ∀ c : Dev Cert.InCkvRefIdeal.nD,
          r.2.mem ((c.tc : Thread Cert.InCkvRefIdeal.nD Cert.InCkvRefIdeal.τ).loc Cert.InCkvRefIdeal.main_v3) = v0 c
          ∧ r.2.mem ((c.tc : Thread Cert.InCkvRefIdeal.nD Cert.InCkvRefIdeal.τ).loc Cert.InCkvRefIdeal.main_arg0) = m' ((c.tc : Thread Cert.InCkvRefIdeal.nD Cert.InCkvRefIdeal.τ).loc Cert.InCkvRefIdeal.main_arg0)
          ∧ r.2.mem ((c.tc : Thread Cert.InCkvRefIdeal.nD Cert.InCkvRefIdeal.τ).loc Cert.InCkvRefIdeal.main_arg1) = m' ((c.tc : Thread Cert.InCkvRefIdeal.nD Cert.InCkvRefIdeal.τ).loc Cert.InCkvRefIdeal.main_arg1))

def preserves_InQ_InQIdeal : Prop :=
  True

def algebraic_InQIdeal_InQRefIdeal [hInQIdeal : Cert.InQIdeal.Facts] [hInQRefIdeal : Cert.InQRefIdeal.Facts] : Prop :=
  ∀ (m : (ℓ : Loc Cert.InQIdeal.nD Cert.InQIdeal.τ Cert.InQIdeal.sig) → Buf (Elt Ideal) ℓ) (g : Dev Cert.InQIdeal.nD → PrngReg)
    (m' : (ℓ : Loc Cert.InQRefIdeal.nD Cert.InQRefIdeal.τ Cert.InQRefIdeal.sig) → Buf (Elt Ideal) ℓ) (g' : Dev Cert.InQRefIdeal.nD → PrngReg), Pre_InQIdeal m →
    (∀ c : Dev Cert.InQIdeal.nD,
      m' ((c.tc : Thread Cert.InQRefIdeal.nD Cert.InQRefIdeal.τ).loc Cert.InQRefIdeal.main_arg0) = m ((c.tc : Thread Cert.InQIdeal.nD Cert.InQIdeal.τ).loc Cert.InQIdeal.main_arg0)
      ∧ m' ((c.tc : Thread Cert.InQRefIdeal.nD Cert.InQRefIdeal.τ).loc Cert.InQRefIdeal.main_arg1) = m ((c.tc : Thread Cert.InQIdeal.nD Cert.InQIdeal.τ).loc Cert.InQIdeal.main_arg1)
      ∧ m' ((c.tc : Thread Cert.InQRefIdeal.nD Cert.InQRefIdeal.τ).loc Cert.InQRefIdeal.main_arg2) = m ((c.tc : Thread Cert.InQIdeal.nD Cert.InQIdeal.τ).loc Cert.InQIdeal.main_arg2)) →
    ∃ (v0 : (c : Dev Cert.InQIdeal.nD) → Buf (Elt Ideal) ((c.tc : Thread Cert.InQIdeal.nD Cert.InQIdeal.τ).loc Cert.InQIdeal.main_v0)),
      θ_run (Cert.InQIdeal.defs (F := Ideal)) (onTc (τ := Cert.InQIdeal.τ) (Cert.InQIdeal.main (F := Ideal))) ⟨m, fun _ => 0, g⟩ (fun r => ∀ c : Dev Cert.InQIdeal.nD,
          r.2.mem ((c.tc : Thread Cert.InQIdeal.nD Cert.InQIdeal.τ).loc Cert.InQIdeal.main_v0) = v0 c
          ∧ r.2.mem ((c.tc : Thread Cert.InQIdeal.nD Cert.InQIdeal.τ).loc Cert.InQIdeal.main_arg0) = m ((c.tc : Thread Cert.InQIdeal.nD Cert.InQIdeal.τ).loc Cert.InQIdeal.main_arg0)
          ∧ r.2.mem ((c.tc : Thread Cert.InQIdeal.nD Cert.InQIdeal.τ).loc Cert.InQIdeal.main_arg1) = m ((c.tc : Thread Cert.InQIdeal.nD Cert.InQIdeal.τ).loc Cert.InQIdeal.main_arg1)
          ∧ r.2.mem ((c.tc : Thread Cert.InQIdeal.nD Cert.InQIdeal.τ).loc Cert.InQIdeal.main_arg2) = m ((c.tc : Thread Cert.InQIdeal.nD Cert.InQIdeal.τ).loc Cert.InQIdeal.main_arg2))
      ∧ θ_run (Cert.InQRefIdeal.defs (F := Ideal)) (onTc (τ := Cert.InQRefIdeal.τ) (Cert.InQRefIdeal.main (F := Ideal))) ⟨m', fun _ => 0, g'⟩ (fun r => ∀ c : Dev Cert.InQRefIdeal.nD,
          r.2.mem ((c.tc : Thread Cert.InQRefIdeal.nD Cert.InQRefIdeal.τ).loc Cert.InQRefIdeal.main_v17) = v0 c
          ∧ r.2.mem ((c.tc : Thread Cert.InQRefIdeal.nD Cert.InQRefIdeal.τ).loc Cert.InQRefIdeal.main_arg0) = m' ((c.tc : Thread Cert.InQRefIdeal.nD Cert.InQRefIdeal.τ).loc Cert.InQRefIdeal.main_arg0)
          ∧ r.2.mem ((c.tc : Thread Cert.InQRefIdeal.nD Cert.InQRefIdeal.τ).loc Cert.InQRefIdeal.main_arg1) = m' ((c.tc : Thread Cert.InQRefIdeal.nD Cert.InQRefIdeal.τ).loc Cert.InQRefIdeal.main_arg1)
          ∧ r.2.mem ((c.tc : Thread Cert.InQRefIdeal.nD Cert.InQRefIdeal.τ).loc Cert.InQRefIdeal.main_arg2) = m' ((c.tc : Thread Cert.InQRefIdeal.nD Cert.InQRefIdeal.τ).loc Cert.InQRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v30) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)
      ∧ m' ((c.tc : Thread Cert.MmOutRefIdeal.nD Cert.MmOutRefIdeal.τ).loc Cert.MmOutRefIdeal.main_arg2) = m ((c.tc : Thread Cert.MmOutIdeal.nD Cert.MmOutIdeal.τ).loc Cert.MmOutIdeal.main_arg2)
      ∧ m' ((c.tc : Thread Cert.MmOutRefIdeal.nD Cert.MmOutRefIdeal.τ).loc Cert.MmOutRefIdeal.main_arg3) = m ((c.tc : Thread Cert.MmOutIdeal.nD Cert.MmOutIdeal.τ).loc Cert.MmOutIdeal.main_arg3)
      ∧ m' ((c.tc : Thread Cert.MmOutRefIdeal.nD Cert.MmOutRefIdeal.τ).loc Cert.MmOutRefIdeal.main_arg4) = m ((c.tc : Thread Cert.MmOutIdeal.nD Cert.MmOutIdeal.τ).loc Cert.MmOutIdeal.main_arg4)) →
    ∃ (v0 : (c : Dev Cert.MmOutIdeal.nD) → Buf (Elt Ideal) ((c.tc : Thread Cert.MmOutIdeal.nD Cert.MmOutIdeal.τ).loc Cert.MmOutIdeal.main_v2_0)) (v1 : (c : Dev Cert.MmOutIdeal.nD) → Buf (Elt Ideal) ((c.tc : Thread Cert.MmOutIdeal.nD Cert.MmOutIdeal.τ).loc Cert.MmOutIdeal.main_v2_1)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v2_0) = v0 c
          ∧ r.2.mem ((c.tc : Thread Cert.MmOutIdeal.nD Cert.MmOutIdeal.τ).loc Cert.MmOutIdeal.main_v2_1) = v1 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
          ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2)
          ∧ r.2.mem ((c.tc : Thread Cert.MmOutIdeal.nD Cert.MmOutIdeal.τ).loc Cert.MmOutIdeal.main_arg3) = m ((c.tc : Thread Cert.MmOutIdeal.nD Cert.MmOutIdeal.τ).loc Cert.MmOutIdeal.main_arg3)
          ∧ r.2.mem ((c.tc : Thread Cert.MmOutIdeal.nD Cert.MmOutIdeal.τ).loc Cert.MmOutIdeal.main_arg4) = m ((c.tc : Thread Cert.MmOutIdeal.nD Cert.MmOutIdeal.τ).loc Cert.MmOutIdeal.main_arg4))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v29) = v0 c
          ∧ r.2.mem ((c.tc : Thread Cert.MmOutRefIdeal.nD Cert.MmOutRefIdeal.τ).loc Cert.MmOutRefIdeal.main_v30) = v1 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1)
          ∧ r.2.mem ((c.tc : Thread Cert.MmOutRefIdeal.nD Cert.MmOutRefIdeal.τ).loc Cert.MmOutRefIdeal.main_arg2) = m' ((c.tc : Thread Cert.MmOutRefIdeal.nD Cert.MmOutRefIdeal.τ).loc Cert.MmOutRefIdeal.main_arg2)
          ∧ r.2.mem ((c.tc : Thread Cert.MmOutRefIdeal.nD Cert.MmOutRefIdeal.τ).loc Cert.MmOutRefIdeal.main_arg3) = m' ((c.tc : Thread Cert.MmOutRefIdeal.nD Cert.MmOutRefIdeal.τ).loc Cert.MmOutRefIdeal.main_arg3)
          ∧ r.2.mem ((c.tc : Thread Cert.MmOutRefIdeal.nD Cert.MmOutRefIdeal.τ).loc Cert.MmOutRefIdeal.main_arg4) = m' ((c.tc : Thread Cert.MmOutRefIdeal.nD Cert.MmOutRefIdeal.τ).loc Cert.MmOutRefIdeal.main_arg4))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)
      ∧ m' ((c.tc : Thread Cert.MmDownRefIdeal.nD Cert.MmDownRefIdeal.τ).loc Cert.MmDownRefIdeal.main_arg2) = m ((c.tc : Thread Cert.MmDownIdeal.nD Cert.MmDownIdeal.τ).loc Cert.MmDownIdeal.main_arg2)
      ∧ m' ((c.tc : Thread Cert.MmDownRefIdeal.nD Cert.MmDownRefIdeal.τ).loc Cert.MmDownRefIdeal.main_arg3) = m ((c.tc : Thread Cert.MmDownIdeal.nD Cert.MmDownIdeal.τ).loc Cert.MmDownIdeal.main_arg3)
      ∧ m' ((c.tc : Thread Cert.MmDownRefIdeal.nD Cert.MmDownRefIdeal.τ).loc Cert.MmDownRefIdeal.main_arg4) = m ((c.tc : Thread Cert.MmDownIdeal.nD Cert.MmDownIdeal.τ).loc Cert.MmDownIdeal.main_arg4)) →
    ∃ (v0 : (c : Dev Cert.MmDownIdeal.nD) → Buf (Elt Ideal) ((c.tc : Thread Cert.MmDownIdeal.nD Cert.MmDownIdeal.τ).loc Cert.MmDownIdeal.main_v2_0)) (v1 : (c : Dev Cert.MmDownIdeal.nD) → Buf (Elt Ideal) ((c.tc : Thread Cert.MmDownIdeal.nD Cert.MmDownIdeal.τ).loc Cert.MmDownIdeal.main_v2_1)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v2_0) = v0 c
          ∧ r.2.mem ((c.tc : Thread Cert.MmDownIdeal.nD Cert.MmDownIdeal.τ).loc Cert.MmDownIdeal.main_v2_1) = v1 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1)
          ∧ r.2.mem ((c.tc : Thread Cert.MmDownIdeal.nD Cert.MmDownIdeal.τ).loc Cert.MmDownIdeal.main_arg2) = m ((c.tc : Thread Cert.MmDownIdeal.nD Cert.MmDownIdeal.τ).loc Cert.MmDownIdeal.main_arg2)
          ∧ r.2.mem ((c.tc : Thread Cert.MmDownIdeal.nD Cert.MmDownIdeal.τ).loc Cert.MmDownIdeal.main_arg3) = m ((c.tc : Thread Cert.MmDownIdeal.nD Cert.MmDownIdeal.τ).loc Cert.MmDownIdeal.main_arg3)
          ∧ r.2.mem ((c.tc : Thread Cert.MmDownIdeal.nD Cert.MmDownIdeal.τ).loc Cert.MmDownIdeal.main_arg4) = m ((c.tc : Thread Cert.MmDownIdeal.nD Cert.MmDownIdeal.τ).loc Cert.MmDownIdeal.main_arg4))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v29) = v0 c
          ∧ r.2.mem ((c.tc : Thread Cert.MmDownRefIdeal.nD Cert.MmDownRefIdeal.τ).loc Cert.MmDownRefIdeal.main_v30) = v1 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1)
          ∧ r.2.mem ((c.tc : Thread Cert.MmDownRefIdeal.nD Cert.MmDownRefIdeal.τ).loc Cert.MmDownRefIdeal.main_arg2) = m' ((c.tc : Thread Cert.MmDownRefIdeal.nD Cert.MmDownRefIdeal.τ).loc Cert.MmDownRefIdeal.main_arg2)
          ∧ r.2.mem ((c.tc : Thread Cert.MmDownRefIdeal.nD Cert.MmDownRefIdeal.τ).loc Cert.MmDownRefIdeal.main_arg3) = m' ((c.tc : Thread Cert.MmDownRefIdeal.nD Cert.MmDownRefIdeal.τ).loc Cert.MmDownRefIdeal.main_arg3)
          ∧ r.2.mem ((c.tc : Thread Cert.MmDownRefIdeal.nD Cert.MmDownRefIdeal.τ).loc Cert.MmDownRefIdeal.main_arg4) = m' ((c.tc : Thread Cert.MmDownRefIdeal.nD Cert.MmDownRefIdeal.τ).loc Cert.MmDownRefIdeal.main_arg4))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)
      ∧ m' ((c.tc : Thread Cert.KvUpRefIdeal.nD Cert.KvUpRefIdeal.τ).loc Cert.KvUpRefIdeal.main_arg2) = m ((c.tc : Thread Cert.KvUpIdeal.nD Cert.KvUpIdeal.τ).loc Cert.KvUpIdeal.main_arg2)
      ∧ m' ((c.tc : Thread Cert.KvUpRefIdeal.nD Cert.KvUpRefIdeal.τ).loc Cert.KvUpRefIdeal.main_arg3) = m ((c.tc : Thread Cert.KvUpIdeal.nD Cert.KvUpIdeal.τ).loc Cert.KvUpIdeal.main_arg3)
      ∧ m' ((c.tc : Thread Cert.KvUpRefIdeal.nD Cert.KvUpRefIdeal.τ).loc Cert.KvUpRefIdeal.main_arg4) = m ((c.tc : Thread Cert.KvUpIdeal.nD Cert.KvUpIdeal.τ).loc Cert.KvUpIdeal.main_arg4)) →
    ∃ (v0 : (c : Dev Cert.KvUpIdeal.nD) → Buf (Elt Ideal) ((c.tc : Thread Cert.KvUpIdeal.nD Cert.KvUpIdeal.τ).loc Cert.KvUpIdeal.main_v1_0)) (v1 : (c : Dev Cert.KvUpIdeal.nD) → Buf (Elt Ideal) ((c.tc : Thread Cert.KvUpIdeal.nD Cert.KvUpIdeal.τ).loc Cert.KvUpIdeal.main_v1_1)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v1_0) = v0 c
          ∧ r.2.mem ((c.tc : Thread Cert.KvUpIdeal.nD Cert.KvUpIdeal.τ).loc Cert.KvUpIdeal.main_v1_1) = v1 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
          ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2)
          ∧ r.2.mem ((c.tc : Thread Cert.KvUpIdeal.nD Cert.KvUpIdeal.τ).loc Cert.KvUpIdeal.main_arg3) = m ((c.tc : Thread Cert.KvUpIdeal.nD Cert.KvUpIdeal.τ).loc Cert.KvUpIdeal.main_arg3)
          ∧ r.2.mem ((c.tc : Thread Cert.KvUpIdeal.nD Cert.KvUpIdeal.τ).loc Cert.KvUpIdeal.main_arg4) = m ((c.tc : Thread Cert.KvUpIdeal.nD Cert.KvUpIdeal.τ).loc Cert.KvUpIdeal.main_arg4))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v36) = v0 c
          ∧ r.2.mem ((c.tc : Thread Cert.KvUpRefIdeal.nD Cert.KvUpRefIdeal.τ).loc Cert.KvUpRefIdeal.main_v38) = v1 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1)
          ∧ r.2.mem ((c.tc : Thread Cert.KvUpRefIdeal.nD Cert.KvUpRefIdeal.τ).loc Cert.KvUpRefIdeal.main_arg2) = m' ((c.tc : Thread Cert.KvUpRefIdeal.nD Cert.KvUpRefIdeal.τ).loc Cert.KvUpRefIdeal.main_arg2)
          ∧ r.2.mem ((c.tc : Thread Cert.KvUpRefIdeal.nD Cert.KvUpRefIdeal.τ).loc Cert.KvUpRefIdeal.main_arg3) = m' ((c.tc : Thread Cert.KvUpRefIdeal.nD Cert.KvUpRefIdeal.τ).loc Cert.KvUpRefIdeal.main_arg3)
          ∧ r.2.mem ((c.tc : Thread Cert.KvUpRefIdeal.nD Cert.KvUpRefIdeal.τ).loc Cert.KvUpRefIdeal.main_arg4) = m' ((c.tc : Thread Cert.KvUpRefIdeal.nD Cert.KvUpRefIdeal.τ).loc Cert.KvUpRefIdeal.main_arg4))

def preserves_Ln0_Ln0Ideal : Prop :=
  True

def algebraic_Ln0Ideal_Ln0RefIdeal [hLn0Ideal : Cert.Ln0Ideal.Facts] [hLn0RefIdeal : Cert.Ln0RefIdeal.Facts] : Prop :=
  ∀ (m : (ℓ : Loc Cert.Ln0Ideal.nD Cert.Ln0Ideal.τ Cert.Ln0Ideal.sig) → Buf (Elt Ideal) ℓ) (g : Dev Cert.Ln0Ideal.nD → PrngReg)
    (m' : (ℓ : Loc Cert.Ln0RefIdeal.nD Cert.Ln0RefIdeal.τ Cert.Ln0RefIdeal.sig) → Buf (Elt Ideal) ℓ) (g' : Dev Cert.Ln0RefIdeal.nD → PrngReg), Pre_Ln0Ideal m →
    (∀ c : Dev Cert.Ln0Ideal.nD,
      m' ((c.tc : Thread Cert.Ln0RefIdeal.nD Cert.Ln0RefIdeal.τ).loc Cert.Ln0RefIdeal.main_arg0) = m ((c.tc : Thread Cert.Ln0Ideal.nD Cert.Ln0Ideal.τ).loc Cert.Ln0Ideal.main_arg0)
      ∧ m' ((c.tc : Thread Cert.Ln0RefIdeal.nD Cert.Ln0RefIdeal.τ).loc Cert.Ln0RefIdeal.main_arg1) = m ((c.tc : Thread Cert.Ln0Ideal.nD Cert.Ln0Ideal.τ).loc Cert.Ln0Ideal.main_arg1)
      ∧ m' ((c.tc : Thread Cert.Ln0RefIdeal.nD Cert.Ln0RefIdeal.τ).loc Cert.Ln0RefIdeal.main_arg2) = m ((c.tc : Thread Cert.Ln0Ideal.nD Cert.Ln0Ideal.τ).loc Cert.Ln0Ideal.main_arg2)
      ∧ m' ((c.tc : Thread Cert.Ln0RefIdeal.nD Cert.Ln0RefIdeal.τ).loc Cert.Ln0RefIdeal.main_arg3) = m ((c.tc : Thread Cert.Ln0Ideal.nD Cert.Ln0Ideal.τ).loc Cert.Ln0Ideal.main_arg3)) →
    ∃ (v0 : (c : Dev Cert.Ln0Ideal.nD) → Buf (Elt Ideal) ((c.tc : Thread Cert.Ln0Ideal.nD Cert.Ln0Ideal.τ).loc Cert.Ln0Ideal.main_v2_0)) (v1 : (c : Dev Cert.Ln0Ideal.nD) → Buf (Elt Ideal) ((c.tc : Thread Cert.Ln0Ideal.nD Cert.Ln0Ideal.τ).loc Cert.Ln0Ideal.main_v2_1)),
      θ_run (Cert.Ln0Ideal.defs (F := Ideal)) (onTc (τ := Cert.Ln0Ideal.τ) (Cert.Ln0Ideal.main (F := Ideal))) ⟨m, fun _ => 0, g⟩ (fun r => ∀ c : Dev Cert.Ln0Ideal.nD,
          r.2.mem ((c.tc : Thread Cert.Ln0Ideal.nD Cert.Ln0Ideal.τ).loc Cert.Ln0Ideal.main_v2_0) = v0 c
          ∧ r.2.mem ((c.tc : Thread Cert.Ln0Ideal.nD Cert.Ln0Ideal.τ).loc Cert.Ln0Ideal.main_v2_1) = v1 c
          ∧ r.2.mem ((c.tc : Thread Cert.Ln0Ideal.nD Cert.Ln0Ideal.τ).loc Cert.Ln0Ideal.main_arg0) = m ((c.tc : Thread Cert.Ln0Ideal.nD Cert.Ln0Ideal.τ).loc Cert.Ln0Ideal.main_arg0)
          ∧ r.2.mem ((c.tc : Thread Cert.Ln0Ideal.nD Cert.Ln0Ideal.τ).loc Cert.Ln0Ideal.main_arg1) = m ((c.tc : Thread Cert.Ln0Ideal.nD Cert.Ln0Ideal.τ).loc Cert.Ln0Ideal.main_arg1)
          ∧ r.2.mem ((c.tc : Thread Cert.Ln0Ideal.nD Cert.Ln0Ideal.τ).loc Cert.Ln0Ideal.main_arg2) = m ((c.tc : Thread Cert.Ln0Ideal.nD Cert.Ln0Ideal.τ).loc Cert.Ln0Ideal.main_arg2)
          ∧ r.2.mem ((c.tc : Thread Cert.Ln0Ideal.nD Cert.Ln0Ideal.τ).loc Cert.Ln0Ideal.main_arg3) = m ((c.tc : Thread Cert.Ln0Ideal.nD Cert.Ln0Ideal.τ).loc Cert.Ln0Ideal.main_arg3))
      ∧ θ_run (Cert.Ln0RefIdeal.defs (F := Ideal)) (onTc (τ := Cert.Ln0RefIdeal.τ) (Cert.Ln0RefIdeal.main (F := Ideal))) ⟨m', fun _ => 0, g'⟩ (fun r => ∀ c : Dev Cert.Ln0RefIdeal.nD,
          r.2.mem ((c.tc : Thread Cert.Ln0RefIdeal.nD Cert.Ln0RefIdeal.τ).loc Cert.Ln0RefIdeal.main_v24) = v0 c
          ∧ r.2.mem ((c.tc : Thread Cert.Ln0RefIdeal.nD Cert.Ln0RefIdeal.τ).loc Cert.Ln0RefIdeal.main_v25) = v1 c
          ∧ r.2.mem ((c.tc : Thread Cert.Ln0RefIdeal.nD Cert.Ln0RefIdeal.τ).loc Cert.Ln0RefIdeal.main_arg0) = m' ((c.tc : Thread Cert.Ln0RefIdeal.nD Cert.Ln0RefIdeal.τ).loc Cert.Ln0RefIdeal.main_arg0)
          ∧ r.2.mem ((c.tc : Thread Cert.Ln0RefIdeal.nD Cert.Ln0RefIdeal.τ).loc Cert.Ln0RefIdeal.main_arg1) = m' ((c.tc : Thread Cert.Ln0RefIdeal.nD Cert.Ln0RefIdeal.τ).loc Cert.Ln0RefIdeal.main_arg1)
          ∧ r.2.mem ((c.tc : Thread Cert.Ln0RefIdeal.nD Cert.Ln0RefIdeal.τ).loc Cert.Ln0RefIdeal.main_arg2) = m' ((c.tc : Thread Cert.Ln0RefIdeal.nD Cert.Ln0RefIdeal.τ).loc Cert.Ln0RefIdeal.main_arg2)
          ∧ r.2.mem ((c.tc : Thread Cert.Ln0RefIdeal.nD Cert.Ln0RefIdeal.τ).loc Cert.Ln0RefIdeal.main_arg3) = m' ((c.tc : Thread Cert.Ln0RefIdeal.nD Cert.Ln0RefIdeal.τ).loc Cert.Ln0RefIdeal.main_arg3))

def preserves_SsmMeta_SsmMetaIdeal : Prop :=
  True

def algebraic_SsmMetaIdeal_SsmMetaRefIdeal [hSsmMetaIdeal : Cert.SsmMetaIdeal.Facts] [hSsmMetaRefIdeal : Cert.SsmMetaRefIdeal.Facts] : Prop :=
  ∀ (m : (ℓ : Loc Cert.SsmMetaIdeal.nD Cert.SsmMetaIdeal.τ Cert.SsmMetaIdeal.sig) → Buf (Elt Ideal) ℓ) (g : Dev Cert.SsmMetaIdeal.nD → PrngReg)
    (m' : (ℓ : Loc Cert.SsmMetaRefIdeal.nD Cert.SsmMetaRefIdeal.τ Cert.SsmMetaRefIdeal.sig) → Buf (Elt Ideal) ℓ) (g' : Dev Cert.SsmMetaRefIdeal.nD → PrngReg), Pre_SsmMetaIdeal m →
    (∀ c : Dev Cert.SsmMetaIdeal.nD,
      m' ((c.tc : Thread Cert.SsmMetaRefIdeal.nD Cert.SsmMetaRefIdeal.τ).loc Cert.SsmMetaRefIdeal.main_arg0) = m ((c.tc : Thread Cert.SsmMetaIdeal.nD Cert.SsmMetaIdeal.τ).loc Cert.SsmMetaIdeal.main_arg0)
      ∧ m' ((c.tc : Thread Cert.SsmMetaRefIdeal.nD Cert.SsmMetaRefIdeal.τ).loc Cert.SsmMetaRefIdeal.main_arg1) = m ((c.tc : Thread Cert.SsmMetaIdeal.nD Cert.SsmMetaIdeal.τ).loc Cert.SsmMetaIdeal.main_arg1)
      ∧ m' ((c.tc : Thread Cert.SsmMetaRefIdeal.nD Cert.SsmMetaRefIdeal.τ).loc Cert.SsmMetaRefIdeal.main_arg2) = m ((c.tc : Thread Cert.SsmMetaIdeal.nD Cert.SsmMetaIdeal.τ).loc Cert.SsmMetaIdeal.main_arg2)) →
    ∃ (v0 : (c : Dev Cert.SsmMetaIdeal.nD) → Buf (Elt Ideal) ((c.tc : Thread Cert.SsmMetaIdeal.nD Cert.SsmMetaIdeal.τ).loc Cert.SsmMetaIdeal.main_v0)),
      θ_run (Cert.SsmMetaIdeal.defs (F := Ideal)) (onTc (τ := Cert.SsmMetaIdeal.τ) (Cert.SsmMetaIdeal.main (F := Ideal))) ⟨m, fun _ => 0, g⟩ (fun r => ∀ c : Dev Cert.SsmMetaIdeal.nD,
          r.2.mem ((c.tc : Thread Cert.SsmMetaIdeal.nD Cert.SsmMetaIdeal.τ).loc Cert.SsmMetaIdeal.main_v0) = v0 c
          ∧ r.2.mem ((c.tc : Thread Cert.SsmMetaIdeal.nD Cert.SsmMetaIdeal.τ).loc Cert.SsmMetaIdeal.main_arg0) = m ((c.tc : Thread Cert.SsmMetaIdeal.nD Cert.SsmMetaIdeal.τ).loc Cert.SsmMetaIdeal.main_arg0)
          ∧ r.2.mem ((c.tc : Thread Cert.SsmMetaIdeal.nD Cert.SsmMetaIdeal.τ).loc Cert.SsmMetaIdeal.main_arg1) = m ((c.tc : Thread Cert.SsmMetaIdeal.nD Cert.SsmMetaIdeal.τ).loc Cert.SsmMetaIdeal.main_arg1)
          ∧ r.2.mem ((c.tc : Thread Cert.SsmMetaIdeal.nD Cert.SsmMetaIdeal.τ).loc Cert.SsmMetaIdeal.main_arg2) = m ((c.tc : Thread Cert.SsmMetaIdeal.nD Cert.SsmMetaIdeal.τ).loc Cert.SsmMetaIdeal.main_arg2))
      ∧ θ_run (Cert.SsmMetaRefIdeal.defs (F := Ideal)) (onTc (τ := Cert.SsmMetaRefIdeal.τ) (Cert.SsmMetaRefIdeal.main (F := Ideal))) ⟨m', fun _ => 0, g'⟩ (fun r => ∀ c : Dev Cert.SsmMetaRefIdeal.nD,
          r.2.mem ((c.tc : Thread Cert.SsmMetaRefIdeal.nD Cert.SsmMetaRefIdeal.τ).loc Cert.SsmMetaRefIdeal.main_v17) = v0 c
          ∧ r.2.mem ((c.tc : Thread Cert.SsmMetaRefIdeal.nD Cert.SsmMetaRefIdeal.τ).loc Cert.SsmMetaRefIdeal.main_arg0) = m' ((c.tc : Thread Cert.SsmMetaRefIdeal.nD Cert.SsmMetaRefIdeal.τ).loc Cert.SsmMetaRefIdeal.main_arg0)
          ∧ r.2.mem ((c.tc : Thread Cert.SsmMetaRefIdeal.nD Cert.SsmMetaRefIdeal.τ).loc Cert.SsmMetaRefIdeal.main_arg1) = m' ((c.tc : Thread Cert.SsmMetaRefIdeal.nD Cert.SsmMetaRefIdeal.τ).loc Cert.SsmMetaRefIdeal.main_arg1)
          ∧ r.2.mem ((c.tc : Thread Cert.SsmMetaRefIdeal.nD Cert.SsmMetaRefIdeal.τ).loc Cert.SsmMetaRefIdeal.main_arg2) = m' ((c.tc : Thread Cert.SsmMetaRefIdeal.nD Cert.SsmMetaRefIdeal.τ).loc Cert.SsmMetaRefIdeal.main_arg2))

def preserves_AttnMeta_AttnMetaIdeal : Prop :=
  True

def algebraic_AttnMetaIdeal_AttnMetaRefIdeal_pre_attn_meta_finite [hAttnMetaIdeal : Cert.AttnMetaIdeal.Facts] [hAttnMetaRefIdeal : Cert.AttnMetaRefIdeal.Facts] [hPre_attn_meta_finite : Cert.Pre_attn_meta_finite.Facts] : Prop :=
  ∀ (m : (ℓ : Loc Cert.AttnMetaIdeal.nD Cert.AttnMetaIdeal.τ Cert.AttnMetaIdeal.sig) → Buf (Elt Ideal) ℓ) (g : Dev Cert.AttnMetaIdeal.nD → PrngReg)
    (m' : (ℓ : Loc Cert.AttnMetaRefIdeal.nD Cert.AttnMetaRefIdeal.τ Cert.AttnMetaRefIdeal.sig) → Buf (Elt Ideal) ℓ) (g' : Dev Cert.AttnMetaRefIdeal.nD → PrngReg), Pre_AttnMetaIdeal_attn_meta_finite m →
    (∀ c : Dev Cert.AttnMetaIdeal.nD,
      m' ((c.tc : Thread Cert.AttnMetaRefIdeal.nD Cert.AttnMetaRefIdeal.τ).loc Cert.AttnMetaRefIdeal.main_arg0) = m ((c.tc : Thread Cert.AttnMetaIdeal.nD Cert.AttnMetaIdeal.τ).loc Cert.AttnMetaIdeal.main_arg0)
      ∧ m' ((c.tc : Thread Cert.AttnMetaRefIdeal.nD Cert.AttnMetaRefIdeal.τ).loc Cert.AttnMetaRefIdeal.main_arg1) = m ((c.tc : Thread Cert.AttnMetaIdeal.nD Cert.AttnMetaIdeal.τ).loc Cert.AttnMetaIdeal.main_arg1)
      ∧ m' ((c.tc : Thread Cert.AttnMetaRefIdeal.nD Cert.AttnMetaRefIdeal.τ).loc Cert.AttnMetaRefIdeal.main_arg2) = m ((c.tc : Thread Cert.AttnMetaIdeal.nD Cert.AttnMetaIdeal.τ).loc Cert.AttnMetaIdeal.main_arg2)) →
    ∃ (v0 : (c : Dev Cert.AttnMetaIdeal.nD) → Buf (Elt Ideal) ((c.tc : Thread Cert.AttnMetaIdeal.nD Cert.AttnMetaIdeal.τ).loc Cert.AttnMetaIdeal.main_v0)),
      θ_run (Cert.AttnMetaIdeal.defs (F := Ideal)) (onTc (τ := Cert.AttnMetaIdeal.τ) (Cert.AttnMetaIdeal.main (F := Ideal))) ⟨m, fun _ => 0, g⟩ (fun r => ∀ c : Dev Cert.AttnMetaIdeal.nD,
          r.2.mem ((c.tc : Thread Cert.AttnMetaIdeal.nD Cert.AttnMetaIdeal.τ).loc Cert.AttnMetaIdeal.main_v0) = v0 c
          ∧ r.2.mem ((c.tc : Thread Cert.AttnMetaIdeal.nD Cert.AttnMetaIdeal.τ).loc Cert.AttnMetaIdeal.main_arg0) = m ((c.tc : Thread Cert.AttnMetaIdeal.nD Cert.AttnMetaIdeal.τ).loc Cert.AttnMetaIdeal.main_arg0)
          ∧ r.2.mem ((c.tc : Thread Cert.AttnMetaIdeal.nD Cert.AttnMetaIdeal.τ).loc Cert.AttnMetaIdeal.main_arg1) = m ((c.tc : Thread Cert.AttnMetaIdeal.nD Cert.AttnMetaIdeal.τ).loc Cert.AttnMetaIdeal.main_arg1)
          ∧ r.2.mem ((c.tc : Thread Cert.AttnMetaIdeal.nD Cert.AttnMetaIdeal.τ).loc Cert.AttnMetaIdeal.main_arg2) = m ((c.tc : Thread Cert.AttnMetaIdeal.nD Cert.AttnMetaIdeal.τ).loc Cert.AttnMetaIdeal.main_arg2))
      ∧ θ_run (Cert.AttnMetaRefIdeal.defs (F := Ideal)) (onTc (τ := Cert.AttnMetaRefIdeal.τ) (Cert.AttnMetaRefIdeal.main (F := Ideal))) ⟨m', fun _ => 0, g'⟩ (fun r => ∀ c : Dev Cert.AttnMetaRefIdeal.nD,
          r.2.mem ((c.tc : Thread Cert.AttnMetaRefIdeal.nD Cert.AttnMetaRefIdeal.τ).loc Cert.AttnMetaRefIdeal.main_v23) = v0 c
          ∧ r.2.mem ((c.tc : Thread Cert.AttnMetaRefIdeal.nD Cert.AttnMetaRefIdeal.τ).loc Cert.AttnMetaRefIdeal.main_arg0) = m' ((c.tc : Thread Cert.AttnMetaRefIdeal.nD Cert.AttnMetaRefIdeal.τ).loc Cert.AttnMetaRefIdeal.main_arg0)
          ∧ r.2.mem ((c.tc : Thread Cert.AttnMetaRefIdeal.nD Cert.AttnMetaRefIdeal.τ).loc Cert.AttnMetaRefIdeal.main_arg1) = m' ((c.tc : Thread Cert.AttnMetaRefIdeal.nD Cert.AttnMetaRefIdeal.τ).loc Cert.AttnMetaRefIdeal.main_arg1)
          ∧ r.2.mem ((c.tc : Thread Cert.AttnMetaRefIdeal.nD Cert.AttnMetaRefIdeal.τ).loc Cert.AttnMetaRefIdeal.main_arg2) = m' ((c.tc : Thread Cert.AttnMetaRefIdeal.nD Cert.AttnMetaRefIdeal.τ).loc Cert.AttnMetaRefIdeal.main_arg2))

def preserves_Attn_AttnIdeal : Prop :=
  True

def Claim : Prop :=
  ∃ (hFfnUp : Cert.FfnUp.Facts) (hFfnUpIdeal : Cert.FfnUpIdeal.Facts) (hFfnUpRefIdeal : Cert.FfnUpRefIdeal.Facts) (hInGates : Cert.InGates.Facts) (hInGatesIdeal : Cert.InGatesIdeal.Facts) (hInGatesRefIdeal : Cert.InGatesRefIdeal.Facts) (hInConv : Cert.InConv.Facts) (hInConvIdeal : Cert.InConvIdeal.Facts) (hInConvRefIdeal : Cert.InConvRefIdeal.Facts) (hInU : Cert.InU.Facts) (hInUIdeal : Cert.InUIdeal.Facts) (hInURefIdeal : Cert.InURefIdeal.Facts) (hInCkv : Cert.InCkv.Facts) (hInCkvIdeal : Cert.InCkvIdeal.Facts) (hInCkvRefIdeal : Cert.InCkvRefIdeal.Facts) (hInQ : Cert.InQ.Facts) (hInQIdeal : Cert.InQIdeal.Facts) (hInQRefIdeal : Cert.InQRefIdeal.Facts) (hMix : Cert.Mix.Facts) (hMixIdeal : Cert.MixIdeal.Facts) (hMixRefIdeal : Cert.MixRefIdeal.Facts) (hMmOut : Cert.MmOut.Facts) (hMmOutIdeal : Cert.MmOutIdeal.Facts) (hMmOutRefIdeal : Cert.MmOutRefIdeal.Facts) (hMmDown : Cert.MmDown.Facts) (hMmDownIdeal : Cert.MmDownIdeal.Facts) (hMmDownRefIdeal : Cert.MmDownRefIdeal.Facts) (hKvUp : Cert.KvUp.Facts) (hKvUpIdeal : Cert.KvUpIdeal.Facts) (hKvUpRefIdeal : Cert.KvUpRefIdeal.Facts) (hLn0 : Cert.Ln0.Facts) (hLn0Ideal : Cert.Ln0Ideal.Facts) (hLn0RefIdeal : Cert.Ln0RefIdeal.Facts) (hSsmMeta : Cert.SsmMeta.Facts) (hSsmMetaIdeal : Cert.SsmMetaIdeal.Facts) (hSsmMetaRefIdeal : Cert.SsmMetaRefIdeal.Facts) (hAttnMeta : Cert.AttnMeta.Facts) (hAttnMetaIdeal : Cert.AttnMetaIdeal.Facts) (hAttnMetaRefIdeal : Cert.AttnMetaRefIdeal.Facts) (hAttn : Cert.Attn.Facts) (hAttnIdeal : Cert.AttnIdeal.Facts) (hAttnRefIdeal : Cert.AttnRefIdeal.Facts) (hPre_attn_meta_finite : Cert.Pre_attn_meta_finite.Facts),
    quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_InGates (hInGates := hInGates)
    ∧ quiescent_InGatesIdeal (hInGatesIdeal := hInGatesIdeal)
    ∧ quiescent_InGatesRefIdeal (hInGatesRefIdeal := hInGatesRefIdeal)
    ∧ quiescent_InConv (hInConv := hInConv)
    ∧ quiescent_InConvIdeal (hInConvIdeal := hInConvIdeal)
    ∧ quiescent_InConvRefIdeal (hInConvRefIdeal := hInConvRefIdeal)
    ∧ quiescent_InU (hInU := hInU)
    ∧ quiescent_InUIdeal (hInUIdeal := hInUIdeal)
    ∧ quiescent_InURefIdeal (hInURefIdeal := hInURefIdeal)
    ∧ quiescent_InCkv (hInCkv := hInCkv)
    ∧ quiescent_InCkvIdeal (hInCkvIdeal := hInCkvIdeal)
    ∧ quiescent_InCkvRefIdeal (hInCkvRefIdeal := hInCkvRefIdeal)
    ∧ quiescent_InQ (hInQ := hInQ)
    ∧ quiescent_InQIdeal (hInQIdeal := hInQIdeal)
    ∧ quiescent_InQRefIdeal (hInQRefIdeal := hInQRefIdeal)
    ∧ quiescent_Mix (hMix := hMix)
    ∧ quiescent_MixIdeal (hMixIdeal := hMixIdeal)
    ∧ quiescent_MixRefIdeal (hMixRefIdeal := hMixRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_Ln0 (hLn0 := hLn0)
    ∧ quiescent_Ln0Ideal (hLn0Ideal := hLn0Ideal)
    ∧ quiescent_Ln0RefIdeal (hLn0RefIdeal := hLn0RefIdeal)
    ∧ quiescent_SsmMeta (hSsmMeta := hSsmMeta)
    ∧ quiescent_SsmMetaIdeal (hSsmMetaIdeal := hSsmMetaIdeal)
    ∧ quiescent_SsmMetaRefIdeal (hSsmMetaRefIdeal := hSsmMetaRefIdeal)
    ∧ quiescent_AttnMeta (hAttnMeta := hAttnMeta)
    ∧ quiescent_AttnMetaIdeal (hAttnMetaIdeal := hAttnMetaIdeal)
    ∧ quiescent_AttnMetaIdeal_pre_attn_meta_finite (hAttnMetaIdeal := hAttnMetaIdeal) (hPre_attn_meta_finite := hPre_attn_meta_finite)
    ∧ quiescent_AttnMetaRefIdeal (hAttnMetaRefIdeal := hAttnMetaRefIdeal)
    ∧ quiescent_AttnMetaRefIdeal_pre_attn_meta_finite (hAttnMetaRefIdeal := hAttnMetaRefIdeal) (hPre_attn_meta_finite := hPre_attn_meta_finite)
    ∧ quiescent_Attn (hAttn := hAttn)
    ∧ quiescent_AttnIdeal (hAttnIdeal := hAttnIdeal)
    ∧ quiescent_AttnRefIdeal (hAttnRefIdeal := hAttnRefIdeal)
    ∧ preserves_FfnUp_FfnUpIdeal
    ∧ algebraic_FfnUpIdeal_FfnUpRefIdeal (hFfnUpIdeal := hFfnUpIdeal) (hFfnUpRefIdeal := hFfnUpRefIdeal)
    ∧ preserves_InGates_InGatesIdeal
    ∧ algebraic_InGatesIdeal_InGatesRefIdeal (hInGatesIdeal := hInGatesIdeal) (hInGatesRefIdeal := hInGatesRefIdeal)
    ∧ preserves_InConv_InConvIdeal
    ∧ algebraic_InConvIdeal_InConvRefIdeal (hInConvIdeal := hInConvIdeal) (hInConvRefIdeal := hInConvRefIdeal)
    ∧ preserves_InU_InUIdeal
    ∧ algebraic_InUIdeal_InURefIdeal (hInUIdeal := hInUIdeal) (hInURefIdeal := hInURefIdeal)
    ∧ preserves_InCkv_InCkvIdeal
    ∧ algebraic_InCkvIdeal_InCkvRefIdeal (hInCkvIdeal := hInCkvIdeal) (hInCkvRefIdeal := hInCkvRefIdeal)
    ∧ preserves_InQ_InQIdeal
    ∧ algebraic_InQIdeal_InQRefIdeal (hInQIdeal := hInQIdeal) (hInQRefIdeal := hInQRefIdeal)
    ∧ preserves_Mix_MixIdeal
    ∧ algebraic_MixIdeal_MixRefIdeal (hMixIdeal := hMixIdeal) (hMixRefIdeal := hMixRefIdeal)
    ∧ preserves_MmOut_MmOutIdeal
    ∧ algebraic_MmOutIdeal_MmOutRefIdeal (hMmOutIdeal := hMmOutIdeal) (hMmOutRefIdeal := hMmOutRefIdeal)
    ∧ preserves_MmDown_MmDownIdeal
    ∧ algebraic_MmDownIdeal_MmDownRefIdeal (hMmDownIdeal := hMmDownIdeal) (hMmDownRefIdeal := hMmDownRefIdeal)
    ∧ preserves_KvUp_KvUpIdeal
    ∧ algebraic_KvUpIdeal_KvUpRefIdeal (hKvUpIdeal := hKvUpIdeal) (hKvUpRefIdeal := hKvUpRefIdeal)
    ∧ preserves_Ln0_Ln0Ideal
    ∧ algebraic_Ln0Ideal_Ln0RefIdeal (hLn0Ideal := hLn0Ideal) (hLn0RefIdeal := hLn0RefIdeal)
    ∧ preserves_SsmMeta_SsmMetaIdeal
    ∧ algebraic_SsmMetaIdeal_SsmMetaRefIdeal (hSsmMetaIdeal := hSsmMetaIdeal) (hSsmMetaRefIdeal := hSsmMetaRefIdeal)
    ∧ preserves_AttnMeta_AttnMetaIdeal
    ∧ algebraic_AttnMetaIdeal_AttnMetaRefIdeal_pre_attn_meta_finite (hAttnMetaIdeal := hAttnMetaIdeal) (hAttnMetaRefIdeal := hAttnMetaRefIdeal) (hPre_attn_meta_finite := hPre_attn_meta_finite)
    ∧ preserves_Attn_AttnIdeal
-- ==== Pre_attn_meta_finite.lean ====
abbrev S33280x4096 : Shape := ⟨2, ![33280, 4096]⟩
abbrev S2048x33280 : Shape := ⟨2, ![2048, 33280]⟩
abbrev S512x4096 : Shape := ⟨2, ![512, 4096]⟩
abbrev S_ : Shape := ⟨0, ![]⟩
abbrev S16x4096 : Shape := ⟨2, ![16, 4096]⟩

class Facts : Prop where
  slices_S33280x4096_S512x4096_32768_0 : S33280x4096.Slices ![32768, 0] S512x4096
  bcast_S_S512x4096 : S_.BroadcastsInDim S512x4096 (![] : Fin 0 → Fin S512x4096.rank)
  reducesTo_S512x4096_S_d0_1 : S512x4096.ReducesTo [0, 1] S_
  h_S_ : 0 < S_.numel
  slices_S33280x4096_S16x4096_32768_0 : S33280x4096.Slices ![32768, 0] S16x4096
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S33280x4096 .bf16) (main_arg1 : FVec F S33280x4096 .bf16) (main_arg2 : FVec F S2048x33280 .bf16) : IVec S_ 1 :=
  let main_v0 : FVec F S512x4096 .bf16 := (extractStridedSlice S512x4096 ![32768, 0] · slices_S33280x4096_S512x4096_32768_0) main_arg0
  let main_v1 : FVec F S512x4096 .bf16 := Host.absf main_v0
  let main_cst : FVec F S_ .bf16 := constant S_ .bf16 0x7F80#16
  let main_v2 : FVec F S512x4096 .bf16 := broadcastInDim S512x4096 ![] bcast_S_S512x4096 main_cst
  let main_v3 : IVec S512x4096 1 := cmpf .olt main_v1 main_v2
  let main_c : IVec S_ 1 := constantI S_ 1 1#1
  let main_v4 : IVec S_ 1 := (fun x v => Host.reduce IntOp.andi x v reducesTo_S512x4096_S_d0_1 h_S_) main_v3 main_c
  let main_v5 : FVec F S16x4096 .bf16 := (extractStridedSlice S16x4096 ![32768, 0] · slices_S33280x4096_S16x4096_32768_0) main_arg1
  let main_v6 : FVec F S16x4096 .bf16 := Host.absf main_v5
  let main_cst_0 : FVec F S_ .bf16 := constant S_ .bf16 0x7F80#16
  let main_v7 : FVec F S16x4096 .bf16 := broadcastInDim S16x4096 ![] bcast_S_S16x4096 main_cst_0
  let main_v8 : IVec S16x4096 1 := cmpf .olt main_v6 main_v7
  let main_c_1 : IVec S_ 1 := constantI S_ 1 1#1
  let main_v9 : IVec S_ 1 := (fun x v => Host.reduce IntOp.andi x v reducesTo_S16x4096_S_d0_1 h_S_) main_v8 main_c_1
  let main_v10 : IVec S_ 1 := andi main_v4 main_v9
  main_v10
-- ==== FfnUp.lean ====
abbrev S33280x2048 : Shape := ⟨2, ![33280, 2048]⟩
abbrev S2048x5632 : Shape := ⟨2, ![2048, 5632]⟩
abbrev S33280x5632 : Shape := ⟨2, ![33280, 5632]⟩
abbrev S1280x2048 : Shape := ⟨2, ![1280, 2048]⟩
abbrev S2048x512 : Shape := ⟨2, ![2048, 512]⟩
abbrev S1280x512 : Shape := ⟨2, ![1280, 512]⟩

abbrev nBuf : Space → Nat
  | .hbm => 4
  | .vmem => 8
  | .smem => 0
  | _ => 0

abbrev bufTy : (tb : Table) → Fin (tcTables nBuf tb) → BufTy
  | .hbm, ⟨0, _⟩ => ⟨S33280x2048, .bf16⟩
  | .hbm, ⟨1, _⟩ => ⟨S2048x5632, .bf16⟩
  | .hbm, ⟨2, _⟩ => ⟨S2048x5632, .bf16⟩
  | .hbm, ⟨3, _⟩ => ⟨S33280x5632, .bf16⟩
  | .local _ .vmem, ⟨0, _⟩ => ⟨S1280x2048, .bf16⟩
  | .local _ .vmem, ⟨1, _⟩ => ⟨S1280x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1280x512, .bf16⟩
  | .local _ .vmem, ⟨7, _⟩ => ⟨S1280x512, .bf16⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S33280x2048 : Shape := ⟨2, ![33280, 2048]⟩
abbrev S2048x5632 : Shape := ⟨2, ![2048, 5632]⟩
abbrev S33280x5632 : Shape := ⟨2, ![33280, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S2048x5632, .bf16⟩
  | .hbm, ⟨2, _⟩ => ⟨S2048x5632, .bf16⟩
  | .hbm, ⟨3, _⟩ => ⟨S33280x2048, .f32⟩
  | .hbm, ⟨4, _⟩ => ⟨S2048x5632, .f32⟩
  | .hbm, ⟨5, _⟩ => ⟨S2048x5632, .f32⟩
  | .hbm, ⟨6, _⟩ => ⟨S33280x5632, .f32⟩
  | .hbm, ⟨7, _⟩ => ⟨S33280x5632, .f32⟩
  | .hbm, ⟨8, _⟩ => ⟨S33280x5632, .f32⟩
  | .hbm, ⟨9, _⟩ => ⟨S_, .f32⟩
  | .hbm, ⟨10, _⟩ => ⟨S33280x5632, .f32⟩
  | .hbm, ⟨11, _⟩ => ⟨S33280x5632, .f32⟩
  | .hbm, ⟨12, _⟩ => ⟨S_, .f32⟩
  | .hbm, ⟨13, _⟩ => ⟨S33280x5632, .f32⟩
  | .hbm, ⟨14, _⟩ => ⟨S33280x5632, .f32⟩
  | .hbm, ⟨15, _⟩ => ⟨S33280x5632, .f32⟩
  | .hbm, ⟨16, _⟩ => ⟨S33280x5632, .f32⟩
  | .hbm, ⟨17, _⟩ => ⟨S33280x5632, .f32⟩
  | .hbm, ⟨18, _⟩ => ⟨S33280x5632, .bf16⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== InGates.lean ====
abbrev S33280x2048 : Shape := ⟨2, ![33280, 2048]⟩
abbrev S2048x6144 : Shape := ⟨2, ![2048, 6144]⟩
abbrev S6144 : Shape := ⟨1, ![6144]⟩
abbrev S1x6144 : Shape := ⟨2, ![1, 6144]⟩
abbrev S33280x6144 : Shape := ⟨2, ![33280, 6144]⟩
abbrev S1280x2048 : Shape := ⟨2, ![1280, 2048]⟩
abbrev S2048x1024 : Shape := ⟨2, ![2048, 1024]⟩
abbrev S1x1024 : Shape := ⟨2, ![1, 1024]⟩
abbrev S1280x1024 : Shape := ⟨2, ![1280, 1024]⟩

abbrev nBuf : Space → Nat
  | .hbm => 5
  | .vmem => 8
  | .smem => 0
  | _ => 0

abbrev bufTy : (tb : Table) → Fin (tcTables nBuf tb) → BufTy
  | .hbm, ⟨0, _⟩ => ⟨S33280x2048, .bf16⟩
  | .hbm, ⟨1, _⟩ => ⟨S2048x6144, .bf16⟩
  | .hbm, ⟨2, _⟩ => ⟨S6144, .f32⟩
  | .hbm, ⟨3, _⟩ => ⟨S1x6144, .f32⟩
  | .hbm, ⟨4, _⟩ => ⟨S33280x6144, .bf16⟩
  | .local _ .vmem, ⟨0, _⟩ => ⟨S1280x2048, .bf16⟩
  | .local _ .vmem, ⟨1, _⟩ => ⟨S1280x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1280x1024, .bf16⟩
  | .local _ .vmem, ⟨7, _⟩ => ⟨S1280x1024, .bf16⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InGatesRefIdeal.lean ====
abbrev S33280x2048 : Shape := ⟨2, ![33280, 2048]⟩
abbrev S2048x6144 : Shape := ⟨2, ![2048, 6144]⟩
abbrev S6144 : Shape := ⟨1, ![6144]⟩
abbrev S33280x6144 : Shape := ⟨2, ![33280, 6144]⟩
abbrev S1x6144 : Shape := ⟨2, ![1, 6144]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S2048x6144, .bf16⟩
  | .hbm, ⟨2, _⟩ => ⟨S6144, .f32⟩
  | .hbm, ⟨3, _⟩ => ⟨S33280x2048, .f32⟩
  | .hbm, ⟨4, _⟩ => ⟨S2048x6144, .f32⟩
  | .hbm, ⟨5, _⟩ => ⟨S33280x6144, .f32⟩
  | .hbm, ⟨6, _⟩ => ⟨S1x6144, .f32⟩
  | .hbm, ⟨7, _⟩ => ⟨S33280x6144, .f32⟩
  | .hbm, ⟨8, _⟩ => ⟨S33280x6144, .f32⟩
  | .hbm, ⟨9, _⟩ => ⟨S33280x6144, .f32⟩
  | .hbm, ⟨10, _⟩ => ⟨S33280x6144, .f32⟩
  | .hbm, ⟨11, _⟩ => ⟨S_, .f32⟩
  | .hbm, ⟨12, _⟩ => ⟨S33280x6144, .f32⟩
  | .hbm, ⟨13, _⟩ => ⟨S33280x6144, .f32⟩
  | .hbm, ⟨14, _⟩ => ⟨S_, .f32⟩
  | .hbm, ⟨15, _⟩ => ⟨S33280x6144, .f32⟩
  | .hbm, ⟨16, _⟩ => ⟨S33280x6144, .f32⟩
  | .hbm, ⟨17, _⟩ => ⟨S33280x6144, .bf16⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== InConv.lean ====
abbrev S33280x2048 : Shape := ⟨2, ![33280, 2048]⟩
abbrev S2048x4096 : Shape := ⟨2, ![2048, 4096]⟩
abbrev S33280x4096 : Shape := ⟨2, ![33280, 4096]⟩
abbrev S1280x2048 : Shape := ⟨2, ![1280, 2048]⟩
abbrev S2048x1024 : Shape := ⟨2, ![2048, 1024]⟩
abbrev S1280x1024 : Shape := ⟨2, ![1280, 1024]⟩

abbrev nBuf : Space → Nat
  | .hbm => 3
  | .vmem => 6
  | .smem => 0
  | _ => 0

abbrev bufTy : (tb : Table) → Fin (tcTables nBuf tb) → BufTy
  | .hbm, ⟨0, _⟩ => ⟨S33280x2048, .bf16⟩
  | .hbm, ⟨1, _⟩ => ⟨S2048x4096, .bf16⟩
  | .hbm, ⟨2, _⟩ => ⟨S33280x4096, .bf16⟩
  | .local _ .vmem, ⟨0, _⟩ => ⟨S1280x2048, .bf16⟩
  | .local _ .vmem, ⟨1, _⟩ => ⟨S1280x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .bf16⟩
  | .local _ .vmem, ⟨5, _⟩ => ⟨S1280x1024, .bf16⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InConvRefIdeal.lean ====
abbrev S33280x2048 : Shape := ⟨2, ![33280, 2048]⟩
abbrev S2048x4096 : Shape := ⟨2, ![2048, 4096]⟩
abbrev S33280x4096 : Shape := ⟨2, ![33280, 4096]⟩

abbrev nBuf : Space → Nat
  | .hbm => 6
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S2048x4096, .bf16⟩
  | .hbm, ⟨2, _⟩ => ⟨S33280x2048, .f32⟩
  | .hbm, ⟨3, _⟩ => ⟨S2048x4096, .f32⟩
  | .hbm, ⟨4, _⟩ => ⟨S33280x4096, .f32⟩
  | .hbm, ⟨5, _⟩ => ⟨S33280x4096, .bf16⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InU.lean ====
abbrev S33280x2048 : Shape := ⟨2, ![33280, 2048]⟩
abbrev S2048x2048 : Shape := ⟨2, ![2048, 2048]⟩
abbrev S1280x2048 : Shape := ⟨2, ![1280, 2048]⟩
abbrev S2048x1024 : Shape := ⟨2, ![2048, 1024]⟩
abbrev S1280x1024 : Shape := ⟨2, ![1280, 1024]⟩

abbrev nBuf : Space → Nat
  | .hbm => 3
  | .vmem => 6
  | .smem => 0
  | _ => 0

abbrev bufTy : (tb : Table) → Fin (tcTables nBuf tb) → BufTy
  | .hbm, ⟨0, _⟩ => ⟨S33280x2048, .bf16⟩
  | .hbm, ⟨1, _⟩ => ⟨S2048x2048, .bf16⟩
  | .hbm, ⟨2, _⟩ => ⟨S33280x2048, .f32⟩
  | .local _ .vmem, ⟨0, _⟩ => ⟨S1280x2048, .bf16⟩
  | .local _ .vmem, ⟨1, _⟩ => ⟨S1280x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .f32⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InURefIdeal.lean ====
abbrev S33280x2048 : Shape := ⟨2, ![33280, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S2048x2048, .bf16⟩
  | .hbm, ⟨2, _⟩ => ⟨S33280x2048, .f32⟩
  | .hbm, ⟨3, _⟩ => ⟨S2048x2048, .f32⟩
  | .hbm, ⟨4, _⟩ => ⟨S33280x2048, .f32⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InCkv.lean ====
abbrev S33280x2048 : Shape := ⟨2, ![33280, 2048]⟩
abbrev S2048x640 : Shape := ⟨2, ![2048, 640]⟩
abbrev S33280x640 : Shape := ⟨2, ![33280, 640]⟩
abbrev S1280x2048 : Shape := ⟨2, ![1280, 2048]⟩
abbrev S1280x640 : Shape := ⟨2, ![1280, 640]⟩

abbrev nBuf : Space → Nat
  | .hbm => 3
  | .vmem => 5
  | .smem => 0
  | _ => 0

abbrev bufTy : (tb : Table) → Fin (tcTables nBuf tb) → BufTy
  | .hbm, ⟨0, _⟩ => ⟨S33280x2048, .bf16⟩
  | .hbm, ⟨1, _⟩ => ⟨S2048x640, .bf16⟩
  | .hbm, ⟨2, _⟩ => ⟨S33280x640, .bf16⟩
  | .local _ .vmem, ⟨0, _⟩ => ⟨S1280x2048, .bf16⟩
  | .local _ .vmem, ⟨1, _⟩ => ⟨S1280x2048, .bf16⟩
  | .local _ .vmem, ⟨2, _⟩ => ⟨S2048x640, .bf16⟩
  | .local _ .vmem, ⟨3, _⟩ => ⟨S1280x640, .bf16⟩
  | .local _ .vmem, ⟨4, _⟩ => ⟨S1280x640, .bf16⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1280x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InCkvRefIdeal.lean ====
abbrev S33280x2048 : Shape := ⟨2, ![33280, 2048]⟩
abbrev S2048x640 : Shape := ⟨2, ![2048, 640]⟩
abbrev S33280x640 : Shape := ⟨2, ![33280, 640]⟩

abbrev nBuf : Space → Nat
  | .hbm => 6
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S2048x640, .bf16⟩
  | .hbm, ⟨2, _⟩ => ⟨S33280x2048, .f32⟩
  | .hbm, ⟨3, _⟩ => ⟨S2048x640, .f32⟩
  | .hbm, ⟨4, _⟩ => ⟨S33280x640, .f32⟩
  | .hbm, ⟨5, _⟩ => ⟨S33280x640, .bf16⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InQ.lean ====
abbrev S33280x2048 : Shape := ⟨2, ![33280, 2048]⟩
abbrev S2048x4096 : Shape := ⟨2, ![2048, 4096]⟩
abbrev S33280x128 : Shape := ⟨2, ![33280, 128]⟩
abbrev S33280x4096 : Shape := ⟨2, ![33280, 4096]⟩
abbrev S1280x2048 : Shape := ⟨2, ![1280, 2048]⟩
abbrev S2048x1024 : Shape := ⟨2, ![2048, 1024]⟩
abbrev S1280x128 : Shape := ⟨2, ![1280, 128]⟩
abbrev S1280x1024 : Shape := ⟨2, ![1280, 1024]⟩

abbrev nBuf : Space → Nat
  | .hbm => 4
  | .vmem => 8
  | .smem => 0
  | _ => 0

abbrev bufTy : (tb : Table) → Fin (tcTables nBuf tb) → BufTy
  | .hbm, ⟨0, _⟩ => ⟨S33280x2048, .bf16⟩
  | .hbm, ⟨1, _⟩ => ⟨S2048x4096, .bf16⟩
  | .hbm, ⟨2, _⟩ => ⟨S33280x128, .f32⟩
  | .hbm, ⟨3, _⟩ => ⟨S33280x4096, .bf16⟩
  | .local _ .vmem, ⟨0, _⟩ => ⟨S1280x2048, .bf16⟩
  | .local _ .vmem, ⟨1, _⟩ => ⟨S1280x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1280x128, .f32⟩
  | .local _ .vmem, ⟨5, _⟩ => ⟨S1280x128, .f32⟩
  | .local _ .vmem, ⟨6, _⟩ => ⟨S1280x1024, .bf16⟩
  | .local _ .vmem, ⟨7, _⟩ => ⟨S1280x1024, .bf16⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1280x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InQRefIdeal.lean ====
abbrev S33280x2048 : Shape := ⟨2, ![33280, 2048]⟩
abbrev S2048x4096 : Shape := ⟨2, ![2048, 4096]⟩
abbrev S33280x128 : Shape := ⟨2, ![33280, 128]⟩
abbrev S33280x4096 : Shape := ⟨2, ![33280, 4096]⟩
abbrev S33280x16x256 : Shape := ⟨3, ![33280, 16, 256]⟩
abbrev S33280x16x128 : Shape := ⟨3, ![33280, 16, 128]⟩
abbrev S_ : Shape := ⟨0, ![]⟩
abbrev S33280x1x128 : Shape := ⟨3, ![33280, 1, 128]⟩
abbrev S33280x16x64 : Shape := ⟨3, ![33280, 16, 64]⟩

abbrev nBuf : Space → Nat
  | .hbm => 22
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S2048x4096, .bf16⟩
  | .hbm, ⟨2, _⟩ => ⟨S33280x128, .f32⟩
  | .hbm, ⟨3, _⟩ => ⟨S33280x2048, .f32⟩
  | .hbm, ⟨4, _⟩ => ⟨S2048x4096, .f32⟩
  | .hbm, ⟨5, _⟩ => ⟨S33280x4096, .f32⟩
  | .hbm, ⟨6, _⟩ => ⟨S33280x16x256, .f32⟩
  | .hbm, ⟨7, _⟩ => ⟨S33280x16x128, .f32⟩
  | .hbm, ⟨8, _⟩ => ⟨S_, .f32⟩
  | .hbm, ⟨9, _⟩ => ⟨S33280x16x128, .f32⟩
  | .hbm, ⟨10, _⟩ => ⟨S33280x16x128, .f32⟩
  | .hbm, ⟨11, _⟩ => ⟨S33280x16x128, .f32⟩
  | .hbm, ⟨12, _⟩ => ⟨S33280x1x128, .f32⟩
  | .hbm, ⟨13, _⟩ => ⟨S33280x16x128, .f32⟩
  | .hbm, ⟨14, _⟩ => ⟨S33280x16x128, .f32⟩
  | .hbm, ⟨15, _⟩ => ⟨S33280x16x64, .f32⟩
  | .hbm, ⟨16, _⟩ => ⟨S33280x16x64, .f32⟩
  | .hbm, ⟨17, _⟩ => ⟨S33280x16x128, .f32⟩
  | .hbm, ⟨18, _⟩ => ⟨S33280x16x128, .f32⟩
  | .hbm, ⟨19, _⟩ => ⟨S33280x16x256, .f32⟩
  | .hbm, ⟨20, _⟩ => ⟨S33280x4096, .f32⟩
  | .hbm, ⟨21, _⟩ => ⟨S33280x4096, .bf16⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Mix.lean ====
abbrev S32768x2048 : Shape := ⟨2, ![32768, 2048]⟩
abbrev S512x2048 : Shape := ⟨2, ![512, 2048]⟩
abbrev S33280x2048 : Shape := ⟨2, ![33280, 2048]⟩
abbrev S33280x6144 : Shape := ⟨2, ![33280, 6144]⟩
abbrev S2048x2048 : Shape := ⟨2, ![2048, 2048]⟩
abbrev S2048x4096 : Shape := ⟨2, ![2048, 4096]⟩
abbrev S512x512 : Shape := ⟨2, ![512, 512]⟩
abbrev S2048x512 : Shape := ⟨2, ![2048, 512]⟩

abbrev nBuf : Space → Nat
  | .hbm => 10
  | .vmem => 24
  | .smem => 0
  | _ => 0

abbrev bufTy : (tb : Table) → Fin (tcTables nBuf tb) → BufTy
  | .hbm, ⟨0, _⟩ => ⟨S32768x2048, .bf16⟩
  | .hbm, ⟨1, _⟩ => ⟨S512x2048, .bf16⟩
  | .hbm, ⟨2, _⟩ => ⟨S33280x2048, .bf16⟩
  | .hbm, ⟨3, _⟩ => ⟨S32768x2048, .f32⟩
  | .hbm, ⟨4, _⟩ => ⟨S512x2048, .f32⟩
  | .hbm, ⟨5, _⟩ => ⟨S33280x6144, .bf16⟩
  | .hbm, ⟨6, _⟩ => ⟨S2048x2048, .bf16⟩
  | .hbm, ⟨7, _⟩ => ⟨S2048x2048, .bf16⟩
  | .hbm, ⟨8, _⟩ => ⟨S2048x4096, .bf16⟩
  | .hbm, ⟨9, _⟩ => ⟨S33280x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S512x512, .bf16⟩
  | .local _ .vmem, ⟨23, _⟩ => ⟨S512x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 65], ![false, false]⟩

def cc0_transform_0 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg1 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MixRefIdeal.lean ====
abbrev S32768x2048 : Shape := ⟨2, ![32768, 2048]⟩
abbrev S512x2048 : Shape := ⟨2, ![512, 2048]⟩
abbrev S33280x2048 : Shape := ⟨2, ![33280, 2048]⟩
abbrev S33280x6144 : Shape := ⟨2, ![33280, 6144]⟩
abbrev S2048x2048 : Shape := ⟨2, ![2048, 2048]⟩
abbrev S2048x4096 : Shape := ⟨2, ![2048, 4096]⟩
abbrev S33280x4096 : Shape := ⟨2, ![33280, 4096]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S512x2048, .bf16⟩
  | .hbm, ⟨2, _⟩ => ⟨S33280x2048, .bf16⟩
  | .hbm, ⟨3, _⟩ => ⟨S32768x2048, .f32⟩
  | .hbm, ⟨4, _⟩ => ⟨S512x2048, .f32⟩
  | .hbm, ⟨5, _⟩ => ⟨S33280x6144, .bf16⟩
  | .hbm, ⟨6, _⟩ => ⟨S2048x2048, .bf16⟩
  | .hbm, ⟨7, _⟩ => ⟨S2048x2048, .bf16⟩
  | .hbm, ⟨8, _⟩ => ⟨S2048x4096, .bf16⟩
  | .hbm, ⟨9, _⟩ => ⟨S33280x2048, .bf16⟩
  | .hbm, ⟨10, _⟩ => ⟨S33280x2048, .f32⟩
  | .hbm, ⟨11, _⟩ => ⟨S33280x2048, .f32⟩
  | .hbm, ⟨12, _⟩ => ⟨S33280x2048, .bf16⟩
  | .hbm, ⟨13, _⟩ => ⟨S33280x2048, .f32⟩
  | .hbm, ⟨14, _⟩ => ⟨S2048x2048, .f32⟩
  | .hbm, ⟨15, _⟩ => ⟨S33280x2048, .f32⟩
  | .hbm, ⟨16, _⟩ => ⟨S33280x2048, .f32⟩
  | .hbm, ⟨17, _⟩ => ⟨S2048x2048, .f32⟩
  | .hbm, ⟨18, _⟩ => ⟨S33280x2048, .f32⟩
  | .hbm, ⟨19, _⟩ => ⟨S2048x4096, .f32⟩
  | .hbm, ⟨20, _⟩ => ⟨S33280x4096, .f32⟩
  | .hbm, ⟨21, _⟩ => ⟨S33280x2048, .f32⟩
  | .hbm, ⟨22, _⟩ => ⟨S33280x2048, .f32⟩
  | .hbm, ⟨23, _⟩ => ⟨S33280x2048, .f32⟩
  | .hbm, ⟨24, _⟩ => ⟨S33280x2048, .f32⟩
  | .hbm, ⟨25, _⟩ => ⟨S_, .f32⟩
  | .hbm, ⟨26, _⟩ => ⟨S33280x2048, .f32⟩
  | .hbm, ⟨27, _⟩ => ⟨S33280x2048, .f32⟩
  | .hbm, ⟨28, _⟩ => ⟨S_, .f32⟩
  | .hbm, ⟨29, _⟩ => ⟨S33280x2048, .f32⟩
  | .hbm, ⟨30, _⟩ => ⟨S33280x2048, .f32⟩
  | .hbm, ⟨31, _⟩ => ⟨S33280x2048, .f32⟩
  | .hbm, ⟨32, _⟩ => ⟨S33280x6144, .f32⟩
  | .hbm, ⟨33, _⟩ => ⟨S33280x2048, .f32⟩
  | .hbm, ⟨34, _⟩ => ⟨S33280x2048, .f32⟩
  | .hbm, ⟨35, _⟩ => ⟨S33280x2048, .f32⟩
  | .hbm, ⟨36, _⟩ => ⟨S33280x2048, .f32⟩
  | .hbm, ⟨37, _⟩ => ⟨S33280x2048, .f32⟩
  | .hbm, ⟨38, _⟩ => ⟨S33280x2048, .f32⟩
  | .hbm, ⟨39, _⟩ => ⟨S33280x2048, .f32⟩
  | .hbm, ⟨40, _⟩ => ⟨S33280x2048, .f32⟩
  | .hbm, ⟨41, _⟩ => ⟨S33280x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== MmOut.lean ====
abbrev S33280x2048 : Shape := ⟨2, ![33280, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S33280x2048, .bf16⟩
  | .hbm, ⟨1, _⟩ => ⟨S2048x2048, .bf16⟩
  | .hbm, ⟨2, _⟩ => ⟨S33280x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S33280x2048, .f32⟩
  | .hbm, ⟨8, _⟩ => ⟨S33280x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![65, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MmOutRefIdeal.lean ====
abbrev S33280x2048 : Shape := ⟨2, ![33280, 2048]⟩
abbrev S2048x2048 : Shape := ⟨2, ![2048, 2048]⟩
abbrev S2048 : Shape := ⟨1, ![2048]⟩
abbrev S_ : Shape := ⟨0, ![]⟩
abbrev S33280 : Shape := ⟨1, ![33280]⟩
abbrev S33280x1 : Shape := ⟨2, ![33280, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S2048x2048, .bf16⟩
  | .hbm, ⟨2, _⟩ => ⟨S33280x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S33280x2048, .f32⟩
  | .hbm, ⟨7, _⟩ => ⟨S33280x2048, .f32⟩
  | .hbm, ⟨8, _⟩ => ⟨S33280x2048, .f32⟩
  | .hbm, ⟨9, _⟩ => ⟨S2048x2048, .f32⟩
  | .hbm, ⟨10, _⟩ => ⟨S33280x2048, .f32⟩
  | .hbm, ⟨11, _⟩ => ⟨S33280x2048, .f32⟩
  | .hbm, ⟨12, _⟩ => ⟨S_, .f32⟩
  | .hbm, ⟨13, _⟩ => ⟨S33280, .f32⟩
  | .hbm, ⟨14, _⟩ => ⟨S33280x1, .f32⟩
  | .hbm, ⟨15, _⟩ => ⟨S_, .f32⟩
  | .hbm, ⟨16, _⟩ => ⟨S33280x1, .f32⟩
  | .hbm, ⟨17, _⟩ => ⟨S33280x1, .f32⟩
  | .hbm, ⟨18, _⟩ => ⟨S33280x2048, .f32⟩
  | .hbm, ⟨19, _⟩ => ⟨S33280x2048, .f32⟩
  | .hbm, ⟨20, _⟩ => ⟨S33280x2048, .f32⟩
  | .hbm, ⟨21, _⟩ => ⟨S_, .f32⟩
  | .hbm, ⟨22, _⟩ => ⟨S33280, .f32⟩
  | .hbm, ⟨23, _⟩ => ⟨S33280x1, .f32⟩
  | .hbm, ⟨24, _⟩ => ⟨S_, .f32⟩
  | .hbm, ⟨25, _⟩ => ⟨S33280x1, .f32⟩
  | .hbm, ⟨26, _⟩ => ⟨S33280x1, .f32⟩
  | .hbm, ⟨27, _⟩ => ⟨S33280x2048, .f32⟩
  | .hbm, ⟨28, _⟩ => ⟨S33280x2048, .f32⟩
  | .hbm, ⟨29, _⟩ => ⟨S_, .f32⟩
  | .hbm, ⟨30, _⟩ => ⟨S33280x1, .f32⟩
  | .hbm, ⟨31, _⟩ => ⟨S33280x1, .f32⟩
  | .hbm, ⟨32, _⟩ => ⟨S33280x1, .f32⟩
  | .hbm, ⟨33, _⟩ => ⟨S33280x2048, .f32⟩
  | .hbm, ⟨34, _⟩ => ⟨S33280x2048, .f32⟩
  | .hbm, ⟨35, _⟩ => ⟨S1x2048, .f32⟩
  | .hbm, ⟨36, _⟩ => ⟨S33280x2048, .f32⟩
  | .hbm, ⟨37, _⟩ => ⟨S33280x2048, .f32⟩
  | .hbm, ⟨38, _⟩ => ⟨S1x2048, .f32⟩
  | .hbm, ⟨39, _⟩ => ⟨S33280x2048, .f32⟩
  | .hbm, ⟨40, _⟩ => ⟨S33280x2048, .f32⟩
  | .hbm, ⟨41, _⟩ => ⟨S33280x2048, .bf16⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== MmDown.lean ====
abbrev S33280x5632 : Shape := ⟨2, ![33280, 5632]⟩
abbrev S5632x2048 : Shape := ⟨2, ![5632, 2048]⟩
abbrev S33280x2048 : Shape := ⟨2, ![33280, 2048]⟩
abbrev S2048 : Shape := ⟨1, ![2048]⟩
abbrev S1x2048 : Shape := ⟨2, ![1, 2048]⟩
abbrev S640x1408 : Shape := ⟨2, ![640, 1408]⟩
abbrev S1408x2048 : Shape := ⟨2, ![1408, 2048]⟩
abbrev S640x2048 : Shape := ⟨2, ![640, 2048]⟩
abbrev S640 : Shape := ⟨1, ![640]⟩
abbrev S640x1 : Shape := ⟨2, ![640, 1]⟩

abbrev nBuf : Space → Nat
  | .hbm => 9
  | .vmem => 13
  | .smem => 0
  | _ => 0

abbrev bufTy : (tb : Table) → Fin (tcTables nBuf tb) → BufTy
  | .hbm, ⟨0, _⟩ => ⟨S33280x5632, .bf16⟩
  | .hbm, ⟨1, _⟩ => ⟨S5632x2048, .bf16⟩
  | .hbm, ⟨2, _⟩ => ⟨S33280x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S33280x2048, .f32⟩
  | .hbm, ⟨8, _⟩ => ⟨S33280x2048, .bf16⟩
  | .local _ .vmem, ⟨0, _⟩ => ⟨S640x1408, .bf16⟩
  | .local _ .vmem, ⟨1, _⟩ => ⟨S640x1408, .bf16⟩
  | .local _ .vmem, ⟨2, _⟩ => ⟨S1408x2048, .bf16⟩
  | .local _ .vmem, ⟨3, _⟩ => ⟨S1408x2048, .bf16⟩
  | .local _ .vmem, ⟨4, _⟩ => ⟨S640x2048, .f32⟩
  | .local _ .vmem, ⟨5, _⟩ => ⟨S640x2048, .f32⟩
  | .local _ .vmem, ⟨6, _⟩ => ⟨S1x2048, .f32⟩
  | .local _ .vmem, ⟨7, _⟩ => ⟨S1x2048, .f32⟩
  | .local _ .vmem, ⟨8, _⟩ => ⟨S640x2048, .f32⟩
  | .local _ .vmem, ⟨9, _⟩ => ⟨S640x2048, .f32⟩
  | .local _ .vmem, ⟨10, _⟩ => ⟨S640x2048, .bf16⟩
  | .local _ .vmem, ⟨11, _⟩ => ⟨S640x2048, .bf16⟩
  | .local _ .vmem, ⟨12, _⟩ => ⟨S640x2048, .f32⟩
  | _, _ => ⟨S33280x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![52, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MmDownRefIdeal.lean ====
abbrev S33280x5632 : Shape := ⟨2, ![33280, 5632]⟩
abbrev S5632x2048 : Shape := ⟨2, ![5632, 2048]⟩
abbrev S33280x2048 : Shape := ⟨2, ![33280, 2048]⟩
abbrev S2048 : Shape := ⟨1, ![2048]⟩
abbrev S_ : Shape := ⟨0, ![]⟩
abbrev S33280 : Shape := ⟨1, ![33280]⟩
abbrev S33280x1 : Shape := ⟨2, ![33280, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S33280x5632, .bf16⟩
  | .hbm, ⟨1, _⟩ => ⟨S5632x2048, .bf16⟩
  | .hbm, ⟨2, _⟩ => ⟨S33280x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S33280x2048, .f32⟩
  | .hbm, ⟨7, _⟩ => ⟨S33280x2048, .f32⟩
  | .hbm, ⟨8, _⟩ => ⟨S33280x5632, .f32⟩
  | .hbm, ⟨9, _⟩ => ⟨S5632x2048, .f32⟩
  | .hbm, ⟨10, _⟩ => ⟨S33280x2048, .f32⟩
  | .hbm, ⟨11, _⟩ => ⟨S33280x2048, .f32⟩
  | .hbm, ⟨12, _⟩ => ⟨S_, .f32⟩
  | .hbm, ⟨13, _⟩ => ⟨S33280, .f32⟩
  | .hbm, ⟨14, _⟩ => ⟨S33280x1, .f32⟩
  | .hbm, ⟨15, _⟩ => ⟨S_, .f32⟩
  | .hbm, ⟨16, _⟩ => ⟨S33280x1, .f32⟩
  | .hbm, ⟨17, _⟩ => ⟨S33280x1, .f32⟩
  | .hbm, ⟨18, _⟩ => ⟨S33280x2048, .f32⟩
  | .hbm, ⟨19, _⟩ => ⟨S33280x2048, .f32⟩
  | .hbm, ⟨20, _⟩ => ⟨S33280x2048, .f32⟩
  | .hbm, ⟨21, _⟩ => ⟨S_, .f32⟩
  | .hbm, ⟨22, _⟩ => ⟨S33280, .f32⟩
  | .hbm, ⟨23, _⟩ => ⟨S33280x1, .f32⟩
  | .hbm, ⟨24, _⟩ => ⟨S_, .f32⟩
  | .hbm, ⟨25, _⟩ => ⟨S33280x1, .f32⟩
  | .hbm, ⟨26, _⟩ => ⟨S33280x1, .f32⟩
  | .hbm, ⟨27, _⟩ => ⟨S33280x2048, .f32⟩
  | .hbm, ⟨28, _⟩ => ⟨S33280x2048, .f32⟩
  | .hbm, ⟨29, _⟩ => ⟨S_, .f32⟩
  | .hbm, ⟨30, _⟩ => ⟨S33280x1, .f32⟩
  | .hbm, ⟨31, _⟩ => ⟨S33280x1, .f32⟩
  | .hbm, ⟨32, _⟩ => ⟨S33280x1, .f32⟩
  | .hbm, ⟨33, _⟩ => ⟨S33280x2048, .f32⟩
  | .hbm, ⟨34, _⟩ => ⟨S33280x2048, .f32⟩
  | .hbm, ⟨35, _⟩ => ⟨S1x2048, .f32⟩
  | .hbm, ⟨36, _⟩ => ⟨S33280x2048, .f32⟩
  | .hbm, ⟨37, _⟩ => ⟨S33280x2048, .f32⟩
  | .hbm, ⟨38, _⟩ => ⟨S1x2048, .f32⟩
  | .hbm, ⟨39, _⟩ => ⟨S33280x2048, .f32⟩
  | .hbm, ⟨40, _⟩ => ⟨S33280x2048, .f32⟩
  | .hbm, ⟨41, _⟩ => ⟨S33280x2048, .bf16⟩
  | _, _ => ⟨S33280x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== KvUp.lean ====
abbrev S33280x640 : Shape := ⟨2, ![33280, 640]⟩
abbrev S512 : Shape := ⟨1, ![512]⟩
abbrev S512x2048 : Shape := ⟨2, ![512, 2048]⟩
abbrev S2048x512 : Shape := ⟨2, ![2048, 512]⟩
abbrev S33280x128 : Shape := ⟨2, ![33280, 128]⟩
abbrev S1x512 : Shape := ⟨2, ![1, 512]⟩
abbrev S33280x4096 : Shape := ⟨2, ![33280, 4096]⟩
abbrev S2048x33280 : Shape := ⟨2, ![2048, 33280]⟩
abbrev S512x640 : Shape := ⟨2, ![512, 640]⟩
abbrev S512x128 : Shape := ⟨2, ![512, 128]⟩
abbrev S512x4096 : Shape := ⟨2, ![512, 4096]⟩
abbrev S512x512 : Shape := ⟨2, ![512, 512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S33280x640, .bf16⟩
  | .hbm, ⟨1, _⟩ => ⟨S512, .f32⟩
  | .hbm, ⟨2, _⟩ => ⟨S512x2048, .bf16⟩
  | .hbm, ⟨3, _⟩ => ⟨S2048x512, .bf16⟩
  | .hbm, ⟨4, _⟩ => ⟨S33280x128, .f32⟩
  | .hbm, ⟨5, _⟩ => ⟨S1x512, .f32⟩
  | .hbm, ⟨6, _⟩ => ⟨S33280x4096, .bf16⟩
  | .hbm, ⟨7, _⟩ => ⟨S2048x33280, .bf16⟩
  | .local _ .vmem, ⟨0, _⟩ => ⟨S512x640, .bf16⟩
  | .local _ .vmem, ⟨1, _⟩ => ⟨S512x640, .bf16⟩
  | .local _ .vmem, ⟨2, _⟩ => ⟨S1x512, .f32⟩
  | .local _ .vmem, ⟨3, _⟩ => ⟨S512x2048, .bf16⟩
  | .local _ .vmem, ⟨4, _⟩ => ⟨S2048x512, .bf16⟩
  | .local _ .vmem, ⟨5, _⟩ => ⟨S512x128, .f32⟩
  | .local _ .vmem, ⟨6, _⟩ => ⟨S512x128, .f32⟩
  | .local _ .vmem, ⟨7, _⟩ => ⟨S512x4096, .bf16⟩
  | .local _ .vmem, ⟨8, _⟩ => ⟨S512x4096, .bf16⟩
  | .local _ .vmem, ⟨9, _⟩ => ⟨S2048x512, .bf16⟩
  | .local _ .vmem, ⟨10, _⟩ => ⟨S2048x512, .bf16⟩
  | _, _ => ⟨S33280x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KvUpRefIdeal.lean ====
abbrev S33280x640 : Shape := ⟨2, ![33280, 640]⟩
abbrev S512 : Shape := ⟨1, ![512]⟩
abbrev S512x2048 : Shape := ⟨2, ![512, 2048]⟩
abbrev S2048x512 : Shape := ⟨2, ![2048, 512]⟩
abbrev S33280x128 : Shape := ⟨2, ![33280, 128]⟩
abbrev S33280x512 : Shape := ⟨2, ![33280, 512]⟩
abbrev S_ : Shape := ⟨0, ![]⟩
abbrev S33280 : Shape := ⟨1, ![33280]⟩
abbrev S33280x1 : Shape := ⟨2, ![33280, 1]⟩
abbrev S1x512 : Shape := ⟨2, ![1, 512]⟩
abbrev S33280x2048 : Shape := ⟨2, ![33280, 2048]⟩
abbrev S33280x16x128 : Shape := ⟨3, ![33280, 16, 128]⟩
abbrev S33280x64 : Shape := ⟨2, ![33280, 64]⟩
abbrev S33280x1x128 : Shape := ⟨3, ![33280, 1, 128]⟩
abbrev S33280x16x256 : Shape := ⟨3, ![33280, 16, 256]⟩
abbrev S33280x4096 : Shape := ⟨2, ![33280, 4096]⟩
abbrev S2048x33280 : Shape := ⟨2, ![2048, 33280]⟩

abbrev nBuf : Space → Nat
  | .hbm => 48
  | .vmem => 0
  | .smem => 0
  | _ => 0

abbrev bufTy : (tb : Table) → Fin (tcTables nBuf tb) → BufTy
  | .hbm, ⟨0, _⟩ => ⟨S33280x640, .bf16⟩
  | .hbm, ⟨1, _⟩ => ⟨S512, .f32⟩
  | .hbm, ⟨2, _⟩ => ⟨S512x2048, .bf16⟩
  | .hbm, ⟨3, _⟩ => ⟨S2048x512, .bf16⟩
  | .hbm, ⟨4, _⟩ => ⟨S33280x128, .f32⟩
  | .hbm, ⟨5, _⟩ => ⟨S33280x640, .f32⟩
  | .hbm, ⟨6, _⟩ => ⟨S33280x512, .f32⟩
  | .hbm, ⟨7, _⟩ => ⟨S33280x512, .f32⟩
  | .hbm, ⟨8, _⟩ => ⟨S_, .f32⟩
  | .hbm, ⟨9, _⟩ => ⟨S33280, .f32⟩
  | .hbm, ⟨10, _⟩ => ⟨S33280x1, .f32⟩
  | .hbm, ⟨11, _⟩ => ⟨S_, .f32⟩
  | .hbm, ⟨12, _⟩ => ⟨S33280x1, .f32⟩
  | .hbm, ⟨13, _⟩ => ⟨S33280x1, .f32⟩
  | .hbm, ⟨14, _⟩ => ⟨S_, .f32⟩
  | .hbm, ⟨15, _⟩ => ⟨S33280x1, .f32⟩
  | .hbm, ⟨16, _⟩ => ⟨S33280x1, .f32⟩
  | .hbm, ⟨17, _⟩ => ⟨S33280x1, .f32⟩
  | .hbm, ⟨18, _⟩ => ⟨S33280x512, .f32⟩
  | .hbm, ⟨19, _⟩ => ⟨S33280x512, .f32⟩
  | .hbm, ⟨20, _⟩ => ⟨S1x512, .f32⟩
  | .hbm, ⟨21, _⟩ => ⟨S33280x512, .f32⟩
  | .hbm, ⟨22, _⟩ => ⟨S33280x512, .f32⟩
  | .hbm, ⟨23, _⟩ => ⟨S33280x512, .bf16⟩
  | .hbm, ⟨24, _⟩ => ⟨S33280x512, .f32⟩
  | .hbm, ⟨25, _⟩ => ⟨S512x2048, .f32⟩
  | .hbm, ⟨26, _⟩ => ⟨S33280x2048, .f32⟩
  | .hbm, ⟨27, _⟩ => ⟨S33280x16x128, .f32⟩
  | .hbm, ⟨28, _⟩ => ⟨S2048x512, .f32⟩
  | .hbm, ⟨29, _⟩ => ⟨S512x2048, .f32⟩
  | .hbm, ⟨30, _⟩ => ⟨S33280x2048, .f32⟩
  | .hbm, ⟨31, _⟩ => ⟨S33280x128, .f32⟩
  | .hbm, ⟨32, _⟩ => ⟨S33280x128, .f32⟩
  | .hbm, ⟨33, _⟩ => ⟨S33280x64, .f32⟩
  | .hbm, ⟨34, _⟩ => ⟨S33280x64, .f32⟩
  | .hbm, ⟨35, _⟩ => ⟨S33280x128, .f32⟩
  | .hbm, ⟨36, _⟩ => ⟨S33280x128, .f32⟩
  | .hbm, ⟨37, _⟩ => ⟨S33280x64, .f32⟩
  | .hbm, ⟨38, _⟩ => ⟨S_, .f32⟩
  | .hbm, ⟨39, _⟩ => ⟨S33280x64, .f32⟩
  | .hbm, ⟨40, _⟩ => ⟨S33280x128, .f32⟩
  | .hbm, ⟨41, _⟩ => ⟨S33280x1x128, .f32⟩
  | .hbm, ⟨42, _⟩ => ⟨S33280x16x128, .f32⟩
  | .hbm, ⟨43, _⟩ => ⟨S33280x16x256, .f32⟩
  | .hbm, ⟨44, _⟩ => ⟨S33280x4096, .f32⟩
  | .hbm, ⟨45, _⟩ => ⟨S33280x4096, .bf16⟩
  | .hbm, ⟨46, _⟩ => ⟨S2048x33280, .f32⟩
  | .hbm, ⟨47, _⟩ => ⟨S2048x33280, .bf16⟩
  | _, _ => ⟨S33280x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Ln0.lean ====
abbrev S32768x2048 : Shape := ⟨2, ![32768, 2048]⟩
abbrev S512x2048 : Shape := ⟨2, ![512, 2048]⟩
abbrev S2048 : Shape := ⟨1, ![2048]⟩
abbrev S1x2048 : Shape := ⟨2, ![1, 2048]⟩
abbrev S33280x2048 : Shape := ⟨2, ![33280, 2048]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S512x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S33280x2048, .f32⟩
  | .hbm, ⟨7, _⟩ => ⟨S33280x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ln0RefIdeal.lean ====
abbrev S32768x2048 : Shape := ⟨2, ![32768, 2048]⟩
abbrev S512x2048 : Shape := ⟨2, ![512, 2048]⟩
abbrev S2048 : Shape := ⟨1, ![2048]⟩
abbrev S33280x2048 : Shape := ⟨2, ![33280, 2048]⟩
abbrev S_ : Shape := ⟨0, ![]⟩
abbrev S33280 : Shape := ⟨1, ![33280]⟩
abbrev S33280x1 : Shape := ⟨2, ![33280, 1]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S512x2048, .f32⟩
  | .hbm, ⟨2, _⟩ => ⟨S2048, .f32⟩
  | .hbm, ⟨3, _⟩ => ⟨S2048, .f32⟩
  | .hbm, ⟨4, _⟩ => ⟨S33280x2048, .f32⟩
  | .hbm, ⟨5, _⟩ => ⟨S_, .f32⟩
  | .hbm, ⟨6, _⟩ => ⟨S33280, .f32⟩
  | .hbm, ⟨7, _⟩ => ⟨S33280x1, .f32⟩
  | .hbm, ⟨8, _⟩ => ⟨S_, .f32⟩
  | .hbm, ⟨9, _⟩ => ⟨S33280x1, .f32⟩
  | .hbm, ⟨10, _⟩ => ⟨S33280x1, .f32⟩
  | .hbm, ⟨11, _⟩ => ⟨S33280x2048, .f32⟩
  | .hbm, ⟨12, _⟩ => ⟨S33280x2048, .f32⟩
  | .hbm, ⟨13, _⟩ => ⟨S33280x2048, .f32⟩
  | .hbm, ⟨14, _⟩ => ⟨S_, .f32⟩
  | .hbm, ⟨15, _⟩ => ⟨S33280, .f32⟩
  | .hbm, ⟨16, _⟩ => ⟨S33280x1, .f32⟩
  | .hbm, ⟨17, _⟩ => ⟨S_, .f32⟩
  | .hbm, ⟨18, _⟩ => ⟨S33280x1, .f32⟩
  | .hbm, ⟨19, _⟩ => ⟨S33280x1, .f32⟩
  | .hbm, ⟨20, _⟩ => ⟨S33280x2048, .f32⟩
  | .hbm, ⟨21, _⟩ => ⟨S33280x2048, .f32⟩
  | .hbm, ⟨22, _⟩ => ⟨S_, .f32⟩
  | .hbm, ⟨23, _⟩ => ⟨S33280x1, .f32⟩
  | .hbm, ⟨24, _⟩ => ⟨S33280x1, .f32⟩
  | .hbm, ⟨25, _⟩ => ⟨S33280x1, .f32⟩
  | .hbm, ⟨26, _⟩ => ⟨S33280x2048, .f32⟩
  | .hbm, ⟨27, _⟩ => ⟨S33280x2048, .f32⟩
  | .hbm, ⟨28, _⟩ => ⟨S1x2048, .f32⟩
  | .hbm, ⟨29, _⟩ => ⟨S33280x2048, .f32⟩
  | .hbm, ⟨30, _⟩ => ⟨S33280x2048, .f32⟩
  | .hbm, ⟨31, _⟩ => ⟨S1x2048, .f32⟩
  | .hbm, ⟨32, _⟩ => ⟨S33280x2048, .f32⟩
  | .hbm, ⟨33, _⟩ => ⟨S33280x2048, .f32⟩
  | .hbm, ⟨34, _⟩ => ⟨S33280x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== SsmMeta.lean ====
abbrev S16x2048 : Shape := ⟨2, ![16, 2048]⟩
abbrev S1x2048 : Shape := ⟨2, ![1, 2048]⟩
abbrev S512x2048 : Shape := ⟨2, ![512, 2048]⟩
abbrev S496x2048 : Shape := ⟨2, ![496, 2048]⟩

abbrev nBuf : Space → Nat
  | .hbm => 4
  | .vmem => 4
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S1x2048, .f32⟩
  | .hbm, ⟨3, _⟩ => ⟨S512x2048, .f32⟩
  | .local _ .vmem, ⟨0, _⟩ => ⟨S16x2048, .f32⟩
  | .local _ .vmem, ⟨1, _⟩ => ⟨S16x2048, .f32⟩
  | .local _ .vmem, ⟨2, _⟩ => ⟨S1x2048, .f32⟩
  | .local _ .vmem, ⟨3, _⟩ => ⟨S512x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== SsmMetaRefIdeal.lean ====
abbrev S16x2048 : Shape := ⟨2, ![16, 2048]⟩
abbrev S1x2048 : Shape := ⟨2, ![1, 2048]⟩
abbrev S_ : Shape := ⟨0, ![]⟩
abbrev S496x2048 : Shape := ⟨2, ![496, 2048]⟩
abbrev S512x2048 : Shape := ⟨2, ![512, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S1x2048, .f32⟩
  | .hbm, ⟨3, _⟩ => ⟨S16x2048, .f32⟩
  | .hbm, ⟨4, _⟩ => ⟨S16x2048, .f32⟩
  | .hbm, ⟨5, _⟩ => ⟨S16x2048, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S16x2048, .f32⟩
  | .hbm, ⟨16, _⟩ => ⟨S_, .f32⟩
  | .hbm, ⟨17, _⟩ => ⟨S16x2048, .f32⟩
  | .hbm, ⟨18, _⟩ => ⟨S16x2048, .f32⟩
  | .hbm, ⟨19, _⟩ => ⟨S_, .f32⟩
  | .hbm, ⟨20, _⟩ => ⟨S16x2048, .f32⟩
  | .hbm, ⟨21, _⟩ => ⟨S16x2048, .f32⟩
  | .hbm, ⟨22, _⟩ => ⟨S16x2048, .f32⟩
  | .hbm, ⟨23, _⟩ => ⟨S_, .f32⟩
  | .hbm, ⟨24, _⟩ => ⟨S496x2048, .f32⟩
  | .hbm, ⟨25, _⟩ => ⟨S512x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== AttnMeta.lean ====
abbrev S33280x4096 : Shape := ⟨2, ![33280, 4096]⟩
abbrev S2048x33280 : Shape := ⟨2, ![2048, 33280]⟩
abbrev S512x2048 : Shape := ⟨2, ![512, 2048]⟩
abbrev S512x256 : Shape := ⟨2, ![512, 256]⟩
abbrev S128x256 : Shape := ⟨2, ![128, 256]⟩
abbrev S128x128 : Shape := ⟨2, ![128, 128]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S33280x4096, .bf16⟩
  | .hbm, ⟨1, _⟩ => ⟨S33280x4096, .bf16⟩
  | .hbm, ⟨2, _⟩ => ⟨S2048x33280, .bf16⟩
  | .hbm, ⟨3, _⟩ => ⟨S512x2048, .bf16⟩
  | .local _ .vmem, ⟨0, _⟩ => ⟨S512x256, .bf16⟩
  | .local _ .vmem, ⟨1, _⟩ => ⟨S512x256, .bf16⟩
  | .local _ .vmem, ⟨2, _⟩ => ⟨S128x256, .bf16⟩
  | .local _ .vmem, ⟨3, _⟩ => ⟨S128x256, .bf16⟩
  | .local _ .vmem, ⟨4, _⟩ => ⟨S128x128, .bf16⟩
  | .local _ .vmem, ⟨5, _⟩ => ⟨S128x128, .bf16⟩
  | .local _ .vmem, ⟨6, _⟩ => ⟨S512x128, .bf16⟩
  | .local _ .vmem, ⟨7, _⟩ => ⟨S512x128, .bf16⟩
  | _, _ => ⟨S33280x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c64_i32 : BitVec 32 := 64#32
  let c0_i32 : BitVec 32 := 0#32
  ![c64_i32.toNat, arg0.toNat]

def cc0_transform_1 (i : grid0.Coords) : Fin 2 → Nat :=
  let arg0 : BitVec 32 := BitVec.ofNat 32 (i 0).val
  let c256_i32 : BitVec 32 := 256#32
  let c0_i32 : BitVec 32 := 0#32
  ![c256_i32.toNat, arg0.toNat]

def cc0_transform_2 (i : grid0.Coords) : Fin 2 → Nat :=
  let arg0 : BitVec 32 := BitVec.ofNat 32 (i 0).val
  let c256_i32 : BitVec 32 := 256#32
  let c0_i32 : BitVec 32 := 0#32
  ![arg0.toNat, c256_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnMetaRefIdeal.lean ====
abbrev S33280x4096 : Shape := ⟨2, ![33280, 4096]⟩
abbrev S2048x33280 : Shape := ⟨2, ![2048, 33280]⟩
abbrev S512x4096 : Shape := ⟨2, ![512, 4096]⟩
abbrev S512x16x256 : Shape := ⟨3, ![512, 16, 256]⟩
abbrev S16x4096 : Shape := ⟨2, ![16, 4096]⟩
abbrev S16x16x256 : Shape := ⟨3, ![16, 16, 256]⟩
abbrev S2048x16 : Shape := ⟨2, ![2048, 16]⟩
abbrev S16x128x16 : Shape := ⟨3, ![16, 128, 16]⟩
abbrev S16x512x16 : Shape := ⟨3, ![16, 512, 16]⟩
abbrev S_ : Shape := ⟨0, ![]⟩
abbrev S16x512 : Shape := ⟨2, ![16, 512]⟩
abbrev S16x512x1 : Shape := ⟨3, ![16, 512, 1]⟩
abbrev S16x128x512 : Shape := ⟨3, ![16, 128, 512]⟩
abbrev S512x16x128 : Shape := ⟨3, ![512, 16, 128]⟩
abbrev S512x2048 : Shape := ⟨2, ![512, 2048]⟩

abbrev nBuf : Space → Nat
  | .hbm => 30
  | .vmem => 0
  | .smem => 0
  | _ => 0

abbrev bufTy : (tb : Table) → Fin (tcTables nBuf tb) → BufTy
  | .hbm, ⟨0, _⟩ => ⟨S33280x4096, .bf16⟩
  | .hbm, ⟨1, _⟩ => ⟨S33280x4096, .bf16⟩
  | .hbm, ⟨2, _⟩ => ⟨S2048x33280, .bf16⟩
  | .hbm, ⟨3, _⟩ => ⟨S512x4096, .bf16⟩
  | .hbm, ⟨4, _⟩ => ⟨S512x4096, .f32⟩
  | .hbm, ⟨5, _⟩ => ⟨S512x16x256, .f32⟩
  | .hbm, ⟨6, _⟩ => ⟨S16x4096, .bf16⟩
  | .hbm, ⟨7, _⟩ => ⟨S16x4096, .f32⟩
  | .hbm, ⟨8, _⟩ => ⟨S16x16x256, .f32⟩
  | .hbm, ⟨9, _⟩ => ⟨S2048x16, .bf16⟩
  | .hbm, ⟨10, _⟩ => ⟨S2048x16, .f32⟩
  | .hbm, ⟨11, _⟩ => ⟨S16x128x16, .f32⟩
  | .hbm, ⟨12, _⟩ => ⟨S16x512x16, .f32⟩
  | .hbm, ⟨13, _⟩ => ⟨S_, .f32⟩
  | .hbm, ⟨14, _⟩ => ⟨S16x512, .f32⟩
  | .hbm, ⟨15, _⟩ => ⟨S16x512x1, .f32⟩
  | .hbm, ⟨16, _⟩ => ⟨S16x512x16, .f32⟩
  | .hbm, ⟨17, _⟩ => ⟨S16x512x16, .f32⟩
  | .hbm, ⟨18, _⟩ => ⟨S_, .f32⟩
  | .hbm, ⟨19, _⟩ => ⟨S16x512x16, .f32⟩
  | .hbm, ⟨20, _⟩ => ⟨S16x512x16, .f32⟩
  | .hbm, ⟨21, _⟩ => ⟨S_, .f32⟩
  | .hbm, ⟨22, _⟩ => ⟨S16x512, .f32⟩
  | .hbm, ⟨23, _⟩ => ⟨S16x512x1, .f32⟩
  | .hbm, ⟨24, _⟩ => ⟨S16x512x16, .f32⟩
  | .hbm, ⟨25, _⟩ => ⟨S16x512x16, .f32⟩
  | .hbm, ⟨26, _⟩ => ⟨S16x128x512, .f32⟩
  | .hbm, ⟨27, _⟩ => ⟨S512x16x128, .f32⟩
  | .hbm, ⟨28, _⟩ => ⟨S512x2048, .f32⟩
  | .hbm, ⟨29, _⟩ => ⟨S512x2048, .bf16⟩
  | _, _ => ⟨S33280x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Attn.lean ====
abbrev S33280x4096 : Shape := ⟨2, ![33280, 4096]⟩
abbrev S2048x33280 : Shape := ⟨2, ![2048, 33280]⟩
abbrev S36 : Shape := ⟨1, ![36]⟩
abbrev S32768x4096 : Shape := ⟨2, ![32768, 4096]⟩
abbrev S2048x32768 : Shape := ⟨2, ![2048, 32768]⟩
abbrev S32768x2048 : Shape := ⟨2, ![32768, 2048]⟩
abbrev S1024x1024 : Shape := ⟨2, ![1024, 1024]⟩
abbrev S1 : Shape := ⟨1, ![1]⟩
abbrev S512x1024 : Shape := ⟨2, ![512, 1024]⟩
abbrev S128x1024 : Shape := ⟨2, ![128, 1024]⟩
abbrev S512x128 : Shape := ⟨2, ![512, 128]⟩
abbrev S1024x512 : Shape := ⟨2, ![1024, 512]⟩
abbrev S4x1x1024 : Shape := ⟨3, ![4, 1, 1024]⟩
abbrev S4x128x1024 : Shape := ⟨3, ![4, 128, 1024]⟩
abbrev S4x1024x1024 : Shape := ⟨3, ![4, 1024, 1024]⟩
abbrev S1x1024 : Shape := ⟨2, ![1, 1024]⟩
abbrev S1x1x1024 : Shape := ⟨3, ![1, 1, 1024]⟩
abbrev S1x128x1024 : Shape := ⟨3, ![1, 128, 1024]⟩
abbrev S1x1x256 : Shape := ⟨3, ![1, 1, 256]⟩
abbrev S1x256 : Shape := ⟨2, ![1, 256]⟩
abbrev S128x256 : Shape := ⟨2, ![128, 256]⟩
abbrev S1024x256 : Shape := ⟨2, ![1024, 256]⟩
abbrev S256 : Shape := ⟨1, ![256]⟩
abbrev S1x128x256 : Shape := ⟨3, ![1, 128, 256]⟩
abbrev S128x128 : Shape := ⟨2, ![128, 128]⟩
abbrev S256x256 : Shape := ⟨2, ![256, 256]⟩
abbrev S256x1024 : Shape := ⟨2, ![256, 1024]⟩
abbrev S1x256x256 : Shape := ⟨3, ![1, 256, 256]⟩
abbrev S768x256 : Shape := ⟨2, ![768, 256]⟩
abbrev S256x768 : Shape := ⟨2, ![256, 768]⟩
abbrev S512x256 : Shape := ⟨2, ![512, 256]⟩
abbrev S256x512 : Shape := ⟨2, ![256, 512]⟩
abbrev S256x128 : Shape := ⟨2, ![256, 128]⟩

abbrev nBuf : Space → Nat
  | .hbm => 7
  | .vmem => 17
  | .smem => 2
  | _ => 0

abbrev bufTy : (tb : Table) → Fin (tcTables nBuf tb) → BufTy
  | .hbm, ⟨0, _⟩ => ⟨S33280x4096, .bf16⟩
  | .hbm, ⟨1, _⟩ => ⟨S33280x4096, .bf16⟩
  | .hbm, ⟨2, _⟩ => ⟨S2048x33280, .bf16⟩
  | .hbm, ⟨3, _⟩ => ⟨S32768x4096, .bf16⟩
  | .hbm, ⟨4, _⟩ => ⟨S32768x4096, .bf16⟩
  | .hbm, ⟨5, _⟩ => ⟨S2048x32768, .bf16⟩
  | .hbm, ⟨6, _⟩ => ⟨S32768x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S128x1024, .bf16⟩
  | .local _ .vmem, ⟨7, _⟩ => ⟨S128x1024, .bf16⟩
  | .local _ .vmem, ⟨8, _⟩ => ⟨S512x128, .bf16⟩
  | .local _ .vmem, ⟨9, _⟩ => ⟨S512x128, .bf16⟩
  | .local _ .vmem, ⟨10, _⟩ => ⟨S1024x512, .bf16⟩
  | .local _ .vmem, ⟨11, _⟩ => ⟨S1024x512, .bf16⟩
  | .local _ .vmem, ⟨12, _⟩ => ⟨S4x1x1024, .f32⟩
  | .local _ .vmem, ⟨13, _⟩ => ⟨S4x1x1024, .f32⟩
  | .local _ .vmem, ⟨14, _⟩ => ⟨S4x128x1024, .f32⟩
  | .local _ .vmem, ⟨15, _⟩ => ⟨S4x1024x1024, .f32⟩
  | .local _ .vmem, ⟨16, _⟩ => ⟨S4x1x1024, .f32⟩
  | .local _ .smem, ⟨0, _⟩ => ⟨S36, .i32⟩
  | .local _ .smem, ⟨1, _⟩ => ⟨S36, .i32⟩
  | _, _ => ⟨S33280x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 36], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond5 (v1 : BitVec 32) (v3 : BitVec 32) : BitVec 1 :=
  let v16 : BitVec 1 := Scalar.cmpi .eq v3 v1
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  ![arg1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let c0_i32 : BitVec 32 := 0#32
  ![c256_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let c0_i32 : BitVec 32 := 0#32
  ![arg1.toNat, c256_i32.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S33280x4096 : Shape := ⟨2, ![33280, 4096]⟩
abbrev S2048x33280 : Shape := ⟨2, ![2048, 33280]⟩
abbrev S32768x4096 : Shape := ⟨2, ![32768, 4096]⟩
abbrev S4x8192x16x256 : Shape := ⟨4, ![4, 8192, 16, 256]⟩
abbrev S33280x16x256 : Shape := ⟨3, ![33280, 16, 256]⟩
abbrev S33280x2048 : Shape := ⟨2, ![33280, 2048]⟩
abbrev S33280x16x128 : Shape := ⟨3, ![33280, 16, 128]⟩
abbrev S16x16x256 : Shape := ⟨3, ![16, 16, 256]⟩
abbrev S1x16x16x256 : Shape := ⟨4, ![1, 16, 16, 256]⟩
abbrev S4x16x16x256 : Shape := ⟨4, ![4, 16, 16, 256]⟩
abbrev S32768x16x256 : Shape := ⟨3, ![32768, 16, 256]⟩
abbrev S4x8208x16x256 : Shape := ⟨4, ![4, 8208, 16, 256]⟩
abbrev S16x16x128 : Shape := ⟨3, ![16, 16, 128]⟩
abbrev S1x16x16x128 : Shape := ⟨4, ![1, 16, 16, 128]⟩
abbrev S4x16x16x128 : Shape := ⟨4, ![4, 16, 16, 128]⟩
abbrev S32768x16x128 : Shape := ⟨3, ![32768, 16, 128]⟩
abbrev S4x8192x16x128 : Shape := ⟨4, ![4, 8192, 16, 128]⟩
abbrev S4x8208x16x128 : Shape := ⟨4, ![4, 8208, 16, 128]⟩
abbrev S8208 : Shape := ⟨1, ![8208]⟩
abbrev S_ : Shape := ⟨0, ![]⟩
abbrev S4x16x8192x8208 : Shape := ⟨4, ![4, 16, 8192, 8208]⟩
abbrev S1x8208 : Shape := ⟨2, ![1, 8208]⟩
abbrev S8192 : Shape := ⟨1, ![8192]⟩
abbrev S8192x1 : Shape := ⟨2, ![8192, 1]⟩
abbrev S8192x8208 : Shape := ⟨2, ![8192, 8208]⟩
abbrev S1x1x8192x8208 : Shape := ⟨4, ![1, 1, 8192, 8208]⟩
abbrev S4x16x8192 : Shape := ⟨3, ![4, 16, 8192]⟩
abbrev S4x16x8192x1 : Shape := ⟨4, ![4, 16, 8192, 1]⟩
abbrev S4x16x128x8192 : Shape := ⟨4, ![4, 16, 128, 8192]⟩
abbrev S32768x2048 : Shape := ⟨2, ![32768, 2048]⟩

abbrev nBuf : Space → Nat
  | .hbm => 89
  | .vmem => 0
  | .smem => 0
  | _ => 0

abbrev bufTy : (tb : Table) → Fin (tcTables nBuf tb) → BufTy
  | .hbm, ⟨0, _⟩ => ⟨S33280x4096, .bf16⟩
  | .hbm, ⟨1, _⟩ => ⟨S33280x4096, .bf16⟩
  | .hbm, ⟨2, _⟩ => ⟨S2048x33280, .bf16⟩
  | .hbm, ⟨3, _⟩ => ⟨S32768x4096, .bf16⟩
  | .hbm, ⟨4, _⟩ => ⟨S32768x4096, .f32⟩
  | .hbm, ⟨5, _⟩ => ⟨S4x8192x16x256, .f32⟩
  | .hbm, ⟨6, _⟩ => ⟨S33280x4096, .f32⟩
  | .hbm, ⟨7, _⟩ => ⟨S33280x16x256, .f32⟩
  | .hbm, ⟨8, _⟩ => ⟨S2048x33280, .f32⟩
  | .hbm, ⟨9, _⟩ => ⟨S33280x2048, .f32⟩
  | .hbm, ⟨10, _⟩ => ⟨S33280x16x128, .f32⟩
  | .hbm, ⟨11, _⟩ => ⟨S16x16x256, .f32⟩
  | .hbm, ⟨12, _⟩ => ⟨S1x16x16x256, .f32⟩
  | .hbm, ⟨13, _⟩ => ⟨S4x16x16x256, .f32⟩
  | .hbm, ⟨14, _⟩ => ⟨S32768x16x256, .f32⟩
  | .hbm, ⟨15, _⟩ => ⟨S4x8192x16x256, .f32⟩
  | .hbm, ⟨16, _⟩ => ⟨S4x8208x16x256, .f32⟩
  | .hbm, ⟨17, _⟩ => ⟨S16x16x128, .f32⟩
  | .hbm, ⟨18, _⟩ => ⟨S1x16x16x128, .f32⟩
  | .hbm, ⟨19, _⟩ => ⟨S4x16x16x128, .f32⟩
  | .hbm, ⟨20, _⟩ => ⟨S32768x16x128, .f32⟩
  | .hbm, ⟨21, _⟩ => ⟨S4x8192x16x128, .f32⟩
  | .hbm, ⟨22, _⟩ => ⟨S4x8208x16x128, .f32⟩
  | .hbm, ⟨23, _⟩ => ⟨S8208, .i32⟩
  | .hbm, ⟨24, _⟩ => ⟨S_, .i32⟩
  | .hbm, ⟨25, _⟩ => ⟨S8208, .i32⟩
  | .hbm, ⟨26, _⟩ => ⟨S8208, .i1⟩
  | .hbm, ⟨27, _⟩ => ⟨S_, .i32⟩
  | .hbm, ⟨28, _⟩ => ⟨S8208, .i32⟩
  | .hbm, ⟨29, _⟩ => ⟨S8208, .i32⟩
  | .hbm, ⟨30, _⟩ => ⟨S_, .i32⟩
  | .hbm, ⟨31, _⟩ => ⟨S_, .i32⟩
  | .hbm, ⟨32, _⟩ => ⟨S8208, .i32⟩
  | .hbm, ⟨33, _⟩ => ⟨S8208, .i32⟩
  | .hbm, ⟨34, _⟩ => ⟨S8208, .i32⟩
  | .hbm, ⟨35, _⟩ => ⟨S_, .i32⟩
  | .hbm, ⟨36, _⟩ => ⟨S8208, .i32⟩
  | .hbm, ⟨37, _⟩ => ⟨S8208, .i1⟩
  | .hbm, ⟨38, _⟩ => ⟨S8208, .i32⟩
  | .hbm, ⟨39, _⟩ => ⟨S8208, .i32⟩
  | .hbm, ⟨40, _⟩ => ⟨S_, .i32⟩
  | .hbm, ⟨41, _⟩ => ⟨S8208, .i32⟩
  | .hbm, ⟨42, _⟩ => ⟨S8208, .i1⟩
  | .hbm, ⟨43, _⟩ => ⟨S8208, .i1⟩
  | .hbm, ⟨44, _⟩ => ⟨S_, .i32⟩
  | .hbm, ⟨45, _⟩ => ⟨S8208, .i32⟩
  | .hbm, ⟨46, _⟩ => ⟨S8208, .i32⟩
  | .hbm, ⟨47, _⟩ => ⟨S8208, .i32⟩
  | .hbm, ⟨48, _⟩ => ⟨S_, .i32⟩
  | .hbm, ⟨49, _⟩ => ⟨S8208, .i32⟩
  | .hbm, ⟨50, _⟩ => ⟨S8208, .i32⟩
  | .hbm, ⟨51, _⟩ => ⟨S_, .i32⟩
  | .hbm, ⟨52, _⟩ => ⟨S_, .i32⟩
  | .hbm, ⟨53, _⟩ => ⟨S8208, .i32⟩
  | .hbm, ⟨54, _⟩ => ⟨S8208, .i32⟩
  | .hbm, ⟨55, _⟩ => ⟨S4x16x8192x8208, .f32⟩
  | .hbm, ⟨56, _⟩ => ⟨S_, .f32⟩
  | .hbm, ⟨57, _⟩ => ⟨S4x16x8192x8208, .f32⟩
  | .hbm, ⟨58, _⟩ => ⟨S4x16x8192x8208, .f32⟩
  | .hbm, ⟨59, _⟩ => ⟨S1x8208, .i32⟩
  | .hbm, ⟨60, _⟩ => ⟨S8192, .i32⟩
  | .hbm, ⟨61, _⟩ => ⟨S8192x1, .i32⟩
  | .hbm, ⟨62, _⟩ => ⟨S8192x8208, .i32⟩
  | .hbm, ⟨63, _⟩ => ⟨S8192x8208, .i32⟩
  | .hbm, ⟨64, _⟩ => ⟨S8192x8208, .i1⟩
  | .hbm, ⟨65, _⟩ => ⟨S1x1x8192x8208, .i1⟩
  | .hbm, ⟨66, _⟩ => ⟨S_, .f32⟩
  | .hbm, ⟨67, _⟩ => ⟨S_, .f32⟩
  | .hbm, ⟨68, _⟩ => ⟨S4x16x8192x8208, .i1⟩
  | .hbm, ⟨69, _⟩ => ⟨S4x16x8192x8208, .f32⟩
  | .hbm, ⟨70, _⟩ => ⟨S4x16x8192x8208, .f32⟩
  | .hbm, ⟨71, _⟩ => ⟨S_, .f32⟩
  | .hbm, ⟨72, _⟩ => ⟨S4x16x8192, .f32⟩
  | .hbm, ⟨73, _⟩ => ⟨S_, .f32⟩
  | .hbm, ⟨74, _⟩ => ⟨S4x16x8192, .f32⟩
  | .hbm, ⟨75, _⟩ => ⟨S4x16x8192, .f32⟩
  | .hbm, ⟨76, _⟩ => ⟨S4x16x8192x1, .f32⟩
  | .hbm, ⟨77, _⟩ => ⟨S4x16x8192x8208, .f32⟩
  | .hbm, ⟨78, _⟩ => ⟨S4x16x8192x8208, .f32⟩
  | .hbm, ⟨79, _⟩ => ⟨S4x16x8192x8208, .f32⟩
  | .hbm, ⟨80, _⟩ => ⟨S_, .f32⟩
  | .hbm, ⟨81, _⟩ => ⟨S4x16x8192, .f32⟩
  | .hbm, ⟨82, _⟩ => ⟨S4x16x8192x1, .f32⟩
  | .hbm, ⟨83, _⟩ => ⟨S4x16x8192x8208, .f32⟩
  | .hbm, ⟨84, _⟩ => ⟨S4x16x8192x8208, .f32⟩
  | .hbm, ⟨85, _⟩ => ⟨S4x16x128x8192, .f32⟩
  | .hbm, ⟨86, _⟩ => ⟨S4x8192x16x128, .f32⟩
  | .hbm, ⟨87, _⟩ => ⟨S32768x2048, .f32⟩
  | .hbm, ⟨88, _⟩ => ⟨S32768x2048, .bf16⟩
  | _, _ => ⟨S33280x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_c : Ref sig .tc := ⟨.hbm, 24, rfl⟩
abbrev main_v21 : Ref sig .tc := ⟨.hbm, 25, rfl⟩
abbrev main_v22 : Ref sig .tc := ⟨.hbm, 26, rfl⟩
abbrev main_c_0 : Ref sig .tc := ⟨.hbm, 27, rfl⟩
abbrev main_v23 : Ref sig .tc := ⟨.hbm, 28, rfl⟩
abbrev main_v24 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v25 : Ref sig .tc := ⟨.hbm, 47, rfl⟩
abbrev main_c_2 : Ref sig .tc := ⟨.hbm, 48, rfl⟩
abbrev main_v26 : Ref sig .tc := ⟨.hbm, 49, rfl⟩
abbrev main_v27 : Ref sig .tc := ⟨.hbm, 50, rfl⟩
abbrev main_c_3 : Ref sig .tc := ⟨.hbm, 51, rfl⟩
abbrev main_call1_v0 : Ref sig .tc := ⟨.hbm, 52, rfl⟩
abbrev main_call1_v1 : Ref sig .tc := ⟨.hbm, 53, rfl⟩
abbrev main_v28 : Ref sig .tc := ⟨.hbm, 54, rfl⟩
abbrev main_v29 : Ref sig .tc := ⟨.hbm, 55, rfl⟩
abbrev main_cst : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_4 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v39 : Ref sig .tc := ⟨.hbm, 70, rfl⟩
abbrev main_cst_5 : Ref sig .tc := ⟨.hbm, 71, rfl⟩
abbrev main_v40 : Ref sig .tc := ⟨.hbm, 72, rfl⟩
abbrev main_cst_6 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_7 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩

abbrev nD : Nat := 1
abbrev τ : Topo := Topo.v7x

variable {F : FTy → Type} [FloatOps F]
-- ==== Proof.FfnUpValue.lean ====
module

public import proofs.«01_k».proof.Proof.Gen.FfnUpIdeal.Value
public import proofs.«01_k».proof.Proof.Gen.FfnUpRefIdeal.Run
public import Idealize.ShloMosaic.Lib.Pipeline.ValueKit

/-! The gated up-projection of the feed-forward block: the array the kernel leaves is the reference's. -/

@[expose] public section

set_option maxRecDepth 16384

noncomputable section

open Idealize.ShloMosaic Idealize.ShloMosaic.TcCoe Idealize.SL.Sem
open Idealize.ShloMosaic.Pipeline (Dat)

namespace Cert.FfnUpIdeal.Value

open Cert.FfnUpIdeal Cert.FfnUpIdeal.Gen

variable (m : (ℓ : Loc nD τ sig) → Buf (Elt Ideal) ℓ)

/-- The dot product of the rows with a weight, as the reference takes it. -/
abbrev rowsBy (X : FVec Ideal Cert.FfnUpRefIdeal.S33280x2048 .bf16) (W : FVec Ideal Cert.FfnUpRefIdeal.S2048x5632 .bf16) :
    FVec Ideal Cert.FfnUpRefIdeal.S33280x5632 .f32 :=
  Host.dotGeneral Cert.FfnUpRefIdeal.dot_S33280x2048_S2048x5632_S33280x5632_1_0_0_1_n_n none
    (extf .f32 X Cert.FfnUpRefIdeal.Gen.bitsLt_bf16_f32) (extf .f32 W Cert.FfnUpRefIdeal.Gen.bitsLt_bf16_f32)

/-- The constant one, spread over the result's shape. -/
abbrev ones : FVec Ideal Cert.FfnUpRefIdeal.S33280x5632 .f32 :=
  broadcastInDim Cert.FfnUpRefIdeal.S33280x5632 ![] Cert.FfnUpRefIdeal.Gen.bcast_S_S33280x5632
    (constant Cert.FfnUpRefIdeal.S_ .f32 0x3F800000#32)

/-- The reference's result: `silu (x · wg) * (x · wu)`. -/
abbrev gated (X : FVec Ideal Cert.FfnUpRefIdeal.S33280x2048 .bf16) (G U : FVec Ideal Cert.FfnUpRefIdeal.S2048x5632 .bf16) :
    FVec Ideal Cert.FfnUpRefIdeal.S33280x5632 .bf16 :=
  truncf .bf16 (mulf (mulf (rowsBy X G) (Host.divf ones (addf ones (Host.exp (Host.negf (rowsBy X G)))))) (rowsBy X U))
    Cert.FfnUpRefIdeal.Gen.bitsLt_bf16_f32

/-- The windows' block indices at every grid point. -/
theorem idx : ∀ t : Fin cfg0.N, win0_0.index t = ![t.val % 26, 0] ∧ win0_1.index t = ![0, t.val / 26]
    ∧ win0_2.index t = ![0, t.val / 26] ∧ win0_3.index t = ![t.val % 26, t.val / 26] :=
  (by decide +kernel : ∀ t : Fin grid0.N, _)

/-- What the body stores at a block index is the reference's value at the array index the block puts it at. -/
theorem point (c : Dev nD) (t : Fin cfg0.N) (y) :
    k0_pay1 (iblk m c 0 t) (iblk m c 1 t) (iblk m c 2 t) y
      = gated (m ((c : Thread nD τ).loc main_arg0)) (m ((c : Thread nD τ).loc main_arg1)) (m ((c : Thread nD τ).loc main_arg2))
          (((cfg0.win 3).blk t).view.emb y) := by
  pointwise [k0_pay1, gated, rowsBy, ones]
  simp only [Ideal.logistic]
  blk_point [iblk, V, idx t]

/-- The result array after the run is the reference's. -/
theorem final (c : Dev nD) : (dats m 0 c).arrAt 3 (cfgs 0).N
    = gated (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.FfnUpIdeal.Value

end
-- ==== Proof.InGatesValue.lean ====
module

public import proofs.«01_k».proof.Proof.Gen.InGatesIdeal.Value
public import proofs.«01_k».proof.Proof.Gen.InGatesRefIdeal.Run
public import Idealize.ShloMosaic.Lib.Pipeline.ValueKit
public import Idealize.ShloMosaic.Lib.Claim

/-! The gates of the three branches: the array the kernel leaves is the reference's. -/

@[expose] public section

set_option maxRecDepth 16384

noncomputable section

open Idealize.ShloMosaic Idealize.ShloMosaic.TcCoe Idealize.SL.Sem
open Idealize.ShloMosaic.Pipeline (Dat)

namespace Cert.InGatesIdeal.Value

open Cert.InGatesIdeal Cert.InGatesIdeal.Gen

variable (m : (ℓ : Loc nD τ sig) → Buf (Elt Ideal) ℓ)

/-- The constant one, spread over the result's shape. -/
abbrev ones : FVec Ideal Cert.InGatesRefIdeal.S33280x6144 .f32 :=
  broadcastInDim Cert.InGatesRefIdeal.S33280x6144 ![] Cert.InGatesRefIdeal.Gen.bcast_S_S33280x6144
    (constant Cert.InGatesRefIdeal.S_ .f32 0x3F800000#32)

/-- The reference's result: the logistic function of the rows times the weight plus the bias. -/
abbrev gate (X : FVec Ideal Cert.InGatesRefIdeal.S33280x2048 .bf16) (W : FVec Ideal Cert.InGatesRefIdeal.S2048x6144 .bf16)
    (b : FVec Ideal Cert.InGatesRefIdeal.S6144 .f32) : FVec Ideal Cert.InGatesRefIdeal.S33280x6144 .bf16 :=
  truncf .bf16 (Host.divf ones (addf ones (Host.exp (Host.negf (addf
    (Host.dotGeneral Cert.InGatesRefIdeal.dot_S33280x2048_S2048x6144_S33280x6144_1_0_0_1_n_n none
      (extf .f32 X Cert.InGatesRefIdeal.Gen.bitsLt_bf16_f32) (extf .f32 W Cert.InGatesRefIdeal.Gen.bitsLt_bf16_f32))
    (broadcastInDim Cert.InGatesRefIdeal.S33280x6144 ![0, 1] Cert.InGatesRefIdeal.Gen.bcast_S1x6144_S33280x6144_0_1
      (broadcastInDim Cert.InGatesRefIdeal.S1x6144 ![1] Cert.InGatesRefIdeal.Gen.bcast_S6144_S1x6144_1 b)))))))
    Cert.InGatesRefIdeal.Gen.bitsLt_bf16_f32

/-- The windows' block indices at every grid point. -/
theorem idx : ∀ t : Fin cfg0.N, win0_0.index t = ![t.val % 26, 0] ∧ win0_1.index t = ![0, t.val / 26]
    ∧ win0_2.index t = ![0, t.val / 26] ∧ win0_3.index t = ![t.val % 26, t.val / 26] :=
  (by decide +kernel : ∀ t : Fin grid0.N, _)

/-- A vector laid out as one row, at an index. -/
theorem row_at (b : FVec Ideal S6144 .f32) (i : S1x6144.Idx) : shapeCast S1x6144 b shapeCasts_S6144_S1x6144 i = b (ix1 (i 1)) := by
  pointwise

/-- The bias as launched: a row, one entry per column. -/
theorem bias (c : Dev nD) :
    V m c main_v0 = fun i : S1x6144.Idx => m ((c : Thread nD τ).loc main_arg2) (ix1 (i 1)) := by
  have h : V m c main_v0 = shapeCast S1x6144 (m ((c : Thread nD τ).loc main_arg2)) shapeCasts_S6144_S1x6144 := by
    unfold V; after_results; try rfl
  rw [h]
  funext i
  exact row_at _ i

/-- What the body stores at a block index is the reference's value at the array index the block puts it at. -/
theorem point (c : Dev nD) (t : Fin cfg0.N) (y) :
    k0_pay1 (iblk m c 0 t) (iblk m c 1 t) (iblk m c 2 t) y
      = gate (m ((c : Thread nD τ).loc main_arg0)) (m ((c : Thread nD τ).loc main_arg1)) (m ((c : Thread nD τ).loc main_arg2))
          (((cfg0.win 3).blk t).view.emb y) := by
  pointwise [k0_pay1, gate, ones]
  simp only [Ideal.logistic]
  blk_point [iblk, bias, V_main_arg0, V_main_arg1, idx t]

/-- The result array after the run is the reference's. -/
theorem final (c : Dev nD) : (dats m 0 c).arrAt 3 (cfgs 0).N
    = gate (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.InGatesIdeal.Value

end
-- ==== Proof.InConvValue.lean ====
module

public import proofs.«01_k».proof.Proof.Gen.InConvIdeal.Value
public import proofs.«01_k».proof.Proof.Gen.InConvRefIdeal.Run
public import Idealize.ShloMosaic.Lib.Pipeline.ValueKit

/-! The input projection of the convolution branch: the array the kernel leaves is the reference's. -/

@[expose] public section

set_option maxRecDepth 16384

noncomputable section

open Idealize.ShloMosaic Idealize.ShloMosaic.TcCoe Idealize.SL.Sem
open Idealize.ShloMosaic.Pipeline (Dat)

namespace Cert.InConvIdeal.Value

open Cert.InConvIdeal Cert.InConvIdeal.Gen

variable (m : (ℓ : Loc nD τ sig) → Buf (Elt Ideal) ℓ)

/-- The reference's result: the rows times the weight. -/
abbrev product (X : FVec Ideal Cert.InConvRefIdeal.S33280x2048 .bf16) (W : FVec Ideal Cert.InConvRefIdeal.S2048x4096 .bf16) :
    FVec Ideal Cert.InConvRefIdeal.S33280x4096 .bf16 :=
  truncf .bf16 (Host.dotGeneral Cert.InConvRefIdeal.dot_S33280x2048_S2048x4096_S33280x4096_1_0_0_1_n_n none
    (extf .f32 X Cert.InConvRefIdeal.Gen.bitsLt_bf16_f32) (extf .f32 W Cert.InConvRefIdeal.Gen.bitsLt_bf16_f32))
    Cert.InConvRefIdeal.Gen.bitsLt_bf16_f32

/-- The windows' block indices at every grid point. -/
theorem idx : ∀ t : Fin cfg0.N, win0_0.index t = ![t.val % 26, 0] ∧ win0_1.index t = ![0, t.val / 26]
    ∧ win0_2.index t = ![t.val % 26, t.val / 26] :=
  (by decide +kernel : ∀ t : Fin grid0.N, _)

/-- What the body stores at a block index is the reference's value at the array index the block puts it at. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]
  blk_point [iblk, V, idx t]

/-- The result array after the run is the reference's. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InConvIdeal.Value

end
-- ==== Proof.InUValue.lean ====
module

public import proofs.«01_k».proof.Proof.Gen.InUIdeal.Value
public import proofs.«01_k».proof.Proof.Gen.InURefIdeal.Run
public import Idealize.ShloMosaic.Lib.Pipeline.ValueKit

/-! The input projection of the state-space branch: the array the kernel leaves is the reference's. -/

@[expose] public section

set_option maxRecDepth 16384

noncomputable section

open Idealize.ShloMosaic Idealize.ShloMosaic.TcCoe Idealize.SL.Sem
open Idealize.ShloMosaic.Pipeline (Dat)

namespace Cert.InUIdeal.Value

open Cert.InUIdeal Cert.InUIdeal.Gen

variable (m : (ℓ : Loc nD τ sig) → Buf (Elt Ideal) ℓ)

/-- The reference's result: the rows times the weight. -/
abbrev product (X : FVec Ideal Cert.InURefIdeal.S33280x2048 .bf16) (W : FVec Ideal Cert.InURefIdeal.S2048x2048 .bf16) :
    FVec Ideal Cert.InURefIdeal.S33280x2048 .f32 :=
  Host.dotGeneral Cert.InURefIdeal.dot_S33280x2048_S2048x2048_S33280x2048_1_0_0_1_n_n none
    (extf .f32 X Cert.InURefIdeal.Gen.bitsLt_bf16_f32) (extf .f32 W Cert.InURefIdeal.Gen.bitsLt_bf16_f32)

/-- The windows' block indices at every grid point. -/
theorem idx : ∀ t : Fin cfg0.N, win0_0.index t = ![t.val % 26, 0] ∧ win0_1.index t = ![0, t.val / 26]
    ∧ win0_2.index t = ![t.val % 26, t.val / 26] :=
  (by decide +kernel : ∀ t : Fin grid0.N, _)

/-- What the body stores at a block index is the reference's value at the array index the block puts it at. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]
  blk_point [iblk, V, idx t]

/-- The result array after the run is the reference's. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InUIdeal.Value

end
-- ==== Proof.InCkvValue.lean ====
module

public import proofs.«01_k».proof.Proof.Gen.InCkvIdeal.Value
public import proofs.«01_k».proof.Proof.Gen.InCkvRefIdeal.Run
public import Idealize.ShloMosaic.Lib.Pipeline.ValueKit

/-! The input projection to the compressed keys and values: the array the kernel leaves is the reference's. -/

@[expose] public section

set_option maxRecDepth 16384

noncomputable section

open Idealize.ShloMosaic Idealize.ShloMosaic.TcCoe Idealize.SL.Sem
open Idealize.ShloMosaic.Pipeline (Dat)

namespace Cert.InCkvIdeal.Value

open Cert.InCkvIdeal Cert.InCkvIdeal.Gen

variable (m : (ℓ : Loc nD τ sig) → Buf (Elt Ideal) ℓ)

/-- The reference's result: the rows times the weight. -/
abbrev product (X : FVec Ideal Cert.InCkvRefIdeal.S33280x2048 .bf16) (W : FVec Ideal Cert.InCkvRefIdeal.S2048x640 .bf16) :
    FVec Ideal Cert.InCkvRefIdeal.S33280x640 .bf16 :=
  truncf .bf16 (Host.dotGeneral Cert.InCkvRefIdeal.dot_S33280x2048_S2048x640_S33280x640_1_0_0_1_n_n none
    (extf .f32 X Cert.InCkvRefIdeal.Gen.bitsLt_bf16_f32) (extf .f32 W Cert.InCkvRefIdeal.Gen.bitsLt_bf16_f32))
    Cert.InCkvRefIdeal.Gen.bitsLt_bf16_f32

/-- The windows' block indices at every grid point. -/
theorem idx : ∀ t : Fin cfg0.N, win0_0.index t = ![t.val % 26, 0] ∧ win0_1.index t = ![0, t.val / 26]
    ∧ win0_2.index t = ![t.val % 26, t.val / 26] :=
  (by decide +kernel : ∀ t : Fin grid0.N, _)

/-- What the body stores at a block index is the reference's value at the array index the block puts it at. -/
theorem point (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]
  blk_point [iblk, V, idx t]

/-- The result array after the run is the reference's. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InCkvIdeal.Value

end
-- ==== Proof.InQValue.lean ====
module

public import proofs.«01_k».proof.Proof.Gen.InQIdeal.Value
public import proofs.«01_k».proof.Proof.Gen.InQRefIdeal.Run
public import Idealize.ShloMosaic.Lib.Pipeline.ValueKit

/-! The queries' projection with its rotation of positions: the array the kernel leaves is the reference's. -/

@[expose] public section

set_option maxRecDepth 16384

noncomputable section

open Idealize.ShloMosaic Idealize.ShloMosaic.TcCoe Idealize.SL.Sem
open Idealize.ShloMosaic.Pipeline (Dat)

namespace Cert.InQRefIdeal.Value

open Cert.InQRefIdeal Cert.InQRefIdeal.Gen

/-- The rows times the weight, a head of 256 columns per row of the middle axis. -/
def heads (X : FVec Ideal S33280x2048 .bf16) (W : FVec Ideal S2048x4096 .bf16) : FVec Ideal S33280x16x256 .f32 :=
  shapeCast _ (Host.dotGeneral dot_S33280x2048_S2048x4096_S33280x4096_1_0_0_1_n_n none (extf .f32 X bitsLt_bf16_f32) (extf .f32 W bitsLt_bf16_f32))
    shapeCasts_S33280x4096_S33280x16x256

/-- The first half of each head, scaled. -/
def plain (a : FVec Ideal S33280x16x256 .f32) : FVec Ideal S33280x16x128 .f32 :=
  mulf (extractStridedSlice S33280x16x128 ![0, 0, 0] a slices_S33280x16x256_S33280x16x128_0_0_0)
    (broadcastInDim S33280x16x128 ![] bcast_S_S33280x16x128 (constant S_ .f32 0x3DD53B95#32))

/-- The second half of each head times the table. -/
def tabled (a : FVec Ideal S33280x16x256 .f32) (T : FVec Ideal S33280x128 .f32) : FVec Ideal S33280x16x128 .f32 :=
  mulf (extractStridedSlice S33280x16x128 ![0, 0, 128] a slices_S33280x16x256_S33280x16x128_0_0_128)
    (broadcastInDim S33280x16x128 ![0, 1, 2] bcast_S33280x1x128_S33280x16x128_0_1_2 (broadcastInDim S33280x1x128 ![0, 2] bcast_S33280x128_S33280x1x128_0_2 T))

/-- A half head plus itself with its two quarters exchanged. -/
def turned (p : FVec Ideal S33280x16x128 .f32) : FVec Ideal S33280x16x128 .f32 :=
  addf p (concatenate S33280x16x128 2 [⟨S33280x16x64, extractStridedSlice S33280x16x64 ![0, 0, 64] p slices_S33280x16x128_S33280x16x64_0_0_64⟩,
    ⟨S33280x16x64, extractStridedSlice S33280x16x64 ![0, 0, 0] p slices_S33280x16x128_S33280x16x64_0_0_0⟩]
    concatenates_S33280x16x64_S33280x16x64_S33280x16x128_d2)

/-- The reference's result: each head's scaled half beside its turned half. -/
def queries (X : FVec Ideal S33280x2048 .bf16) (W : FVec Ideal S2048x4096 .bf16) (T : FVec Ideal S33280x128 .f32) : FVec Ideal S33280x4096 .bf16 :=
  truncf .bf16 (shapeCast _ (concatenate S33280x16x256 2 [⟨S33280x16x128, plain (heads X W)⟩, ⟨S33280x16x128, turned (tabled (heads X W) T)⟩]
    concatenates_S33280x16x128_S33280x16x128_S33280x16x256_d2) shapeCasts_S33280x16x256_S33280x4096) bitsLt_bf16_f32

/-- The reference runs and leaves `queries` of its arguments, and the arguments unchanged. -/
theorem run_queries (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = queries (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (run m ρ) fun _ h c => ⟨(h c).1, (h c).2⟩

/-- An entry of the rows times the weight. -/
def dot (X : FVec Ideal S33280x2048 .bf16) (W : FVec Ideal S2048x4096 .bf16) (R : Fin 33280) (C : Fin 4096) : EReal :=
  ∑ k : Fin 2048, X (ix2 R k) * W (ix2 k C)

theorem heads_at (X : FVec Ideal S33280x2048 .bf16) (W : FVec Ideal S2048x4096 .bf16) (R : Fin 33280) (h : Fin 16) (l : Fin 256) :
    heads X W (ix3 R h l) = dot X W R ⟨h * 256 + l, by omega⟩ := by
  pointwise [heads, dot]

theorem plain_at (a : FVec Ideal S33280x16x256 .f32) (R : Fin 33280) (h : Fin 16) (l : Fin 128) :
    plain a (ix3 R h l) = a (ix3 R h ⟨l, by omega⟩) * Ideal.ofBits .f32 0x3DD53B95#32 := by
  pointwise [plain]

theorem tabled_at (a : FVec Ideal S33280x16x256 .f32) (T : FVec Ideal S33280x128 .f32) (R : Fin 33280) (h : Fin 16) (l : Fin 128) :
    tabled a T (ix3 R h l) = a (ix3 R h ⟨128 + l, by omega⟩) * T (ix2 R l) := by
  pointwise [tabled]

theorem turned_at (p : FVec Ideal S33280x16x128 .f32) (R : Fin 33280) (h : Fin 16) (l : Fin 128) :
    turned p (ix3 R h l) = p (ix3 R h l) + p (ix3 R h ⟨(l + 64) % 128, by omega⟩) := by
  pointwise [turned]
  split
  · refine congrArg (p (ix3 R h l) + p ·) ?_
    blk_ext
  · refine congrArg (p (ix3 R h l) + p ·) ?_
    blk_ext

theorem queries_plain (X : FVec Ideal S33280x2048 .bf16) (W : FVec Ideal S2048x4096 .bf16) (T : FVec Ideal S33280x128 .f32) (R : Fin 33280)
    (C : Fin 4096) (h : C.val % 256 < 128) : queries X W T (ix2 R C) = dot X W R C * Ideal.ofBits .f32 0x3DD53B95#32 := by
  pointwise [queries]
  split
  · rw [plain_at, heads_at]
    refine congrArg (dot X W R · * _) (Fin.ext ?_)
    exact Nat.div_add_mod' C.val 256
  · omega

theorem queries_turned (X : FVec Ideal S33280x2048 .bf16) (W : FVec Ideal S2048x4096 .bf16) (T : FVec Ideal S33280x128 .f32) (R : Fin 33280)
    (C : Fin 4096) (h : Fin 16) (l : Fin 128) (hC : C.val = h * 256 + (128 + l)) : queries X W T (ix2 R C)
      = dot X W R ⟨h * 256 + (128 + l), by omega⟩ * T (ix2 R l)
        + dot X W R ⟨h * 256 + (128 + (l + 64) % 128), by omega⟩ * T (ix2 R ⟨(l + 64) % 128, by omega⟩) := by
  have e : C = ⟨h * 256 + (128 + l), by omega⟩ := Fin.ext hC
  have hh : (⟨C.val / 256, by omega⟩ : Fin 16) = h := Fin.ext (by show C.val / 256 = h.val; omega)
  have hl : ∀ hp, (⟨C.val % 256 - 128, hp⟩ : Fin 128) = l := fun hp => Fin.ext (by show C.val % 256 - 128 = l.val; omega)
  pointwise [queries]
  split
  · omega
  · rw [hh, hl, turned_at, tabled_at, tabled_at, heads_at, heads_at]

end Cert.InQRefIdeal.Value

namespace Cert.InQIdeal.Value

open Cert.InQIdeal Cert.InQIdeal.Gen
open Cert.InQRefIdeal.Value (queries dot queries_plain queries_turned)

variable (m : (ℓ : Loc nD τ sig) → Buf (Elt Ideal) ℓ)

/-- The windows' block indices at every grid point. -/
theorem idx : ∀ t : Fin cfg0.N, win0_0.index t = ![t.val % 26, 0] ∧ win0_1.index t = ![0, t.val / 26]
    ∧ win0_2.index t = ![t.val % 26, 0] ∧ win0_3.index t = ![t.val % 26, t.val / 26] :=
  (by decide +kernel : ∀ t : Fin grid0.N, _)

/-- A plain piece of the block at an index: the reference's entry, where the operands' blocks read the arrays. -/
theorem plain_piece (X : FVec Ideal Cert.InQRefIdeal.S33280x2048 .bf16) (W : FVec Ideal Cert.InQRefIdeal.S2048x4096 .bf16) (T : FVec Ideal Cert.InQRefIdeal.S33280x128 .f32)
    (x : FVec Ideal S1280x2048 .bf16) (w : FVec Ideal S2048x1024 .bf16) (r i : Fin 1280) (R : Fin 33280) (J : Fin 4) (l c : Fin 1024)
    (hx : ∀ k : Fin 2048, x (ix2 r k) = X (ix2 R k))
    (hw : ∀ (k : Fin 2048) (l : Fin 1024), w (ix2 k l) = W (ix2 k ⟨J * 1024 + l, by omega⟩))
    (hi : r.val = i.val) (hc : l.val = c.val) (h : l.val % 256 < 128) :
    (∑ k : Fin 2048, x (ix2 i k) * w (ix2 k c)) * Ideal.ofBits .f32 0x3DD53B95#32 = queries X W T (ix2 R ⟨J * 1024 + l, by omega⟩) := by
  obtain rfl : r = i := Fin.ext hi
  obtain rfl : l = c := Fin.ext hc
  rw [queries_plain X W T R _ (by show (J.val * 1024 + l.val) % 256 < 128; omega)]
  simp only [hx, hw, dot]

/-- A turned piece of the block at an index: the reference's entry, where the operands' blocks read the arrays. -/
theorem turned_piece (X : FVec Ideal Cert.InQRefIdeal.S33280x2048 .bf16) (W : FVec Ideal Cert.InQRefIdeal.S2048x4096 .bf16) (T : FVec Ideal Cert.InQRefIdeal.S33280x128 .f32)
    (x : FVec Ideal S1280x2048 .bf16) (w : FVec Ideal S2048x1024 .bf16) (b : FVec Ideal S1280x128 .f32) (r : Fin 1280) (R : Fin 33280) (J : Fin 4)
    (l c c' : Fin 1024) (i : S1280x128.Idx) (d : Fin 128)
    (hx : ∀ k : Fin 2048, x (ix2 r k) = X (ix2 R k))
    (hw : ∀ (k : Fin 2048) (l : Fin 1024), w (ix2 k l) = W (ix2 k ⟨J * 1024 + l, by omega⟩))
    (hb : ∀ l : Fin 128, b (ix2 r l) = T (ix2 R l))
    (hi : r.val = (i 0).val) (hc : l.val = c.val) (q : Fin 4) (h : l.val = q.val * 256 + (128 + (i 1).val)) (hd : d.val = ((i 1).val + 64) % 128)
    (hc' : c'.val = q.val * 256 + (128 + d.val)) :
    (∑ k : Fin 2048, x (ix2 (i 0) k) * w (ix2 k c)) * b i + (∑ k : Fin 2048, x (ix2 (i 0) k) * w (ix2 k c')) * b (ix2 (i 0) d)
      = queries X W T (ix2 R ⟨J * 1024 + l, by omega⟩) := by
  obtain ⟨i, j, rfl⟩ : ∃ u v, i = ix2 u v := ⟨_, _, eq_ix2 i⟩
  simp only [ix2_0] at hi ⊢
  have h : l.val = q.val * 256 + (128 + j.val) := h
  have hd : d.val = (j.val + 64) % 128 := hd
  obtain rfl : r = i := Fin.ext hi
  obtain rfl : l = c := Fin.ext hc
  obtain rfl : d = ⟨(j.val + 64) % 128, Nat.mod_lt _ (by decide)⟩ := Fin.ext hd
  rw [queries_turned X W T R _ ⟨J * 4 + q, by omega⟩ j (by show J.val * 1024 + l.val = (J.val * 4 + q.val) * 256 + (128 + j.val); omega)]
  simp only [hx, hw, hb, dot]
  have e : (⟨J.val * 1024 + l.val, by omega⟩ : Fin 4096) = ⟨(J.val * 4 + q.val) * 256 + (128 + j.val), by omega⟩ := Fin.ext (by dsimp only; omega)
  have e' : (⟨J.val * 1024 + c'.val, by omega⟩ : Fin 4096) = ⟨(J.val * 4 + q.val) * 256 + (128 + (j.val + 64) % 128), by omega⟩ :=
    Fin.ext (by dsimp only at *; omega)
  simp only [e, e']

/-- The block the body leaves is the reference's, where the operands' blocks read the arrays. -/
theorem core (X : FVec Ideal Cert.InQRefIdeal.S33280x2048 .bf16) (W : FVec Ideal Cert.InQRefIdeal.S2048x4096 .bf16) (T : FVec Ideal Cert.InQRefIdeal.S33280x128 .f32)
    (x : FVec Ideal S1280x2048 .bf16) (w : FVec Ideal S2048x1024 .bf16) (b : FVec Ideal S1280x128 .f32) (r : Fin 1280) (R : Fin 33280) (J : Fin 4) (l : Fin 1024)
    (hx : ∀ k : Fin 2048, x (ix2 r k) = X (ix2 R k))
    (hw : ∀ (k : Fin 2048) (l : Fin 1024), w (ix2 k l) = W (ix2 k ⟨J * 1024 + l, by omega⟩))
    (hb : ∀ l : Fin 128, b (ix2 r l) = T (ix2 R l)) :
    out0_3 (F := Ideal) x w b (ix2 r l) = queries X W T (ix2 R ⟨J * 1024 + l, by omega⟩) := by
  canon_tiles i h
  all_goals open_payloads
  all_goals pointwise
  all_goals simp only [ix2_1] at h1
  all_goals first
    | refine plain_piece X W T x w r _ R J l _ hx hw h0 ?_ ?_ <;> (try dsimp only) <;> omega
    | refine turned_piece X W T x w b r R J l _ _ i _ hx hw hb h0 ?_ ⟨l.val / 256, by omega⟩ ?_ ?_ ?_ <;> (try dsimp only) <;> omega

/-- What the body stores at a block index is the reference's value at the array index the block puts it at. -/
theorem point (c : Dev nD) (t : Fin cfg0.N) (y : S1280x1024.Idx) (j : Cert.InQRefIdeal.S33280x4096.Idx) (h0 : (j 0 : ℕ) = t.val % 26 * 1280 + (y 0 : ℕ))
    (h1 : (j 1 : ℕ) = t.val / 26 * 1024 + (y 1 : ℕ)) :
    out0_3 (F := Ideal) (iblk m c 0 t) (iblk m c 1 t) (iblk m c 2 t) y
      = queries (m ((c : Thread nD τ).loc main_arg0)) (m ((c : Thread nD τ).loc main_arg1)) (m ((c : Thread nD τ).loc main_arg2)) j := by
  have ht : t.val / 26 < 4 := by have := t.isLt; have e : cfg0.N = 104 := by decide +kernel
                                 omega
  have hy : (y 1 : ℕ) < 1024 := (y 1).isLt
  rw [eq_ix2 y, eq_ix2 j, show j 1 = ⟨(⟨t.val / 26, ht⟩ : Fin 4).val * 1024 + (y 1).val, by show t.val / 26 * 1024 + (y 1).val < 4096; omega⟩ from Fin.ext h1]
  refine core _ _ _ _ _ _ (y 0) (j 0) ⟨t.val / 26, ht⟩ (y 1) (fun k => ?_) (fun k l => ?_) (fun l => ?_)
  all_goals blk_point [iblk, V_main_arg0, V_main_arg1, V_main_arg2, idx t]

/-- The result array after the run is the reference's. -/
theorem final (c : Dev nD) : (dats m 0 c).arrAt 3 (cfgs 0).N
    = queries (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y _ (by blk_simp [idx t]) (by blk_simp [idx t])

end Cert.InQIdeal.Value

end
-- ==== Proof.MixValue.lean ====
module

public import proofs.«01_k».proof.Proof.Gen.MixIdeal.Value
public import proofs.«01_k».proof.Proof.Gen.MixRefIdeal.Run
public import Idealize.ShloMosaic.Lib.Pipeline.ValueKit

/-! The gated sum of the three branches: the array the kernel leaves is the reference's. -/

@[expose] public section

set_option maxRecDepth 16384

noncomputable section

open Idealize.ShloMosaic Idealize.ShloMosaic.TcCoe Idealize.SL.Sem
open Idealize.ShloMosaic.Pipeline (Dat)

namespace Cert.MixRefIdeal.Value

open Cert.MixRefIdeal Cert.MixRefIdeal.Gen

/-- The constant one, spread over the result's shape. -/
abbrev ones : FVec Ideal S33280x2048 .f32 := broadcastInDim S33280x2048 ![] bcast_S_S33280x2048 (constant S_ .f32 0x3F800000#32)

/-- The rows times a weight. -/
def rowsBy (X : FVec Ideal S33280x2048 .bf16) (W : FVec Ideal S2048x2048 .bf16) : FVec Ideal S33280x2048 .f32 :=
  Host.dotGeneral dot_S33280x2048_S2048x2048_S33280x2048_1_0_0_1_n_n none (extf .f32 X bitsLt_bf16_f32) (extf .f32 W bitsLt_bf16_f32)

/-- The frames' rows and then the meta tokens' rows. -/
def rows {φ : FTy} (a : FVec Ideal S32768x2048 φ) (b : FVec Ideal S512x2048 φ) : FVec Ideal S33280x2048 φ :=
  concatenate S33280x2048 0 [⟨S32768x2048, a⟩, ⟨S512x2048, b⟩] concatenates_S32768x2048_S512x2048_S33280x2048_d0

/-- The state-space branch's rows times its two weights side by side. -/
def glu (gy : FVec Ideal S33280x2048 .f32) (w : FVec Ideal S2048x4096 .bf16) : FVec Ideal S33280x4096 .f32 :=
  Host.dotGeneral dot_S33280x2048_S2048x4096_S33280x4096_1_0_0_1_n_n none
    (extf .f32 (truncf .bf16 gy bitsLt_bf16_f32) bitsLt_bf16_f32) (extf .f32 w bitsLt_bf16_f32)

/-- The reference's result: each branch's output times its gate, summed. -/
def mixed (o : FVec Ideal S32768x2048 .bf16) (om : FVec Ideal S512x2048 .bf16) (zc : FVec Ideal S33280x2048 .bf16)
    (gy : FVec Ideal S32768x2048 .f32) (gm : FVec Ideal S512x2048 .f32) (gates : FVec Ideal S33280x6144 .bf16)
    (wa wb : FVec Ideal S2048x2048 .bf16) (wc : FVec Ideal S2048x4096 .bf16) : FVec Ideal S33280x2048 .bf16 :=
  truncf .bf16 (addf (addf
    (mulf (extractStridedSlice S33280x2048 ![0, 0] (extf .f32 gates bitsLt_bf16_f32) slices_S33280x6144_S33280x2048_0_0) (rowsBy (rows o om) wa))
    (mulf (extractStridedSlice S33280x2048 ![0, 2048] (extf .f32 gates bitsLt_bf16_f32) slices_S33280x6144_S33280x2048_0_2048) (rowsBy zc wb)))
    (mulf (extractStridedSlice S33280x2048 ![0, 4096] (extf .f32 gates bitsLt_bf16_f32) slices_S33280x6144_S33280x2048_0_4096)
      (mulf (extractStridedSlice S33280x2048 ![0, 0] (glu (rows gy gm) wc) slices_S33280x4096_S33280x2048_0_0)
        (Host.divf ones (addf ones (Host.exp (Host.negf
          (extractStridedSlice S33280x2048 ![0, 2048] (glu (rows gy gm) wc) slices_S33280x4096_S33280x2048_0_2048)))))))) bitsLt_bf16_f32

theorem rowsBy_at (X : FVec Ideal S33280x2048 .bf16) (W : FVec Ideal S2048x2048 .bf16) (j) :
    rowsBy X W j = ∑ k : Fin 2048, X (ix2 (j 0) k) * W (ix2 k (j 1)) := by
  pointwise [rowsBy]

theorem rows_at {φ : FTy} (a : FVec Ideal S32768x2048 φ) (b : FVec Ideal S512x2048 φ) (r : Fin 33280) (k : Fin 2048) :
    rows a b (ix2 r k) = if h : (r : ℕ) < 32768 then a (ix2 ⟨r, h⟩ k) else b (ix2 ⟨r - 32768, by omega⟩ k) := by
  pointwise [rows]

theorem glu_at (gy : FVec Ideal S33280x2048 .f32) (w : FVec Ideal S2048x4096 .bf16) (r : Fin 33280) (l : Fin 4096) :
    glu gy w (ix2 r l) = ∑ k : Fin 2048, gy (ix2 r k) * w (ix2 k l) := by
  pointwise [glu]

/-- The reference's result at an index. -/
theorem mixed_at (o : FVec Ideal S32768x2048 .bf16) (om : FVec Ideal S512x2048 .bf16) (zc : FVec Ideal S33280x2048 .bf16)
    (gy : FVec Ideal S32768x2048 .f32) (gm : FVec Ideal S512x2048 .f32) (gates : FVec Ideal S33280x6144 .bf16)
    (wa wb : FVec Ideal S2048x2048 .bf16) (wc : FVec Ideal S2048x4096 .bf16) (r : Fin 33280) (l : Fin 2048) :
    mixed o om zc gy gm gates wa wb wc (ix2 r l)
      = gates (ix2 r ⟨l, by omega⟩) * rowsBy (rows o om) wa (ix2 r l) + gates (ix2 r ⟨2048 + l, by omega⟩) * rowsBy zc wb (ix2 r l)
        + gates (ix2 r ⟨4096 + l, by omega⟩) * (glu (rows gy gm) wc (ix2 r ⟨l, by omega⟩)
          * Ideal.logistic (glu (rows gy gm) wc (ix2 r ⟨2048 + l, by omega⟩))) := by
  pointwise [mixed, ones, Ideal.logistic]

end Cert.MixRefIdeal.Value

namespace Cert.MixIdeal.Value

open Cert.MixIdeal Cert.MixIdeal.Gen
open Cert.MixRefIdeal.Value (mixed mixed_at rowsBy_at rows_at glu_at)

variable (m : (ℓ : Loc nD τ sig) → Buf (Elt Ideal) ℓ)

/-- The windows' block indices at every grid point. -/
theorem idx : ∀ t : Fin cfg0.N, win0_0.index t = ![min (t.val % 65) 63, 0] ∧ win0_1.index t = ![0, 0]
    ∧ win0_2.index t = ![t.val % 65, 0] ∧ win0_3.index t = ![min (t.val % 65) 63, 0] ∧ win0_4.index t = ![0, 0]
    ∧ win0_5.index t = ![t.val % 65, t.val / 65] ∧ win0_6.index t = ![t.val % 65, t.val / 65 + 4]
    ∧ win0_7.index t = ![t.val % 65, t.val / 65 + 8] ∧ win0_8.index t = ![0, t.val / 65] ∧ win0_9.index t = ![0, t.val / 65]
    ∧ win0_10.index t = ![0, t.val / 65] ∧ win0_11.index t = ![0, t.val / 65 + 4] ∧ win0_12.index t = ![t.val % 65, t.val / 65] :=
  (by decide +kernel : ∀ t : Fin grid0.N, _)

/-- Which points take the meta tokens' rows: the last row tile's. -/
theorem sel : ∀ t : Fin cfg0.N, Scalar.cmpi .eq (BitVec.ofNat 32 (grid0.coords t 1).val) 64#32 = if t.val % 65 = 64 then 1#1 else 0#1 :=
  (by decide +kernel : ∀ t : Fin grid0.N, _)

/-- The attention branch's and the convolution branch's gated outputs of one block, from the attention rows chosen. -/
def twoBranches (o zc : FVec Ideal S512x2048 .bf16) (wa wb : FVec Ideal S2048x512 .bf16) (ga gb : FVec Ideal S512x512 .bf16) :
    FVec Ideal S512x512 .f32 :=
  addf (mulf (extf .f32 ga bitsLt_bf16_f32) (matmul dot_S512x2048_S2048x512_S512x512_1_0_0_1_n_n none o wa (constant S512x512 .f32 0x00000000#32)))
    (mulf (extf .f32 gb bitsLt_bf16_f32) (matmul dot_S512x2048_S2048x512_S512x512_1_0_0_1_n_n none zc wb (constant S512x512 .f32 0x00000000#32)))

/-- The state-space branch's gated output of one block, from the rows chosen. -/
def gluBranch (gy : FVec Ideal S512x2048 .f32) (w wg : FVec Ideal S2048x512 .bf16) (g : FVec Ideal S512x512 .bf16) :
    FVec Ideal S512x512 .f32 :=
  mulf (extf .f32 g bitsLt_bf16_f32)
    (mulf (matmul dot_S512x2048_S2048x512_S512x512_1_0_0_1_n_n none (truncf .bf16 gy bitsLt_bf16_f32) w (constant S512x512 .f32 0x00000000#32))
      (logistic (matmul dot_S512x2048_S2048x512_S512x512_1_0_0_1_n_n none (truncf .bf16 gy bitsLt_bf16_f32) wg (constant S512x512 .f32 0x00000000#32))))

/-- The first two branches, the attention rows chosen by the point. -/
theorem two_eq (t : Fin cfg0.N) (om o zc : FVec Ideal S512x2048 .bf16) (wa wb : FVec Ideal S2048x512 .bf16) (ga gb : FVec Ideal S512x512 .bf16) :
    k0_pay2 (grid0.coords t) om o wa zc wb ga gb = twoBranches (if t.val % 65 = 64 then om else o) zc wa wb ga gb := by
  have hs := sel t
  unfold k0_pay2
  dsimp only
  rw [hs]
  split <;> rfl

/-- The third branch, its rows chosen by the point. -/
theorem glu_eq (t : Fin cfg0.N) (gm gy : FVec Ideal S512x2048 .f32) (w wg : FVec Ideal S2048x512 .bf16) (g : FVec Ideal S512x512 .bf16) :
    k0_pay3 (grid0.coords t) gm gy w wg g = gluBranch (if t.val % 65 = 64 then gm else gy) w wg g := by
  have hs := sel t
  unfold k0_pay3
  dsimp only
  rw [hs]
  split <;> rfl

theorem two_at (o zc : FVec Ideal S512x2048 .bf16) (wa wb : FVec Ideal S2048x512 .bf16) (ga gb : FVec Ideal S512x512 .bf16) (r l : Fin 512) :
    twoBranches o zc wa wb ga gb (ix2 r l)
      = ga (ix2 r l) * (∑ k : Fin 2048, o (ix2 r k) * wa (ix2 k l)) + gb (ix2 r l) * ∑ k : Fin 2048, zc (ix2 r k) * wb (ix2 k l) := by
  pointwise [twoBranches]

theorem gluBranch_at (gy : FVec Ideal S512x2048 .f32) (w wg : FVec Ideal S2048x512 .bf16) (g : FVec Ideal S512x512 .bf16) (r l : Fin 512) :
    gluBranch gy w wg g (ix2 r l)
      = g (ix2 r l) * ((∑ k : Fin 2048, gy (ix2 r k) * w (ix2 k l)) * Ideal.logistic (∑ k : Fin 2048, gy (ix2 r k) * wg (ix2 k l))) := by
  pointwise [gluBranch]

/-- What the body stores at a block index, over the rows chosen. -/
theorem pay_at (u v : FVec Ideal S512x512 .f32) (y) : k0_pay1 u v y = u y + v y := by pointwise [k0_pay1]

/-- The rows chosen by the point are rows of the joined array. -/
theorem chosen {φ : FTy} (a : FVec Ideal Cert.MixRefIdeal.S32768x2048 φ) (b : FVec Ideal Cert.MixRefIdeal.S512x2048 φ) (t : Fin cfg0.N)
    (A B : FVec Ideal S512x2048 φ)
    (hA : ∀ (r : Fin 512) (k : Fin 2048), A (ix2 r k) = a (ix2 ⟨min (t.val % 65) 63 * 512 + r, by omega⟩ k))
    (hB : ∀ (r : Fin 512) (k : Fin 2048), B (ix2 r k) = b (ix2 r k)) (r : Fin 512) (R : Fin 33280) (hR : (R : ℕ) = t.val % 65 * 512 + r) (k : Fin 2048) :
    (if t.val % 65 = 64 then B else A) (ix2 r k) = Cert.MixRefIdeal.Value.rows a b (ix2 R k) := by
  have ht : t.val < 260 := lt_of_lt_of_eq t.isLt N_0
  rw [rows_at]
  by_cases h : t.val % 65 = 64
  · rw [if_pos h, dif_neg (by omega), hB]
    exact congrArg (fun x => b (ix2 x k)) (Fin.ext (by simp only; omega))
  · rw [if_neg h, dif_pos (by omega), hA]
    exact congrArg (fun x => a (ix2 x k)) (Fin.ext (by simp only; omega))

/-- A block's payload is the reference's value, where its operands' blocks read the arrays. -/
theorem core (t : Fin cfg0.N) (o : FVec Ideal Cert.MixRefIdeal.S32768x2048 .bf16) (om : FVec Ideal Cert.MixRefIdeal.S512x2048 .bf16)
    (zc : FVec Ideal Cert.MixRefIdeal.S33280x2048 .bf16) (gy : FVec Ideal Cert.MixRefIdeal.S32768x2048 .f32)
    (gm : FVec Ideal Cert.MixRefIdeal.S512x2048 .f32) (gates : FVec Ideal Cert.MixRefIdeal.S33280x6144 .bf16)
    (wa wb : FVec Ideal Cert.MixRefIdeal.S2048x2048 .bf16) (wc : FVec Ideal Cert.MixRefIdeal.S2048x4096 .bf16)
    (o' om' zc' : FVec Ideal S512x2048 .bf16) (gy' gm' : FVec Ideal S512x2048 .f32) (ga gb gc : FVec Ideal S512x512 .bf16)
    (wa' wb' wl wg : FVec Ideal S2048x512 .bf16) (r l : Fin 512) (R : Fin 33280) (L : Fin 2048)
    (hR : (R : ℕ) = t.val % 65 * 512 + r)
    (ho : ∀ (r : Fin 512) (k : Fin 2048), o' (ix2 r k) = o (ix2 ⟨min (t.val % 65) 63 * 512 + r, by omega⟩ k))
    (hom : ∀ (r : Fin 512) (k : Fin 2048), om' (ix2 r k) = om (ix2 r k))
    (hzc : ∀ k : Fin 2048, zc' (ix2 r k) = zc (ix2 R k))
    (hgy : ∀ (r : Fin 512) (k : Fin 2048), gy' (ix2 r k) = gy (ix2 ⟨min (t.val % 65) 63 * 512 + r, by omega⟩ k))
    (hgm : ∀ (r : Fin 512) (k : Fin 2048), gm' (ix2 r k) = gm (ix2 r k))
    (hga : ga (ix2 r l) = gates (ix2 R ⟨L, by omega⟩)) (hgb : gb (ix2 r l) = gates (ix2 R ⟨2048 + L, by omega⟩))
    (hgc : gc (ix2 r l) = gates (ix2 R ⟨4096 + L, by omega⟩))
    (hwa : ∀ k : Fin 2048, wa' (ix2 k l) = wa (ix2 k L)) (hwb : ∀ k : Fin 2048, wb' (ix2 k l) = wb (ix2 k L))
    (hwl : ∀ k : Fin 2048, wl (ix2 k l) = wc (ix2 k ⟨L, by omega⟩)) (hwg : ∀ k : Fin 2048, wg (ix2 k l) = wc (ix2 k ⟨2048 + L, by omega⟩)) :
    k0_pay1 (F := Ideal) (k0_pay2 (F := Ideal) (grid0.coords t) om' o' wa' zc' wb' ga gb) (k0_pay3 (F := Ideal) (grid0.coords t) gm' gy' wl wg gc) (ix2 r l)
      = mixed o om zc gy gm gates wa wb wc (ix2 R L) := by
  rw [two_eq, glu_eq, pay_at, two_at, gluBranch_at, mixed_at, rowsBy_at, rowsBy_at, glu_at, glu_at]
  simp only [chosen o om t o' om' ho hom r R hR, chosen gy gm t gy' gm' hgy hgm r R hR, hzc, hga, hgb, hgc, hwa, hwb, hwl, hwg]
  rfl

/-- What the body stores at a block index is the reference's value at the array index the block puts it at. -/
theorem point (c : Dev nD) (t : Fin cfg0.N) (y : S512x512.Idx) (j : S33280x2048.Idx) (h0 : (j 0 : ℕ) = t.val % 65 * 512 + (y 0 : ℕ))
    (h1 : (j 1 : ℕ) = t.val / 65 * 512 + (y 1 : ℕ)) :
    k0_pay1 (F := Ideal) (k0_pay2 (F := Ideal) (grid0.coords t) (iblk m c 1 t) (iblk m c 0 t) (iblk m c 8 t) (iblk m c 2 t) (iblk m c 9 t) (iblk m c 5 t) (iblk m c 6 t))
        (k0_pay3 (F := Ideal) (grid0.coords t) (iblk m c 4 t) (iblk m c 3 t) (iblk m c 10 t) (iblk m c 11 t) (iblk m c 7 t)) y
      = mixed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) j := by
  rw [eq_ix2 y, eq_ix2 j]
  refine core t _ _ _ _ _ _ _ _ _ _ _ _ _ _ _ _ _ _ _ _ _ (y 0) (y 1) (j 0) (j 1) h0 (fun r k => ?_) (fun r k => ?_) (fun k => ?_) (fun r k => ?_)
    (fun r k => ?_) ?_ ?_ ?_ (fun k => ?_) (fun k => ?_) (fun k => ?_) fun k => ?_
  all_goals blk_point [iblk, V, idx t]

/-- The result array after the run is the reference's. -/
theorem final (c : Dev nD) : (dats m 0 c).arrAt 12 (cfgs 0).N
    = mixed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 12 _ (by decide +kernel) fun t _ y => ?_
  blk_simp
  rw [after0_12]; frame_out
  exact point m c t y _ (by blk_simp [idx t]) (by blk_simp [idx t])

end Cert.MixIdeal.Value

end
-- ==== Proof.LayerNormRow.lean ====
module

public import Idealize.ShloMosaic.Lib.Pipeline.ValueKit

/-! The layer normalisation of one row of 2048 entries, over the extended reals. -/

@[expose] public section

noncomputable section

open Idealize.ShloMosaic

namespace Cert.LayerNorm

/-- The mean of a row. -/
def mean (y : Fin 2048 → EReal) : EReal := Ideal.div (∑ k : Fin 2048, y k) (Ideal.ofBits .f32 0x45000000#32)

/-- The mean of the squared distances from the mean. -/
def variance (y : Fin 2048 → EReal) : EReal :=
  Ideal.div (∑ k : Fin 2048, (y k - mean y) * (y k - mean y)) (Ideal.ofBits .f32 0x45000000#32)

/-- The normalised row, scaled and shifted. -/
def rowNorm (y g b : Fin 2048 → EReal) (l : Fin 2048) : EReal :=
  (y l - mean y) * Ideal.rsqrt (variance y + Ideal.ofBits .f32 0x3727C5AC#32) * g l + b l

end Cert.LayerNorm

end
-- ==== Proof.MmOutValue.lean ====
module

public import proofs.«01_k».proof.Proof.Gen.MmOutIdeal.Value
public import proofs.«01_k».proof.Proof.Gen.MmOutRefIdeal.Run
public import proofs.«01_k».proof.Proof.LayerNormRow

/-! The output projection with its residual and layer normalisation: the two arrays the kernel leaves are the reference's. -/

@[expose] public section

set_option maxRecDepth 16384

noncomputable section

open Idealize.ShloMosaic Idealize.ShloMosaic.TcCoe Idealize.SL.Sem
open Idealize.ShloMosaic.Pipeline (Dat)
open Cert.LayerNorm

namespace Cert.MmOutRefIdeal.Value

open Cert.MmOutRefIdeal Cert.MmOutRefIdeal.Gen

/-- The residual scaled, plus the rows times the weight. -/
def summed (X : FVec Ideal S33280x2048 .bf16) (W : FVec Ideal S2048x2048 .bf16) (res : FVec Ideal S33280x2048 .f32) : FVec Ideal S33280x2048 .f32 :=
  addf (mulf (broadcastInDim S33280x2048 ![] bcast_S_S33280x2048 (constant S_ .f32 0x3FD744FD#32)) res)
    (Host.dotGeneral dot_S33280x2048_S2048x2048_S33280x2048_1_0_0_1_n_n none (extf .f32 X bitsLt_bf16_f32) (extf .f32 W bitsLt_bf16_f32))

/-- The mean of every row, as a column. -/
def rowMean (Y : FVec Ideal S33280x2048 .f32) : FVec Ideal S33280x1 .f32 :=
  Host.divf (broadcastInDim S33280x1 ![0] bcast_S33280_S33280x1_0 (Host.reduceAdd Y (constant S_ .f32 0x00000000#32) reducesTo_S33280x2048_S33280_d1 h_S_))
    (broadcastInDim S33280x1 ![] bcast_S_S33280x1 (constant S_ .f32 0x45000000#32))

/-- Every row less its mean. -/
def centred (Y : FVec Ideal S33280x2048 .f32) : FVec Ideal S33280x2048 .f32 :=
  subf Y (broadcastInDim S33280x2048 ![0, 1] bcast_S33280x1_S33280x2048_0_1 (rowMean Y))

/-- Every row normalised, scaled and shifted. -/
def normalised (Y : FVec Ideal S33280x2048 .f32) (g b : FVec Ideal S2048 .f32) : FVec Ideal S33280x2048 .f32 :=
  addf (mulf (mulf (centred Y) (broadcastInDim S33280x2048 ![0, 1] bcast_S33280x1_S33280x2048_0_1
      (Host.rsqrt (addf (rowMean (mulf (centred Y) (centred Y))) (broadcastInDim S33280x1 ![] bcast_S_S33280x1 (constant S_ .f32 0x3727C5AC#32))))))
      (broadcastInDim S33280x2048 ![0, 1] bcast_S1x2048_S33280x2048_0_1 (broadcastInDim S1x2048 ![1] bcast_S2048_S1x2048_1 g)))
    (broadcastInDim S33280x2048 ![0, 1] bcast_S1x2048_S33280x2048_0_1 (broadcastInDim S1x2048 ![1] bcast_S2048_S1x2048_1 b))

/-- The reference's first result: the sum normalised. -/
def normed (X : FVec Ideal S33280x2048 .bf16) (W : FVec Ideal S2048x2048 .bf16) (res : FVec Ideal S33280x2048 .f32)
    (g b : FVec Ideal S2048 .f32) : FVec Ideal S33280x2048 .f32 :=
  normalised (summed X W res) g b

/-- The reference's second result: the first, in the narrow format. -/
def narrowed (X : FVec Ideal S33280x2048 .bf16) (W : FVec Ideal S2048x2048 .bf16) (res : FVec Ideal S33280x2048 .f32)
    (g b : FVec Ideal S2048 .f32) : FVec Ideal S33280x2048 .bf16 :=
  truncf .bf16 (normed X W res g b) bitsLt_bf16_f32

theorem summed_at (X : FVec Ideal S33280x2048 .bf16) (W : FVec Ideal S2048x2048 .bf16) (res : FVec Ideal S33280x2048 .f32) (r : Fin 33280) (l : Fin 2048) :
    summed X W res (ix2 r l) = Ideal.ofBits .f32 0x3FD744FD#32 * res (ix2 r l) + ∑ k : Fin 2048, X (ix2 r k) * W (ix2 k l) := by
  pointwise [summed]

theorem rowMean_at (Y : FVec Ideal S33280x2048 .f32) (r : Fin 33280) (u : Fin 1) : rowMean Y (ix2 r u) = mean fun l => Y (ix2 r l) := by
  pointwise [rowMean, mean]

theorem centred_at (Y : FVec Ideal S33280x2048 .f32) (r : Fin 33280) (l : Fin 2048) :
    centred Y (ix2 r l) = Y (ix2 r l) - mean fun l => Y (ix2 r l) := by
  pointwise [centred, rowMean_at]

/-- A normalised array at an index: its row normalised. -/
theorem normalised_at (Y : FVec Ideal S33280x2048 .f32) (g b : FVec Ideal S2048 .f32) (r : Fin 33280) (l : Fin 2048) :
    normalised Y g b (ix2 r l) = rowNorm (fun l => Y (ix2 r l)) (fun l => g (ix1 l)) (fun l => b (ix1 l)) l := by
  pointwise [normalised, centred_at, rowMean_at]
  rfl

end Cert.MmOutRefIdeal.Value

namespace Cert.MmOutIdeal.Value

open Cert.MmOutIdeal Cert.MmOutIdeal.Gen
open Cert.MmOutRefIdeal.Value (normed narrowed normalised_at summed_at)

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- A vector laid out as one row, at an index. -/
theorem row_at (b : FVec Ideal S2048 .f32) (h) (i : S1x2048.Idx) : shapeCast S1x2048 b h i = b (ix1 (i 1)) := by
  pointwise

/-- The scale as launched, a row. -/
theorem scale (c : Dev nD) : V m c main_v0 = fun i : S1x2048.Idx => m ((c : Thread nD τ).loc main_arg3) (ix1 (i 1)) := by
  have h : V m c main_v0 = shapeCast S1x2048 (m ((c : Thread nD τ).loc main_arg3)) shapeCasts_S2048_S1x2048 := by
    unfold V; after_results; try rfl
  rw [h]
  funext i
  exact row_at _ _ i

/-- The shift as launched, a row. -/
theorem shift (c : Dev nD) : V m c main_v1 = fun i : S1x2048.Idx => m ((c : Thread nD τ).loc main_arg4) (ix1 (i 1)) := by
  have h : V m c main_v1 = shapeCast S1x2048 (m ((c : Thread nD τ).loc main_arg4)) shapeCasts_S2048_S1x2048 := by
    unfold V; after_results; try rfl
  rw [h]
  funext i
  exact row_at _ _ i

/-- The normalising payload at an index: the row normalised. -/
theorem pay3_at (res acc : FVec Ideal S512x2048 .f32) (g b : FVec Ideal S1x2048 .f32) (r : Fin 512) (l : Fin 2048) :
    k0_pay3 (F := Ideal) res acc g b (ix2 r l)
      = rowNorm (fun l => Ideal.ofBits .f32 0x3FD744FD#32 * res (ix2 r l) + acc (ix2 r l)) (fun l => g (ix2 0 l)) (fun l => b (ix2 0 l)) l := by
  pointwise [k0_pay3, rowNorm, variance, mean]

/-- The product's payload at an index. -/
theorem pay2_at (x : FVec Ideal S512x2048 .bf16) (w : FVec Ideal S2048x2048 .bf16) (r : Fin 512) (l : Fin 2048) :
    k0_pay2 (F := Ideal) (k0_pay1 (F := Ideal)) x w (ix2 r l) = ∑ k : Fin 2048, x (ix2 r k) * w (ix2 k l) := by
  pointwise [k0_pay2, k0_pay1]

/-- A block's payload is the reference's value, where its operands' blocks read the arrays. -/
theorem core (X : FVec Ideal S33280x2048 .bf16) (W : FVec Ideal S2048x2048 .bf16) (res : FVec Ideal S33280x2048 .f32) (g b : FVec Ideal S2048 .f32)
    (x : FVec Ideal S512x2048 .bf16) (w : FVec Ideal S2048x2048 .bf16) (s : FVec Ideal S512x2048 .f32) (g' b' : FVec Ideal S1x2048 .f32)
    (r : Fin 512) (l : Fin 2048) (R : Fin 33280) (hx : ∀ k : Fin 2048, x (ix2 r k) = X (ix2 R k)) (hw : ∀ k l : Fin 2048, w (ix2 k l) = W (ix2 k l))
    (hs : ∀ k : Fin 2048, s (ix2 r k) = res (ix2 R k)) (hg : ∀ k : Fin 2048, g' (ix2 0 k) = g (ix1 k)) (hb : ∀ k : Fin 2048, b' (ix2 0 k) = b (ix1 k)) :
    k0_pay3 (F := Ideal) s (k0_pay2 (F := Ideal) (k0_pay1 (F := Ideal)) x w) g' b' (ix2 r l) = normed X W res g b (ix2 R l) := by
  simp only [pay3_at, pay2_at, normed, normalised_at, summed_at, hx, hw, hs, hg, hb]

/-- What the body stores at a block index is the reference's value at the array index the block puts it at. -/
theorem point (c : Dev nD) (t : Fin cfg0.N) (y : S512x2048.Idx) (j : S33280x2048.Idx) (h0 : (j 0 : ℕ) = t.val * 512 + (y 0 : ℕ))
    (h1 : (j 1 : ℕ) = (y 1 : ℕ)) :
    k0_pay3 (F := Ideal) (iblk m c 2 t) (k0_pay2 (F := Ideal) (k0_pay1 (F := Ideal)) (iblk m c 0 t) (iblk m c 1 t)) (iblk m c 3 t) (iblk m c 4 t) y
      = normed (m ((c : Thread nD τ).loc main_arg0)) (m ((c : Thread nD τ).loc main_arg1)) (m ((c : Thread nD τ).loc main_arg2))
          (m ((c : Thread nD τ).loc main_arg3)) (m ((c : Thread nD τ).loc main_arg4)) j := by
  rw [eq_ix2 y, eq_ix2 j, show j 1 = y 1 from Fin.ext h1]
  refine core _ _ _ _ _ _ _ _ _ _ (y 0) (y 1) (j 0) (fun k => ?_) (fun k l => ?_) (fun k => ?_) (fun k => ?_) fun k => ?_
  all_goals blk_point [iblk, V_main_arg0, V_main_arg1, V_main_arg2, scale, shift, idx t]

/-- The first result array after the run is the reference's. -/
theorem final5 (c : Dev nD) : (dats m 0 c).arrAt 5 (cfgs 0).N
    = normed (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; unfold outsAt0; frame_out
  exact point m c t y _ (by blk_simp [idx t]) (by blk_simp [idx t])

/-- The second result array after the run is the reference's. -/
theorem final6 (c : Dev nD) : (dats m 0 c).arrAt 6 (cfgs 0).N
    = narrowed (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]; unfold outsAt0; frame_out
  exact point m c t y _ (by blk_simp [idx t]) (by blk_simp [idx t])

end Cert.MmOutIdeal.Value

end
-- ==== Proof.MmDownValue.lean ====
module

public import proofs.«01_k».proof.Proof.Gen.MmDownIdeal.Value
public import proofs.«01_k».proof.Proof.Gen.MmDownRefIdeal.Run
public import proofs.«01_k».proof.Proof.MmOutValue
public import Idealize.ShloMosaic.Lib.Pipeline.ReadBack

/-! The down projection of the feed-forward with its residual and layer normalisation: the two arrays the kernel leaves are the reference's. -/

@[expose] public section

set_option maxRecDepth 16384

noncomputable section

open Idealize.ShloMosaic Idealize.ShloMosaic.TcCoe Idealize.SL.Sem
open Idealize.ShloMosaic.Pipeline (Dat)
open Cert.LayerNorm

namespace Cert.MmDownRefIdeal.Value

open Cert.MmDownRefIdeal Cert.MmDownRefIdeal.Gen
open Cert.MmOutRefIdeal.Value (normalised)

/-- The residual scaled, plus the rows times the weight. -/
def summed (X : FVec Ideal S33280x5632 .bf16) (W : FVec Ideal S5632x2048 .bf16) (res : FVec Ideal S33280x2048 .f32) : FVec Ideal S33280x2048 .f32 :=
  addf (mulf (broadcastInDim S33280x2048 ![] bcast_S_S33280x2048 (constant S_ .f32 0x3FD744FD#32)) res)
    (Host.dotGeneral dot_S33280x5632_S5632x2048_S33280x2048_1_0_0_1_n_n none (extf .f32 X bitsLt_bf16_f32) (extf .f32 W bitsLt_bf16_f32))

/-- The reference's first result: the sum normalised. -/
def normed (X : FVec Ideal S33280x5632 .bf16) (W : FVec Ideal S5632x2048 .bf16) (res : FVec Ideal S33280x2048 .f32)
    (g b : FVec Ideal S2048 .f32) : FVec Ideal S33280x2048 .f32 :=
  normalised (summed X W res) g b

/-- The reference's second result: the first, in the narrow format. -/
def narrowed (X : FVec Ideal S33280x5632 .bf16) (W : FVec Ideal S5632x2048 .bf16) (res : FVec Ideal S33280x2048 .f32)
    (g b : FVec Ideal S2048 .f32) : FVec Ideal S33280x2048 .bf16 :=
  truncf .bf16 (normed X W res g b) bitsLt_bf16_f32

theorem summed_at (X : FVec Ideal S33280x5632 .bf16) (W : FVec Ideal S5632x2048 .bf16) (res : FVec Ideal S33280x2048 .f32) (r : Fin 33280) (l : Fin 2048) :
    summed X W res (ix2 r l) = Ideal.ofBits .f32 0x3FD744FD#32 * res (ix2 r l) + ∑ k : Fin 5632, X (ix2 r k) * W (ix2 k l) := by
  pointwise [summed]

end Cert.MmDownRefIdeal.Value

namespace Cert.MmDownIdeal.Value

open Cert.MmDownIdeal Cert.MmDownIdeal.Gen
open Cert.MmDownRefIdeal.Value (normed narrowed summed_at)
open Cert.MmOutRefIdeal.Value (normalised_at)

variable (m : (ℓ : Loc nD τ sig) → Buf (Elt Ideal) ℓ)

/-- The windows' block indices at every grid point. -/
theorem idx : ∀ t : Fin cfg0.N, win0_0.index t = ![t.val / 4, t.val % 4] ∧ win0_1.index t = ![t.val % 4, 0] ∧ win0_2.index t = ![t.val / 4, 0]
    ∧ win0_3.index t = ![0, 0] ∧ win0_4.index t = ![0, 0] ∧ win0_5.index t = ![t.val / 4, 0] ∧ win0_6.index t = ![t.val / 4, 0] :=
  (by decide +kernel : ∀ t : Fin grid0.N, _)

/-- A vector laid out as one row, at an index. -/
theorem row_at (b : FVec Ideal S2048 .f32) (h) (i : S1x2048.Idx) : shapeCast S1x2048 b h i = b (ix1 (i 1)) := by
  pointwise

/-- The scale as launched, a row. -/
theorem scale (c : Dev nD) : V m c main_v0 = fun i : S1x2048.Idx => m ((c : Thread nD τ).loc main_arg3) (ix1 (i 1)) := by
  have h : V m c main_v0 = shapeCast S1x2048 (m ((c : Thread nD τ).loc main_arg3)) shapeCasts_S2048_S1x2048 := by
    unfold V; after_results; try rfl
  rw [h]
  funext i
  exact row_at _ _ i

/-- The shift as launched, a row. -/
theorem shift (c : Dev nD) : V m c main_v1 = fun i : S1x2048.Idx => m ((c : Thread nD τ).loc main_arg4) (ix1 (i 1)) := by
  have h : V m c main_v1 = shapeCast S1x2048 (m ((c : Thread nD τ).loc main_arg4)) shapeCasts_S2048_S1x2048 := by
    unfold V; after_results; try rfl
  rw [h]
  funext i
  exact row_at _ _ i

/-- The normalising payload at an index: the row normalised. -/
theorem pay3_at (res acc : FVec Ideal S640x2048 .f32) (g b : FVec Ideal S1x2048 .f32) (r : Fin 640) (l : Fin 2048) :
    k0_pay3 (F := Ideal) res acc g b (ix2 r l)
      = rowNorm (fun l => Ideal.ofBits .f32 0x3FD744FD#32 * res (ix2 r l) + acc (ix2 r l)) (fun l => g (ix2 0 l)) (fun l => b (ix2 0 l)) l := by
  pointwise [k0_pay3, rowNorm, variance, mean]

/-- The part of the product over the columns of one block. -/
def part (x : FVec Ideal S640x1408 .bf16) (w : FVec Ideal S1408x2048 .bf16) (y : S640x2048.Idx) : EReal :=
  ∑ k : Fin 1408, x (ix2 (y 0) k) * w (ix2 k (y 1))

/-- The accumulating payload at an index: the part of the point's block is added. -/
theorem pay2_at (a : FVec Ideal S640x2048 .f32) (x : FVec Ideal S640x1408 .bf16) (w : FVec Ideal S1408x2048 .bf16) (y : S640x2048.Idx) :
    k0_pay2 (F := Ideal) a x w y = a y + part x w y := by
  pointwise [k0_pay2, part]

/-- The accumulator starts at zero. -/
theorem pay1_at (y : S640x2048.Idx) : k0_pay1 (F := Ideal) y = 0 := by
  pointwise [k0_pay1]

/-- After the last point of a run the accumulator holds the whole product's block: the sum of the run's parts. -/
theorem acc_at (c : Dev nD) (t : Fin cfg0.N) (h : t.val % 4 = 4 - 1) (y : S640x2048.Idx) :
    (outsAt0 m c t.val t.isLt).2.2 y
      = 0 + ∑ s : Fin 4, part (iblk m c 0 ⟨4 * (t.val / 4) + s.val, Pipeline.run_point_lt_of_flush t h s⟩)
          (iblk m c 1 ⟨4 * (t.val / 4) + s.val, Pipeline.run_point_lt_of_flush t h s⟩) y := by
  refine Pipeline.eq_sum_fin_of_reset_step_apply_of_flush (fun n h => (outsAt0 m c n h).2.2) 4 (fun _ => 0)
    (fun t y => part (iblk m c 0 t) (iblk m c 1 t) y) (fun t h j => ?_) (fun t h j => ?_) t h y
  · have h1 : ¬ t.val % 4 = 3 := by omega
    rw [outsAt0_A m c t h h1]
    frame_out
    rw [pay2_at, pay1_at]
  · by_cases h1 : t.val % 4 = 3
    · rw [outsAt0_C m c t h h1]
      frame_out
      rw [pay2_at, read_unread_whole]
    · rw [outsAt0_B m c t h h1]
      frame_out
      rw [pay2_at, read_unread_whole]

/-- At the last point of a run the body stores the normalised accumulator in the first result. -/
theorem out5_eq (c : Dev nD) (t : Fin cfg0.N) (h : t.val % 4 = 4 - 1) :
    (outsAt0 m c t.val t.isLt).1 = k0_pay3 (F := Ideal) (iblk m c 2 t) (outsAt0 m c t.val t.isLt).2.2 (iblk m c 3 t) (iblk m c 4 t) := by
  have h0 : ¬ t.val % 4 = 0 := by omega
  rw [outsAt0_C m c t h0 h]
  frame_out

/-- At the last point of a run the body stores the normalised accumulator in the second result. -/
theorem out6_eq (c : Dev nD) (t : Fin cfg0.N) (h : t.val % 4 = 4 - 1) :
    (outsAt0 m c t.val t.isLt).2.1 = k0_pay4 (F := Ideal) (iblk m c 2 t) (outsAt0 m c t.val t.isLt).2.2 (iblk m c 3 t) (iblk m c 4 t) := by
  have h0 : ¬ t.val % 4 = 0 := by omega
  rw [outsAt0_C m c t h0 h]
  frame_out

/-- The normalised accumulator is the reference's value, where the operands' blocks read the arrays. -/
theorem core (X : FVec Ideal S33280x5632 .bf16) (W : FVec Ideal S5632x2048 .bf16) (res : FVec Ideal S33280x2048 .f32) (g b : FVec Ideal S2048 .f32)
    (x : Fin 4 → FVec Ideal S640x1408 .bf16) (w : Fin 4 → FVec Ideal S1408x2048 .bf16) (s acc : FVec Ideal S640x2048 .f32) (g' b' : FVec Ideal S1x2048 .f32)
    (r : Fin 640) (l : Fin 2048) (R : Fin 33280)
    (hacc : ∀ l : Fin 2048, acc (ix2 r l) = 0 + ∑ u : Fin 4, part (x u) (w u) (ix2 r l))
    (hx : ∀ (u : Fin 4) (k : Fin 1408), x u (ix2 r k) = X (ix2 R ⟨u * 1408 + k, by omega⟩))
    (hw : ∀ (u : Fin 4) (k : Fin 1408) (l : Fin 2048), w u (ix2 k l) = W (ix2 ⟨u * 1408 + k, by omega⟩ l))
    (hs : ∀ k : Fin 2048, s (ix2 r k) = res (ix2 R k)) (hg : ∀ k : Fin 2048, g' (ix2 0 k) = g (ix1 k)) (hb : ∀ k : Fin 2048, b' (ix2 0 k) = b (ix1 k)) :
    k0_pay3 (F := Ideal) s acc g' b' (ix2 r l) = normed X W res g b (ix2 R l) := by
  have hp : ∀ l : Fin 2048, acc (ix2 r l) = ∑ k : Fin 5632, X (ix2 R k) * W (ix2 k l) := by
    intro l
    rw [hacc, zero_add]
    unfold part
    refine Fin.sum_mul_add_congr fun u k hl => ?_
    exact congrArg₂ (· * ·) (hx u k) (hw u k l)
  unfold normed
  rw [pay3_at, normalised_at]
  simp only [summed_at, hp, hs, hg, hb]

/-- What the last point of a run stores at a block index is the reference's value at the array index the block puts it at. -/
theorem point (c : Dev nD) (t : Fin cfg0.N) (h : t.val % 4 = 4 - 1) (y : S640x2048.Idx) (j : S33280x2048.Idx) (h0 : (j 0 : ℕ) = t.val / 4 * 640 + (y 0 : ℕ))
    (h1 : (j 1 : ℕ) = (y 1 : ℕ)) :
    k0_pay3 (F := Ideal) (iblk m c 2 t) (outsAt0 m c t.val t.isLt).2.2 (iblk m c 3 t) (iblk m c 4 t) y
      = normed (m ((c : Thread nD τ).loc main_arg0)) (m ((c : Thread nD τ).loc main_arg1)) (m ((c : Thread nD τ).loc main_arg2))
          (m ((c : Thread nD τ).loc main_arg3)) (m ((c : Thread nD τ).loc main_arg4)) j := by
  rw [eq_ix2 y, eq_ix2 j, show j 1 = y 1 from Fin.ext h1]
  refine core _ _ _ _ _ (fun s => iblk m c 0 ⟨4 * (t.val / 4) + s.val, Pipeline.run_point_lt_of_flush t h s⟩)
    (fun s => iblk m c 1 ⟨4 * (t.val / 4) + s.val, Pipeline.run_point_lt_of_flush t h s⟩) _ _ _ _ (y 0) (y 1) (j 0)
    (fun l => acc_at m c t h _) (fun s k => ?_) (fun s k l => ?_) (fun k => ?_) (fun k => ?_) fun k => ?_
  · blk_point [iblk, V_main_arg0, idx ⟨_, Pipeline.run_point_lt_of_flush t h s⟩]
  · blk_point [iblk, V_main_arg1, idx ⟨_, Pipeline.run_point_lt_of_flush t h s⟩]
  all_goals blk_point [iblk, V_main_arg2, scale, shift, idx t]

/-- The first result array after the run is the reference's. -/
theorem result5 (c : Dev nD) : (dats m 0 c).arrAt 5 (cfgs 0).N
    = normed (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5, out5_eq m c t ((flush0_5 t).mp hf)]
  exact point m c t ((flush0_5 t).mp hf) y _ (by blk_simp [idx t]) (by blk_simp [idx t])

/-- The second result array after the run is the reference's. -/
theorem result6 (c : Dev nD) : (dats m 0 c).arrAt 6 (cfgs 0).N
    = narrowed (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6, out6_eq m c t ((flush0_6 t).mp hf)]
  exact point m c t ((flush0_6 t).mp hf) y _ (by blk_simp [idx t]) (by blk_simp [idx t])

end Cert.MmDownIdeal.Value

end
-- ==== Proof.KvUpValue.lean ====
module

public import proofs.«01_k».proof.Proof.Gen.KvUpIdeal.Value
public import proofs.«01_k».proof.Proof.Gen.KvUpRefIdeal.Run
public import Idealize.ShloMosaic.Lib.Pipeline.ValueKit

/-! The up projection of the latent keys and values: the two arrays the kernel leaves are the reference's. -/

@[expose] public section

set_option maxRecDepth 16384

noncomputable section

open Idealize.ShloMosaic Idealize.ShloMosaic.TcCoe Idealize.SL.Sem
open Idealize.ShloMosaic.Pipeline (Dat)

namespace Cert.KvUpRefIdeal.Value

open Cert.KvUpRefIdeal Cert.KvUpRefIdeal.Gen

/-- A row divided by the root of its mean square, entry by entry times a scale. -/
def rms (a g : Fin 512 → EReal) (l : Fin 512) : EReal :=
  a l * Ideal.rsqrt (Ideal.div (∑ k, a k * a k) (Ideal.ofBits .f32 0x44000000#32) + Ideal.ofBits .f32 0x358637BD#32) * g l

/-- The latent columns, widened. -/
def latent (X : FVec Ideal S33280x640 .bf16) : FVec Ideal S33280x512 .f32 :=
  extractStridedSlice S33280x512 ![0, 0] (extf .f32 X bitsLt_bf16_f32) slices_S33280x640_S33280x512_0_0

/-- The latent rows normalised and scaled, in the narrow format and back. -/
def latentNorm (X : FVec Ideal S33280x640 .bf16) (g : FVec Ideal S512 .f32) : FVec Ideal S33280x512 .f32 :=
  extf .f32 (truncf .bf16 (mulf (mulf (latent X) (broadcastInDim S33280x512 ![0, 1] bcast_S33280x1_S33280x512_0_1 (Host.rsqrt (addf
      (Host.divf (broadcastInDim S33280x1 ![0] bcast_S33280_S33280x1_0
        (Host.reduceAdd (mulf (latent X) (latent X)) (constant S_ .f32 0x00000000#32) reducesTo_S33280x512_S33280_d1 h_S_))
        (broadcastInDim S33280x1 ![] bcast_S_S33280x1 (constant S_ .f32 0x44000000#32)))
      (broadcastInDim S33280x1 ![] bcast_S_S33280x1 (constant S_ .f32 0x358637BD#32))))))
    (broadcastInDim S33280x512 ![0, 1] bcast_S1x512_S33280x512_0_1 (broadcastInDim S1x512 ![1] bcast_S512_S1x512_1 g))) bitsLt_bf16_f32) bitsLt_bf16_f32

/-- The last columns times the table. -/
def tabled (X : FVec Ideal S33280x640 .bf16) (T : FVec Ideal S33280x128 .f32) : FVec Ideal S33280x128 .f32 :=
  mulf (extractStridedSlice S33280x128 ![0, 512] (extf .f32 X bitsLt_bf16_f32) slices_S33280x640_S33280x128_0_512) T

/-- A half head plus itself with its two quarters exchanged. -/
def turned (p : FVec Ideal S33280x128 .f32) : FVec Ideal S33280x128 .f32 :=
  addf p (concatenate S33280x128 1 [⟨S33280x64, extractStridedSlice S33280x64 ![0, 64] p slices_S33280x128_S33280x64_0_64⟩,
    ⟨S33280x64, extractStridedSlice S33280x64 ![0, 0] p slices_S33280x128_S33280x64_0_0⟩] concatenates_S33280x64_S33280x64_S33280x128_d1)

/-- The first quarter of a half head beside zeros. -/
def cut (p : FVec Ideal S33280x128 .f32) : FVec Ideal S33280x128 .f32 :=
  concatenate S33280x128 1 [⟨S33280x64, extractStridedSlice S33280x64 ![0, 0] p slices_S33280x128_S33280x64_0_0⟩,
    ⟨S33280x64, broadcastInDim S33280x64 ![] bcast_S_S33280x64 (constant S_ .f32 0x00000000#32)⟩] concatenates_S33280x64_S33280x64_S33280x128_d1

/-- The reference's first result: each head's projected half beside the turned half all heads share. -/
def keys (X : FVec Ideal S33280x640 .bf16) (g : FVec Ideal S512 .f32) (W : FVec Ideal S512x2048 .bf16) (T : FVec Ideal S33280x128 .f32) :
    FVec Ideal S33280x4096 .bf16 :=
  truncf .bf16 (shapeCast _ (concatenate S33280x16x256 2
    [⟨S33280x16x128, shapeCast _ (Host.dotGeneral dot_S33280x512_S512x2048_S33280x2048_1_0_0_1_n_n none (latentNorm X g) (extf .f32 W bitsLt_bf16_f32))
        shapeCasts_S33280x2048_S33280x16x128⟩,
      ⟨S33280x16x128, broadcastInDim S33280x16x128 ![0, 1, 2] bcast_S33280x1x128_S33280x16x128_0_1_2
        (broadcastInDim S33280x1x128 ![0, 2] bcast_S33280x128_S33280x1x128_0_2 (cut (turned (tabled X T))))⟩]
    concatenates_S33280x16x128_S33280x16x128_S33280x16x256_d2) shapeCasts_S33280x16x256_S33280x4096) bitsLt_bf16_f32

/-- The reference's second result: the latent rows times the values' weight, turned over. -/
def values (X : FVec Ideal S33280x640 .bf16) (g : FVec Ideal S512 .f32) (W : FVec Ideal S2048x512 .bf16) : FVec Ideal S2048x33280 .bf16 :=
  truncf .bf16 (transpose S2048x33280 [1, 0] (Host.dotGeneral dot_S33280x512_S512x2048_S33280x2048_1_0_0_1_n_n none (latentNorm X g)
    (transpose S512x2048 [1, 0] (extf .f32 W bitsLt_bf16_f32) transposes_S2048x512_S512x2048_1_0)) transposes_S33280x2048_S2048x33280_1_0) bitsLt_bf16_f32

/-- The reference runs and leaves `keys` and `values` of its arguments, and the arguments unchanged. -/
theorem run_keys (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = keys (m ((c.tc : Thread nD τ).loc main_arg0)) (m ((c.tc : Thread nD τ).loc main_arg1))
        (m ((c.tc : Thread nD τ).loc main_arg2)) (m ((c.tc : Thread nD τ).loc main_arg4))
      ∧ r.2.mem ((c.tc : Thread nD τ).loc main_v38) = values (m ((c.tc : Thread nD τ).loc main_arg0)) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (run m ρ) fun _ h c => ⟨(h c).1, (h c).2.1, (h c).2.2⟩

theorem latent_at (X : FVec Ideal S33280x640 .bf16) (R : Fin 33280) (l : Fin 512) : latent X (ix2 R l) = X (ix2 R ⟨l, by omega⟩) := by
  pointwise [latent]

theorem latentNorm_at (X : FVec Ideal S33280x640 .bf16) (g : FVec Ideal S512 .f32) (R : Fin 33280) (l : Fin 512) :
    latentNorm X g (ix2 R l) = rms (fun l => X (ix2 R ⟨l, by omega⟩)) (fun l => g (ix1 l)) l := by
  pointwise [latentNorm, rms, latent_at]

theorem tabled_at (X : FVec Ideal S33280x640 .bf16) (T : FVec Ideal S33280x128 .f32) (R : Fin 33280) (l : Fin 128) :
    tabled X T (ix2 R l) = X (ix2 R ⟨512 + l, by omega⟩) * T (ix2 R l) := by
  pointwise [tabled]

/-- The part of a key all heads share, at an index. -/
theorem cut_turned_at (p : FVec Ideal S33280x128 .f32) (R : Fin 33280) (l : Fin 128) :
    cut (turned p) (ix2 R l) = if h : l.val < 64 then p (ix2 R l) + p (ix2 R ⟨(l + 64), by omega⟩) else 0 := by
  pointwise [cut, turned]
  split
  · exact congrArg (fun l => p (ix2 R _) + p (ix2 R l)) (Fin.ext (Nat.add_comm 64 l.val))
  · rfl

theorem keys_plain (X : FVec Ideal S33280x640 .bf16) (g : FVec Ideal S512 .f32) (W : FVec Ideal S512x2048 .bf16) (T : FVec Ideal S33280x128 .f32)
    (R : Fin 33280) (C : Fin 4096) (D : Fin 2048) (h : C.val % 256 < 128) (hD : D.val = C.val / 256 * 128 + C.val % 256) :
    keys X g W T (ix2 R C) = ∑ k : Fin 512, latentNorm X g (ix2 R k) * W (ix2 k D) := by
  have e : (⟨C.val / 256 * 128 + C.val % 256, by omega⟩ : Fin 2048) = D := Fin.ext hD.symm
  pointwise [keys]
  split
  · rw [e]
  · omega

theorem keys_turned (X : FVec Ideal S33280x640 .bf16) (g : FVec Ideal S512 .f32) (W : FVec Ideal S512x2048 .bf16) (T : FVec Ideal S33280x128 .f32)
    (R : Fin 33280) (C : Fin 4096) (l : Fin 128) (h : C.val % 256 = 128 + l) :
    keys X g W T (ix2 R C) = cut (turned (tabled X T)) (ix2 R l) := by
  have e : ∀ hp, (⟨C.val % 256 - 128, hp⟩ : Fin 128) = l := fun hp => Fin.ext (by dsimp only; omega)
  pointwise [keys]
  split
  · omega
  · rw [e]

theorem values_at (X : FVec Ideal S33280x640 .bf16) (g : FVec Ideal S512 .f32) (W : FVec Ideal S2048x512 .bf16) (n : Fin 2048) (R : Fin 33280) :
    values X g W (ix2 n R) = ∑ k : Fin 512, latentNorm X g (ix2 R k) * W (ix2 n k) := by
  pointwise [values]

end Cert.KvUpRefIdeal.Value

namespace Cert.KvUpIdeal.Value

open Cert.KvUpIdeal Cert.KvUpIdeal.Gen
open Cert.KvUpRefIdeal.Value (keys values rms keys_plain keys_turned values_at latentNorm_at tabled_at cut_turned_at)

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![0, t.val] :=
  (by decide +kernel : ∀ t : Fin grid0.N, _)

/-- A vector laid out as one row, at an index. -/
theorem row_at (b : FVec Ideal S512 .f32) (h) (i : S1x512.Idx) : shapeCast S1x512 b h i = b (ix1 (i 1)) := by
  pointwise

/-- The scale as launched, a row. -/
theorem scale (c : Dev nD) : V m c main_v0 = fun i : S1x512.Idx => m ((c : Thread nD τ).loc main_arg1) (ix1 (i 1)) := by
  have h : V m c main_v0 = shapeCast S1x512 (m ((c : Thread nD τ).loc main_arg1)) shapeCasts_S512_S1x512 := by
    unfold V; after_results; try rfl
  rw [h]
  funext i
  exact row_at _ _ i

/-- The normalising payload at an index. -/
theorem pay5_at (x : FVec Ideal S512x512 .bf16) (g : FVec Ideal S1x512 .f32) (r l : Fin 512) :
    k0_pay5 (F := Ideal) x g (ix2 r l) = rms (fun l => x (ix2 r l)) (fun l => g (ix2 0 l)) l := by
  pointwise [k0_pay5, rms]

/-- The projecting payload at an index. -/
theorem pay24_at (x : FVec Ideal S512x640 .bf16) (g : FVec Ideal S1x512 .f32) (w : FVec Ideal S512x2048 .bf16) (v : FVec Ideal S2048x512 .bf16)
    (b : FVec Ideal S512x128 .f32) (r : Fin 512) (l : Fin 2048) :
    k0_pay24 (F := Ideal) x g w v b (ix2 r l) = ∑ k : Fin 512, rms (fun l => x (ix2 r ⟨l, by omega⟩)) (fun l => g (ix2 0 l)) k * w (ix2 k l) := by
  pointwise [k0_pay24, k0_pay6, pay5_at]

/-- The turning payload at an index. -/
theorem pay25_at (x : FVec Ideal S512x640 .bf16) (g : FVec Ideal S1x512 .f32) (w : FVec Ideal S512x2048 .bf16) (v : FVec Ideal S2048x512 .bf16)
    (b : FVec Ideal S512x128 .f32) (r : Fin 512) (l : Fin 128) :
    k0_pay25 (F := Ideal) x g w v b (ix2 r l) = if h : l.val < 64 then x (ix2 r ⟨512 + l, by omega⟩) * b (ix2 r l)
      + x (ix2 r ⟨512 + (l + 64), by omega⟩) * b (ix2 r ⟨l + 64, by omega⟩) else 0 := by
  pointwise [k0_pay25, k0_pay8]
  have hl : l.val < 128 := l.isLt
  have hs : ∀ u v : EReal, Scalar.select (IntOp.cmpi .slt (BitVec.ofNat 32 l.val) 64#32) u v = if l.val < 64 then u else v := fun u v =>
    ite_congr (propext (WordCmp.cmpi_slt_ofNat_eq_one_iff (by omega) (by decide))) (fun _ => rfl) fun _ => rfl
  rw [hs]
  split
  · have e : ∀ hp, (⟨(l.val + 128 - 64) % 128, hp⟩ : Fin 128) = ⟨l.val + 64, by omega⟩ := fun hp => Fin.ext (by dsimp only; omega)
    have e' : ∀ hp, (⟨512 + (l.val + 128 - 64) % 128, hp⟩ : Fin 640) = ⟨512 + (l.val + 64), by omega⟩ := fun hp => Fin.ext (by dsimp only; omega)
    simp only [e, e']
  · rfl

/-- The values' payload at an index. -/
theorem pay7_at (x : FVec Ideal S512x512 .bf16) (g : FVec Ideal S1x512 .f32) (v : FVec Ideal S2048x512 .bf16) (n : Fin 2048) (r : Fin 512) :
    k0_pay7 (F := Ideal) x g v (ix2 n r) = ∑ k : Fin 512, v (ix2 n k) * rms (fun l => x (ix2 r l)) (fun l => g (ix2 0 l)) k := by
  pointwise [k0_pay7, pay5_at]

/-- A piece of 128 columns, narrowed, at an index. -/
theorem slice_at (a : FVec Ideal S512x2048 .f32) (o : ℕ) (h : S512x2048.Slices ![0, o] S512x128) (i : S512x128.Idx) :
    truncf .bf16 (extractStridedSlice S512x128 ![0, o] a h) bitsLt_bf16_f32 i
      = a (ix2 (i 0) ⟨o + (i 1).val, lt_of_lt_of_le (Nat.add_lt_add_left (i 1).isLt o) (h.2 1)⟩) := by
  pointwise

/-- The keys' block the body leaves is the reference's, where the operands' blocks read the arrays. -/
theorem core5 (X : FVec Ideal Cert.KvUpRefIdeal.S33280x640 .bf16) (G : FVec Ideal Cert.KvUpRefIdeal.S512 .f32) (W : FVec Ideal Cert.KvUpRefIdeal.S512x2048 .bf16)
    (T : FVec Ideal Cert.KvUpRefIdeal.S33280x128 .f32) (x : FVec Ideal S512x640 .bf16) (g : FVec Ideal S1x512 .f32) (w : FVec Ideal S512x2048 .bf16)
    (v : FVec Ideal S2048x512 .bf16) (b : FVec Ideal S512x128 .f32) (r : Fin 512) (R : Fin 33280) (l : Fin 4096)
    (hx : ∀ k : Fin 640, x (ix2 r k) = X (ix2 R k)) (hg : ∀ k : Fin 512, g (ix2 0 k) = G (ix1 k)) (hw : ∀ (k : Fin 512) (l : Fin 2048), w (ix2 k l) = W (ix2 k l))
    (hb : ∀ l : Fin 128, b (ix2 r l) = T (ix2 R l)) :
    out0_5 (F := Ideal) x g w v b (ix2 r l) = keys X G W T (ix2 R l) := by
  have turned : ∀ i : S512x128.Idx, r.val = (i 0).val → l.val % 256 = 128 + (i 1).val → k0_pay25 (F := Ideal) x g w v b i = keys X G W T (ix2 R l) := by
    intro i h0 h1
    obtain ⟨i, j, rfl⟩ : ∃ u v, i = ix2 u v := ⟨_, _, eq_ix2 i⟩
    obtain rfl : r = i := Fin.ext h0
    rw [keys_turned X G W T R l j h1, pay25_at, cut_turned_at]
    simp only [tabled_at, hx, hb]
  have plain : ∀ (i : Fin 512) (j : Fin 2048), r.val = i.val → l.val % 256 < 128 → j.val = l.val / 256 * 128 + l.val % 256 →
      k0_pay24 (F := Ideal) x g w v b (ix2 i j) = keys X G W T (ix2 R l) := by
    intro i j h0 h hj
    obtain rfl : r = i := Fin.ext h0
    rw [keys_plain X G W T R l j h hj, pay24_at]
    simp only [latentNorm_at, hx, hg, hw]
  canon_tiles i h
  all_goals simp only [ix2_1] at h1
  all_goals first
    | exact turned i h0 (by omega)
    | exact (slice_at (k0_pay24 (F := Ideal) x g w v b) _ (by decide) i).trans (plain (i 0) _ h0 (by omega) (by dsimp only; omega))

/-- The values' block the body leaves is the reference's, where the operands' blocks read the arrays. -/
theorem core6 (X : FVec Ideal Cert.KvUpRefIdeal.S33280x640 .bf16) (G : FVec Ideal Cert.KvUpRefIdeal.S512 .f32) (W : FVec Ideal Cert.KvUpRefIdeal.S2048x512 .bf16)
    (x : FVec Ideal S512x640 .bf16) (g : FVec Ideal S1x512 .f32) (w : FVec Ideal S512x2048 .bf16)
    (v : FVec Ideal S2048x512 .bf16) (b : FVec Ideal S512x128 .f32) (n : Fin 2048) (r : Fin 512) (R : Fin 33280)
    (hx : ∀ k : Fin 640, x (ix2 r k) = X (ix2 R k)) (hg : ∀ k : Fin 512, g (ix2 0 k) = G (ix1 k)) (hv : ∀ (n : Fin 2048) (k : Fin 512), v (ix2 n k) = W (ix2 n k)) :
    out0_6 (F := Ideal) x g w v b (ix2 n r) = values X G W (ix2 n R) := by
  have e : out0_6 (F := Ideal) x g w v b (ix2 n r)
      = ∑ k : Fin 512, v (ix2 n k) * rms (fun l => x (ix2 r ⟨l, by omega⟩)) (fun l => g (ix2 0 l)) k := by
    canon_tiles i h
    obtain ⟨i, j, rfl⟩ : ∃ u v, i = ix2 u v := ⟨_, _, eq_ix2 i⟩
    obtain rfl : n = i := Fin.ext h0
    obtain rfl : r = j := Fin.ext h1
    rw [pay7_at]
    pointwise
  rw [e, values_at]
  simp only [latentNorm_at, hx, hg, hv, mul_comm]

/-- What the body stores of the keys at a block index is the reference's value at the array index the block puts it at. -/
theorem point5 (c : Dev nD) (t : Fin cfg0.N) (y : S512x4096.Idx) (j : Cert.KvUpRefIdeal.S33280x4096.Idx) (h0 : (j 0 : ℕ) = t.val * 512 + (y 0 : ℕ))
    (h1 : (j 1 : ℕ) = (y 1 : ℕ)) :
    out0_5 (F := Ideal) (iblk m c 0 t) (iblk m c 1 t) (iblk m c 2 t) (iblk m c 3 t) (iblk m c 4 t) y
      = keys (m ((c : Thread nD τ).loc main_arg0)) (m ((c : Thread nD τ).loc main_arg1)) (m ((c : Thread nD τ).loc main_arg2))
          (m ((c : Thread nD τ).loc main_arg4)) j := by
  rw [eq_ix2 y, eq_ix2 j, show j 1 = y 1 from Fin.ext h1]
  refine core5 _ _ _ _ _ _ _ _ _ (y 0) (j 0) (y 1) (fun k => ?_) (fun k => ?_) (fun k l => ?_) fun l => ?_
  all_goals blk_point [iblk, V_main_arg0, V_main_arg2, V_main_arg4, scale, idx t]

/-- What the body stores of the values at a block index is the reference's value at the array index the block puts it at. -/
theorem point6 (c : Dev nD) (t : Fin cfg0.N) (y : S2048x512.Idx) (j : Cert.KvUpRefIdeal.S2048x33280.Idx) (h0 : (j 0 : ℕ) = (y 0 : ℕ))
    (h1 : (j 1 : ℕ) = t.val * 512 + (y 1 : ℕ)) :
    out0_6 (F := Ideal) (iblk m c 0 t) (iblk m c 1 t) (iblk m c 2 t) (iblk m c 3 t) (iblk m c 4 t) y
      = values (m ((c : Thread nD τ).loc main_arg0)) (m ((c : Thread nD τ).loc main_arg1)) (m ((c : Thread nD τ).loc main_arg3)) j := by
  rw [eq_ix2 y, eq_ix2 j, show j 0 = y 0 from Fin.ext h0]
  refine core6 _ _ _ _ _ _ _ _ (y 0) (y 1) (j 1) (fun k => ?_) (fun k => ?_) fun n k => ?_
  all_goals blk_point [iblk, V_main_arg0, V_main_arg3, scale, idx t]

/-- The keys' array after the run is the reference's. -/
theorem final5 (c : Dev nD) : (dats m 0 c).arrAt 5 (cfgs 0).N
    = keys (m ((c : Thread nD τ).loc main_arg0)) (m ((c : Thread nD τ).loc main_arg1)) (m ((c : Thread nD τ).loc main_arg2))
        (m ((c : Thread nD τ).loc main_arg4)) := by
  refine (dats m 0 c).arrAt_eq_of_covers 5 _ (by decide +kernel) fun t _ y => ?_
  blk_simp
  rw [after0_5]
  exact point5 m c t y _ (by blk_simp [idx t]) (by blk_simp [idx t])

/-- The values' array after the run is the reference's. -/
theorem final6 (c : Dev nD) : (dats m 0 c).arrAt 6 (cfgs 0).N
    = values (m ((c : Thread nD τ).loc main_arg0)) (m ((c : Thread nD τ).loc main_arg1)) (m ((c : Thread nD τ).loc main_arg3)) := by
  refine (dats m 0 c).arrAt_eq_of_covers 6 _ (by decide +kernel) fun t _ y => ?_
  blk_simp
  rw [after0_6]
  exact point6 m c t y _ (by blk_simp [idx t]) (by blk_simp [idx t])

end Cert.KvUpIdeal.Value

end
-- ==== Proof.Ln0Value.lean ====
module

public import proofs.«01_k».proof.Proof.Gen.Ln0Ideal.Value
public import proofs.«01_k».proof.Proof.Gen.Ln0RefIdeal.Run
public import proofs.«01_k».proof.Proof.LayerNormRow

/-! The layer normalisation of the inputs and the meta tokens: the two arrays the kernel leaves are the reference's. -/

@[expose] public section

set_option maxRecDepth 16384

noncomputable section

open Idealize.ShloMosaic Idealize.ShloMosaic.TcCoe Idealize.SL.Sem
open Idealize.ShloMosaic.Pipeline (Dat)
open Cert.LayerNorm

namespace Cert.Ln0RefIdeal.Value

open Cert.Ln0RefIdeal Cert.Ln0RefIdeal.Gen

/-- The frames' rows and then the meta tokens' rows. -/
def rows (a : FVec Ideal S32768x2048 .f32) (b : FVec Ideal S512x2048 .f32) : FVec Ideal S33280x2048 .f32 :=
  concatenate S33280x2048 0 [⟨S32768x2048, a⟩, ⟨S512x2048, b⟩] concatenates_S32768x2048_S512x2048_S33280x2048_d0

/-- The mean of every row, as a column. -/
def rowMean (Y : FVec Ideal S33280x2048 .f32) : FVec Ideal S33280x1 .f32 :=
  Host.divf (broadcastInDim S33280x1 ![0] bcast_S33280_S33280x1_0 (Host.reduceAdd Y (constant S_ .f32 0x00000000#32) reducesTo_S33280x2048_S33280_d1 h_S_))
    (broadcastInDim S33280x1 ![] bcast_S_S33280x1 (constant S_ .f32 0x45000000#32))

/-- Every row less its mean. -/
def centred (Y : FVec Ideal S33280x2048 .f32) : FVec Ideal S33280x2048 .f32 :=
  subf Y (broadcastInDim S33280x2048 ![0, 1] bcast_S33280x1_S33280x2048_0_1 (rowMean Y))

/-- Every row normalised, scaled and shifted. -/
def normalised (Y : FVec Ideal S33280x2048 .f32) (g b : FVec Ideal S2048 .f32) : FVec Ideal S33280x2048 .f32 :=
  addf (mulf (mulf (centred Y) (broadcastInDim S33280x2048 ![0, 1] bcast_S33280x1_S33280x2048_0_1
      (Host.rsqrt (addf (rowMean (mulf (centred Y) (centred Y))) (broadcastInDim S33280x1 ![] bcast_S_S33280x1 (constant S_ .f32 0x3727C5AC#32))))))
      (broadcastInDim S33280x2048 ![0, 1] bcast_S1x2048_S33280x2048_0_1 (broadcastInDim S1x2048 ![1] bcast_S2048_S1x2048_1 g)))
    (broadcastInDim S33280x2048 ![0, 1] bcast_S1x2048_S33280x2048_0_1 (broadcastInDim S1x2048 ![1] bcast_S2048_S1x2048_1 b))

/-- The reference's first result: the joined rows normalised. -/
def normed (x : FVec Ideal S32768x2048 .f32) (xm : FVec Ideal S512x2048 .f32) (g b : FVec Ideal S2048 .f32) : FVec Ideal S33280x2048 .f32 :=
  normalised (rows x xm) g b

/-- The reference's second result: the first, in the narrow format. -/
def narrowed (x : FVec Ideal S32768x2048 .f32) (xm : FVec Ideal S512x2048 .f32) (g b : FVec Ideal S2048 .f32) : FVec Ideal S33280x2048 .bf16 :=
  truncf .bf16 (normed x xm g b) bitsLt_bf16_f32

/-- The reference runs and leaves `normed` and `narrowed` of its arguments, and the arguments unchanged. -/
theorem run_normed (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = normed (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v25) = narrowed (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (run m ρ) fun _ h c => ⟨(h c).1, (h c).2.1, (h c).2.2⟩

theorem rows_at (a : FVec Ideal S32768x2048 .f32) (b : FVec Ideal S512x2048 .f32) (r : Fin 33280) (k : Fin 2048) :
    rows a b (ix2 r k) = if h : (r : ℕ) < 32768 then a (ix2 ⟨r, h⟩ k) else b (ix2 ⟨r - 32768, by omega⟩ k) := by
  pointwise [rows]

theorem rowMean_at (Y : FVec Ideal S33280x2048 .f32) (r : Fin 33280) (u : Fin 1) : rowMean Y (ix2 r u) = mean fun l => Y (ix2 r l) := by
  pointwise [rowMean, mean]

theorem centred_at (Y : FVec Ideal S33280x2048 .f32) (r : Fin 33280) (l : Fin 2048) :
    centred Y (ix2 r l) = Y (ix2 r l) - mean fun l => Y (ix2 r l) := by
  pointwise [centred, rowMean_at]

/-- A normalised array at an index: its row normalised. -/
theorem normalised_at (Y : FVec Ideal S33280x2048 .f32) (g b : FVec Ideal S2048 .f32) (r : Fin 33280) (l : Fin 2048) :
    normalised Y g b (ix2 r l) = rowNorm (fun l => Y (ix2 r l)) (fun l => g (ix1 l)) (fun l => b (ix1 l)) l := by
  pointwise [normalised, centred_at, rowMean_at]
  rfl

end Cert.Ln0RefIdeal.Value

namespace Cert.Ln0Ideal.Value

open Cert.Ln0Ideal Cert.Ln0Ideal.Gen
open Cert.Ln0RefIdeal.Value (normed narrowed normalised_at rows_at)

variable (m : (ℓ : Loc nD τ sig) → Buf (Elt Ideal) ℓ)

/-- The windows' block indices at every grid point. -/
theorem idx : ∀ t : Fin cfg0.N, win0_0.index t = ![min t.val 63, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- Which point takes the meta tokens' rows: the last. -/
theorem sel : ∀ t : Fin cfg0.N, Scalar.cmpi .eq (BitVec.ofNat 32 (grid0.coords t 0).val) 64#32 = if t.val = 64 then 1#1 else 0#1 :=
  (by decide +kernel : ∀ t : Fin grid0.N, _)

/-- A vector laid out as one row, at an index. -/
theorem row_at (b : FVec Ideal S2048 .f32) (h) (i : S1x2048.Idx) : shapeCast S1x2048 b h i = b (ix1 (i 1)) := by
  pointwise

/-- The scale as launched, a row. -/
theorem scale (c : Dev nD) : V m c main_v0 = fun i : S1x2048.Idx => m ((c : Thread nD τ).loc main_arg2) (ix1 (i 1)) := by
  have h : V m c main_v0 = shapeCast S1x2048 (m ((c : Thread nD τ).loc main_arg2)) shapeCasts_S2048_S1x2048 := by
    unfold V; after_results; try rfl
  rw [h]
  funext i
  exact row_at _ _ i

/-- The shift as launched, a row. -/
theorem shift (c : Dev nD) : V m c main_v1 = fun i : S1x2048.Idx => m ((c : Thread nD τ).loc main_arg3) (ix1 (i 1)) := by
  have h : V m c main_v1 = shapeCast S1x2048 (m ((c : Thread nD τ).loc main_arg3)) shapeCasts_S2048_S1x2048 := by
    unfold V; after_results; try rfl
  rw [h]
  funext i
  exact row_at _ _ i

/-- The normalising payload at an index: the row chosen by the point, normalised. -/
theorem pay1_at (t : Fin cfg0.N) (xm x : FVec Ideal S512x2048 .f32) (g b : FVec Ideal S1x2048 .f32) (r : Fin 512) (l : Fin 2048) :
    k0_pay1 (F := Ideal) (grid0.coords t) xm x g b (ix2 r l)
      = rowNorm (fun l => (if t.val = 64 then xm else x) (ix2 r l)) (fun l => g (ix2 0 l)) (fun l => b (ix2 0 l)) l := by
  have hs : ∀ u v : FVec Ideal S512x2048 .f32, Scalar.select (Scalar.cmpi .eq (BitVec.ofNat 32 (grid0.coords t 0).val) 64#32) u v
      = if t.val = 64 then u else v := by
    intro u v
    rw [sel t]
    split <;> rfl
  unfold k0_pay1
  dsimp only
  rw [hs]
  generalize (if t.val = 64 then xm else x) = y
  pointwise [rowNorm, variance, mean]

/-- A block's payload is the reference's value, where its operands' blocks read the arrays. -/
theorem core (t : Fin cfg0.N) (X : FVec Ideal Cert.Ln0RefIdeal.S32768x2048 .f32) (XM : FVec Ideal Cert.Ln0RefIdeal.S512x2048 .f32)
    (g b : FVec Ideal Cert.Ln0RefIdeal.S2048 .f32) (xm x : FVec Ideal S512x2048 .f32) (g' b' : FVec Ideal S1x2048 .f32)
    (r : Fin 512) (l : Fin 2048) (R : Fin 33280) (hR : (R : ℕ) = t.val * 512 + r)
    (hx : ∀ k : Fin 2048, x (ix2 r k) = X (ix2 ⟨min t.val 63 * 512 + r, by omega⟩ k)) (hm : ∀ k : Fin 2048, xm (ix2 r k) = XM (ix2 r k))
    (hg : ∀ k : Fin 2048, g' (ix2 0 k) = g (ix1 k)) (hb : ∀ k : Fin 2048, b' (ix2 0 k) = b (ix1 k)) :
    k0_pay1 (F := Ideal) (grid0.coords t) xm x g' b' (ix2 r l) = normed X XM g b (ix2 R l) := by
  have ht : t.val < 65 := lt_of_lt_of_eq t.isLt N_0
  have hc : ∀ k : Fin 2048, (if t.val = 64 then xm else x) (ix2 r k) = Cert.Ln0RefIdeal.Value.rows X XM (ix2 R k) := by
    intro k
    rw [rows_at]
    by_cases h : t.val = 64
    · rw [if_pos h, dif_neg (by omega), hm]
      exact congrArg (fun u => XM (ix2 u k)) (Fin.ext (by simp only; omega))
    · rw [if_neg h, dif_pos (by omega), hx]
      exact congrArg (fun u => X (ix2 u k)) (Fin.ext (by simp only; omega))
  simp only [pay1_at, normed, normalised_at, hc, hg, hb]

/-- What the body stores at a block index is the reference's value at the array index the block puts it at. -/
theorem point (c : Dev nD) (t : Fin cfg0.N) (y : S512x2048.Idx) (j : S33280x2048.Idx) (h0 : (j 0 : ℕ) = t.val * 512 + (y 0 : ℕ))
    (h1 : (j 1 : ℕ) = (y 1 : ℕ)) :
    k0_pay1 (F := Ideal) (grid0.coords t) (iblk m c 1 t) (iblk m c 0 t) (iblk m c 2 t) (iblk m c 3 t) y
      = normed (m ((c : Thread nD τ).loc main_arg0)) (m ((c : Thread nD τ).loc main_arg1)) (m ((c : Thread nD τ).loc main_arg2))
          (m ((c : Thread nD τ).loc main_arg3)) j := by
  rw [eq_ix2 y, eq_ix2 j, show j 1 = y 1 from Fin.ext h1]
  refine core t _ _ _ _ _ _ _ _ (y 0) (y 1) (j 0) h0 (fun k => ?_) (fun k => ?_) (fun k => ?_) fun k => ?_
  all_goals blk_point [iblk, V_main_arg0, V_main_arg1, scale, shift, idx t]

/-- The first result array after the run is the reference's. -/
theorem final4 (c : Dev nD) : (dats m 0 c).arrAt 4 (cfgs 0).N
    = normed (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact point m c t y _ (by blk_simp [idx t]) (by blk_simp [idx t])

/-- The second result array after the run is the reference's. -/
theorem final5 (c : Dev nD) : (dats m 0 c).arrAt 5 (cfgs 0).N
    = narrowed (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  exact point m c t y _ (by blk_simp [idx t]) (by blk_simp [idx t])

end Cert.Ln0Ideal.Value

end
-- ==== Proof.SsmMetaValue.lean ====
module

public import proofs.«01_k».proof.Proof.Gen.SsmMetaIdeal.Value
public import proofs.«01_k».proof.Proof.Gen.SsmMetaRefIdeal.Run
public import Idealize.ShloMosaic.Lib.Pipeline.ValueKit

/-! The state-space branch's output of the meta tokens: the array the kernel leaves is the reference's. -/

@[expose] public section

set_option maxRecDepth 16384

noncomputable section

open Idealize.ShloMosaic Idealize.ShloMosaic.TcCoe Idealize.SL.Sem
open Idealize.ShloMosaic.Pipeline (Dat)

/-- The gelu of one entry, by its tanh form. -/
def Cert.SsmMetaIdeal.Value.gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

namespace Cert.SsmMetaRefIdeal.Value

open Cert.SsmMetaRefIdeal Cert.SsmMetaRefIdeal.Gen
open Cert.SsmMetaIdeal.Value (gelu)

/-- The scan's output with the skipped input. -/
def skipped (y u : FVec Ideal S16x2048 .f32) (d : FVec Ideal S1x2048 .f32) : FVec Ideal S16x2048 .f32 :=
  addf y (mulf (broadcastInDim S16x2048 ![0, 1] bcast_S1x2048_S16x2048_0_1 d) u)

/-- The gelu of every entry. -/
def activated (z : FVec Ideal S16x2048 .f32) : FVec Ideal S16x2048 .f32 :=
  mulf z (mulf (broadcastInDim S16x2048 ![] bcast_S_S16x2048 (constant S_ .f32 0x3F000000#32))
    (addf (broadcastInDim S16x2048 ![] bcast_S_S16x2048 (constant S_ .f32 0x3F800000#32))
      (Host.tanh (mulf (broadcastInDim S16x2048 ![] bcast_S_S16x2048 (constant S_ .f32 0x3F4C422A#32))
        (addf z (mulf (broadcastInDim S16x2048 ![] bcast_S_S16x2048 (constant S_ .f32 0x3D372713#32)) (mulf (mulf z z) z)))))))

/-- The reference's result: the meta tokens' rows, and zeros below them. -/
def padded (y u : FVec Ideal S16x2048 .f32) (d : FVec Ideal S1x2048 .f32) : FVec Ideal S512x2048 .f32 :=
  concatenate S512x2048 0 [⟨S16x2048, activated (skipped y u d)⟩, ⟨S496x2048, broadcastInDim S496x2048 ![] bcast_S_S496x2048 (constant S_ .f32 0x00000000#32)⟩]
    concatenates_S16x2048_S496x2048_S512x2048_d0

/-- The reference runs and leaves `padded` of its arguments, and the arguments unchanged. -/
theorem run_padded (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = padded (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (run m ρ) fun _ h c => ⟨(h c).1, (h c).2⟩

theorem padded_at (y u : FVec Ideal S16x2048 .f32) (d : FVec Ideal S1x2048 .f32) (r : Fin 512) (l : Fin 2048) :
    padded y u d (ix2 r l) = if h : (r : ℕ) < 16 then gelu (y (ix2 ⟨r, h⟩ l) + d (ix2 0 l) * u (ix2 ⟨r, h⟩ l)) else Ideal.ofBits .f32 0x00000000#32 := by
  pointwise [padded, activated, skipped, gelu]

end Cert.SsmMetaRefIdeal.Value

namespace Cert.SsmMetaIdeal.Value

open Cert.SsmMetaIdeal Cert.SsmMetaIdeal.Gen
open Cert.SsmMetaRefIdeal.Value (padded padded_at)

variable (m : (ℓ : Loc nD τ sig) → Buf (Elt Ideal) ℓ)

/-- The windows' block indices at the grid's one point. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The payload of the zero rows at an index. -/
theorem pay1_at (i) : k0_pay1 (F := Ideal) i = Ideal.ofBits .f32 0x00000000#32 := by
  pointwise [k0_pay1]

/-- The payload of the meta tokens' rows at an index. -/
theorem pay2_at (y u : FVec Ideal S16x2048 .f32) (d : FVec Ideal S1x2048 .f32) (r : Fin 16) (l : Fin 2048) :
    k0_pay2 (F := Ideal) y d u (ix2 r l) = gelu (y (ix2 r l) + d (ix2 0 l) * u (ix2 r l)) := by
  pointwise [k0_pay2, gelu, mul_assoc]

/-- A stored row is the reference's, where the operands' blocks read the arrays. -/
theorem core (Y U y u : FVec Ideal S16x2048 .f32) (D d : FVec Ideal S1x2048 .f32) (r : Fin 16) (l : Fin 2048) (R : Fin 512) (hr : (R : ℕ) = r)
    (hy : y (ix2 r l) = Y (ix2 r l)) (hu : u (ix2 r l) = U (ix2 r l)) (hd : d (ix2 0 l) = D (ix2 0 l)) :
    k0_pay2 (F := Ideal) y d u (ix2 r l) = padded Y U D (ix2 R l) := by
  have hR : (R : ℕ) < 16 := by omega
  obtain rfl : r = ⟨R, hR⟩ := Fin.ext hr.symm
  rw [pay2_at, padded_at, dif_pos hR, hy, hu, hd]

/-- A row below them is zeros in the reference too. -/
theorem core_zero (Y U : FVec Ideal S16x2048 .f32) (D : FVec Ideal S1x2048 .f32) (i : S496x2048.Idx) (R : Fin 512) (l : Fin 2048) (hR : ¬(R : ℕ) < 16) :
    k0_pay1 (F := Ideal) i = padded Y U D (ix2 R l) := by
  rw [pay1_at, padded_at, dif_neg hR]

/-- The meta tokens' rows stored are the reference's. -/
theorem point_meta (c : Dev nD) (t : Fin cfg0.N) (i : S16x2048.Idx) (j : Cert.SsmMetaRefIdeal.S512x2048.Idx) (h0 : (j 0 : ℕ) = i 0) (h1 : (j 1 : ℕ) = i 1) :
    k0_pay2 (F := Ideal) (iblk m c 0 t) (iblk m c 2 t) (iblk m c 1 t) i
      = padded (m ((c : Thread nD τ).loc main_arg0)) (m ((c : Thread nD τ).loc main_arg1)) (m ((c : Thread nD τ).loc main_arg2)) j := by
  rw [eq_ix2 i, eq_ix2 j, show j 1 = i 1 from Fin.ext h1]
  refine core _ _ _ _ _ _ (i 0) (i 1) (j 0) h0 ?_ ?_ ?_
  all_goals blk_point [iblk, V_main_arg0, V_main_arg1, V_main_arg2, idx t]

/-- The rows below them are zeros in both. -/
theorem point_zero (y u : FVec Ideal S16x2048 .f32) (d : FVec Ideal S1x2048 .f32) (i : S496x2048.Idx) (j : Cert.SsmMetaRefIdeal.S512x2048.Idx)
    (h0 : (j 0 : ℕ) = 16 + i 0) : k0_pay1 (F := Ideal) i = padded y u d j := by
  rw [eq_ix2 j]
  exact core_zero y u d i (j 0) (j 1) (by omega)

/-- The result array after the run is the reference's. -/
theorem final (c : Dev nD) : (dats m 0 c).arrAt 3 (cfgs 0).N
    = padded (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  canon_tiles i h using (View.cover_of_tiledBy _ ![16, 2048] (by sl_kernel_rfl) _)
  · exact point_meta m c t i _ (by blk_simp [idx t]; omega) (by blk_simp [idx t]; omega)
  · exact point_zero _ _ _ i _ (by blk_simp [idx t]; omega)

end Cert.SsmMetaIdeal.Value

end
-- ==== Proof.AttnMetaValue.lean ====
module

public import proofs.«01_k».proof.Proof.Gen.AttnMetaIdeal.Value
public import proofs.«01_k».proof.Proof.Gen.AttnMetaRefIdeal.Run
public import proofs.«01_k».proof.Proof.Gen.Pre_attn_meta_finite
public import Idealize.ShloMosaic.Lib.ReduceAll
public import Idealize.ShloMosaic.Lib.Pipeline.ValueKit

/-! The attention of the meta tokens: where the queries and keys are finite, the array the kernel leaves is the reference's. -/

@[expose] public section

set_option maxRecDepth 16384

noncomputable section

open Idealize.ShloMosaic Idealize.ShloMosaic.TcCoe Idealize.SL.Sem
open Idealize.ShloMosaic.Pipeline (Dat)

namespace Cert.AttnMetaIdeal.Value

/-- The word of minus infinity. -/
theorem bottom : Ideal.ofBits .f32 0xFF800000#32 = ⊥ := by simp [Ideal.ofBits, Ideal.ieee]

/-- The word of two. -/
theorem two : Ideal.ofBits .f32 0x40000000#32 = ((2 : ℝ) : EReal) := by
  simp [Ideal.ofBits, Ideal.ieee, -EReal.coe_mul]
  try norm_num

/-- The power of two, by `power` and by `exp2`. -/
theorem pow_two (x : EReal) : Ideal.pow (Ideal.ofBits .f32 0x40000000#32) x = Ideal.exp2 x := by
  rw [two]
  induction x using EReal.rec with
  | bot =>
    show (if (2 : ℝ) < 0 then (⊥ : EReal) else if 1 < (2 : ℝ) then 0 else if (2 : ℝ) = 1 then 1 else ⊤) = 0
    norm_num
  | top =>
    show (if (2 : ℝ) < 0 then (⊥ : EReal) else if 1 < (2 : ℝ) then ⊤ else if (2 : ℝ) = 1 then 1 else 0) = ⊤
    norm_num
  | coe r => rfl

theorem exp2_nonneg (x : EReal) : 0 ≤ Ideal.exp2 x := by
  induction x using EReal.rec with
  | bot => exact le_refl (0 : EReal)
  | top => exact (le_top : (0 : EReal) ≤ ⊤)
  | coe r => exact EReal.coe_nonneg.mpr (Real.rpow_nonneg (by norm_num : (0 : ℝ) ≤ 2) r)

theorem exp2_bot : Ideal.exp2 ⊥ = 0 := rfl

theorem exp2_zero : Ideal.exp2 0 = 1 := by
  show ((Real.rpow 2 0 : ℝ) : EReal) = 1
  simp

/-- A sum of products of finite numbers is finite. -/
theorem sum_finite {n : ℕ} (a b : Fin n → EReal) (ha : ∀ i, ∃ x : ℝ, a i = x) (hb : ∀ i, ∃ x : ℝ, b i = x) : ∃ x : ℝ, ∑ i, a i * b i = x := by
  choose f hf using ha
  choose g hg using hb
  refine ⟨∑ i, f i * g i, ?_⟩
  simp only [hf, hg, ← EReal.coe_mul]
  induction (Finset.univ : Finset (Fin n)) using Finset.induction_on with
  | empty => simp
  | insert i s hi ih => rw [Finset.sum_insert hi, Finset.sum_insert hi, ih, EReal.coe_add]

/-- A nonnegative finite factor goes into a sum. -/
theorem mul_sum_of_nonneg {ι : Type} (s : Finset ι) (c : EReal) (h0 : 0 ≤ c) (h1 : c ≠ ⊤) (f : ι → EReal) : c * ∑ i ∈ s, f i = ∑ i ∈ s, c * f i := by
  classical
  induction s using Finset.induction_on with
  | empty => simp
  | insert i s hi ih => rw [Finset.sum_insert hi, Finset.sum_insert hi, EReal.left_distrib_of_nonneg_of_ne_top h0 h1, ih]

/-- The first 16 of the 128 lanes; the others are masked. -/
def masked (S : Fin 16 → EReal) (x : Fin 128) : EReal := if h : (x : ℕ) < 16 then S ⟨x, h⟩ else ⊥

/-- The masked lanes do not change the maximum. -/
theorem masked_max (S : Fin 16 → EReal) : Finset.fold max ⊥ (masked S) Finset.univ = Finset.fold max ⊥ S Finset.univ := by
  show Finset.univ.sup (masked S) = Finset.univ.sup S
  refine le_antisymm (Finset.sup_le fun x _ => ?_) (Finset.sup_le fun j _ => ?_)
  · unfold masked
    split
    · exact Finset.le_sup (f := S) (Finset.mem_univ _)
    · exact bot_le
  · have h : masked S ⟨j, by omega⟩ = S j := by simp [masked]
    rw [← h]
    exact Finset.le_sup (f := masked S) (Finset.mem_univ _)

/-- The masked lanes add nothing to a sum weighted by the powers. -/
theorem masked_sum (S : Fin 16 → EReal) (M : EReal) (v : Fin 128 → EReal) :
    ∑ x, Ideal.exp2 (masked S x - M) * v x = ∑ j : Fin 16, Ideal.exp2 (S j - M) * v ⟨j, by omega⟩ := by
  rw [show (∑ x : Fin 128, Ideal.exp2 (masked S x - M) * v x) = _ from Fin.sum_univ_add (a := 16) (b := 112) _]
  rw [Finset.sum_eq_zero (s := (Finset.univ : Finset (Fin 112)))]
  · rw [add_zero]
    refine Finset.sum_congr rfl fun j _ => ?_
    have h : masked S (Fin.castAdd 112 j) = S j := by simp [masked]
    rw [h]; rfl
  · intro x _
    have h : masked S (Fin.natAdd 16 x) = ⊥ := by simp [masked]
    rw [h, show (⊥ : EReal) - M = ⊥ by rw [sub_eq_add_neg, EReal.bot_add], exp2_bot, zero_mul]

/-- The powers' sum is not zero where the scores are finite: the greatest score's power is one. -/
theorem sum_ne_zero (S : Fin 16 → EReal) (hS : ∀ j, ∃ x : ℝ, S j = x) : ∑ j, Ideal.exp2 (S j - Finset.fold max ⊥ S Finset.univ) ≠ 0 := by
  obtain ⟨j, _, hj⟩ := Finset.exists_mem_eq_sup (Finset.univ : Finset (Fin 16)) ⟨0, Finset.mem_univ _⟩ S
  have hM : Finset.fold max ⊥ S Finset.univ = S j := hj
  rw [hM]
  obtain ⟨x, hx⟩ := hS j
  have h1 : Ideal.exp2 (S j - S j) = 1 := by
    rw [hx, ← EReal.coe_sub, sub_self]; exact exp2_zero
  have h := Finset.single_le_sum (f := fun i => Ideal.exp2 (S i - S j)) (fun i _ => exp2_nonneg _) (Finset.mem_univ j)
  intro h0
  rw [h0] at h
  have h' : (1 : EReal) ≤ 0 := h1 ▸ h
  exact absurd h' (by norm_num)

/-- The weights divided before the sum or after it. -/
theorem weighted (P v : Fin 16 → EReal) (hP : ∀ j, 0 ≤ P j) (h0 : ∑ j, P j ≠ 0) :
    Ideal.div (∑ j, P j * v j) (∑ j, P j) = ∑ j, v j * Ideal.div (P j) (∑ j, P j) := by
  have hL : 0 ≤ ∑ j, P j := Finset.sum_nonneg fun j _ => hP j
  simp only [Ideal.div, if_neg h0]
  rw [mul_comm, mul_sum_of_nonneg _ _ (EReal.inv_nonneg_of_nonneg hL)]
  · exact Finset.sum_congr rfl fun j _ => by rw [mul_comm (v j), mul_comm (P j) (∑ j, P j)⁻¹, mul_assoc]
  · generalize ∑ j, P j = L
    induction L using EReal.rec with
    | bot => simp
    | top => simp
    | coe r => rw [← EReal.coe_inv]; exact EReal.coe_ne_top _

end Cert.AttnMetaIdeal.Value

namespace Cert.AttnMetaRefIdeal.Value

open Cert.AttnMetaRefIdeal Cert.AttnMetaRefIdeal.Gen

/-- The scores of the meta rows' queries against the meta tokens' keys, by head. -/
def scores (q k : FVec Ideal S33280x4096 .bf16) : FVec Ideal S16x512x16 .f32 :=
  Host.dotGeneral dot_S512x16x256_S16x16x256_S16x512x16_2_2_0_0_1_1 none
    (shapeCast _ (extf .f32 (extractStridedSlice S512x4096 ![32768, 0] q slices_S33280x4096_S512x4096_32768_0) bitsLt_bf16_f32) shapeCasts_S512x4096_S512x16x256)
    (shapeCast _ (extf .f32 (extractStridedSlice S16x4096 ![32768, 0] k slices_S33280x4096_S16x4096_32768_0) bitsLt_bf16_f32) shapeCasts_S16x4096_S16x16x256)

theorem scores_at (q k : FVec Ideal S33280x4096 .bf16) (h : Fin 16) (r : Fin 512) (j : Fin 16) :
    scores q k (ix3 h r j) = ∑ d : Fin 256, q (ix2 ⟨32768 + r, by omega⟩ ⟨h * 256 + d, by omega⟩) * k (ix2 ⟨32768 + j, by omega⟩ ⟨h * 256 + d, by omega⟩) := by
  pointwise [scores]

/-- The greatest score of each row. -/
def greatest (s : FVec Ideal S16x512x16 .f32) : FVec Ideal S16x512 .f32 :=
  Host.reduce FloatOps.maximumf s (constant S_ .f32 0xFF800000#32) reducesTo_S16x512x16_S16x512_d2 h_S_

theorem greatest_at (s : FVec Ideal S16x512x16 .f32) (h : Fin 16) (r : Fin 512) :
    greatest s (ix2 h r) = Finset.fold max ⊥ (fun j : Fin 16 => s (ix3 h r j)) Finset.univ := by
  pointwise [greatest, Cert.AttnMetaIdeal.Value.bottom]

/-- The powers of two of the scores less the row's greatest. -/
def powers (s : FVec Ideal S16x512x16 .f32) : FVec Ideal S16x512x16 .f32 :=
  Host.powf (broadcastInDim S16x512x16 ![] bcast_S_S16x512x16 (constant S_ .f32 0x40000000#32))
    (subf s (broadcastInDim S16x512x16 ![0, 1, 2] bcast_S16x512x1_S16x512x16_0_1_2 (broadcastInDim S16x512x1 ![0, 1] bcast_S16x512_S16x512x1_0_1 (greatest s))))

theorem powers_at (s : FVec Ideal S16x512x16 .f32) (h : Fin 16) (r : Fin 512) (j : Fin 16) :
    powers s (ix3 h r j) = Ideal.pow (Ideal.ofBits .f32 0x40000000#32) (s (ix3 h r j) - greatest s (ix2 h r)) := by
  pointwise [powers]

/-- The weights: the powers over their sum. -/
def weights (p : FVec Ideal S16x512x16 .f32) : FVec Ideal S16x512x16 .f32 :=
  Host.divf p (broadcastInDim S16x512x16 ![0, 1, 2] bcast_S16x512x1_S16x512x16_0_1_2 (broadcastInDim S16x512x1 ![0, 1] bcast_S16x512_S16x512x1_0_1
    (Host.reduceAdd p (constant S_ .f32 0x00000000#32) reducesTo_S16x512x16_S16x512_d2 h_S_)))

theorem weights_at (p : FVec Ideal S16x512x16 .f32) (h : Fin 16) (r : Fin 512) (j : Fin 16) :
    weights p (ix3 h r j) = Ideal.div (p (ix3 h r j)) (∑ j : Fin 16, p (ix3 h r j)) := by
  pointwise [weights]

/-- The values weighted and summed, heads side by side. -/
def mixed (w : FVec Ideal S16x512x16 .f32) (vt : FVec Ideal S2048x33280 .bf16) : FVec Ideal S512x2048 .bf16 :=
  truncf .bf16 (shapeCast _ (transpose S512x16x128 [2, 0, 1] (Host.dotGeneral dot_S16x128x16_S16x512x16_S16x128x512_2_2_1_1_0_0 none
    (shapeCast _ (extf .f32 (extractStridedSlice S2048x16 ![0, 32768] vt slices_S2048x33280_S2048x16_0_32768) bitsLt_bf16_f32) shapeCasts_S2048x16_S16x128x16) w)
    transposes_S16x128x512_S512x16x128_2_0_1) shapeCasts_S512x16x128_S512x2048) bitsLt_bf16_f32

theorem mixed_at (w : FVec Ideal S16x512x16 .f32) (vt : FVec Ideal S2048x33280 .bf16) (r : Fin 512) (h : Fin 16) (d : Fin 128) :
    mixed w vt (ix2 r ⟨h * 128 + d, by omega⟩) = ∑ j : Fin 16, vt (ix2 ⟨h * 128 + d, by omega⟩ ⟨32768 + j, by omega⟩) * w (ix3 h r j) := by
  pointwise [mixed]

/-- The reference's result. -/
def attended (q k : FVec Ideal S33280x4096 .bf16) (vt : FVec Ideal S2048x33280 .bf16) : FVec Ideal S512x2048 .bf16 :=
  mixed (weights (powers (scores q k))) vt

/-- The reference runs and leaves `attended` of its arguments, and the arguments unchanged. -/
theorem run_attended (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = attended (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (run m ρ) fun _ h c => ⟨(h c).1, (h c).2⟩

end Cert.AttnMetaRefIdeal.Value

namespace Cert.AttnMetaIdeal.Value

open Cert.AttnMetaIdeal Cert.AttnMetaIdeal.Gen

/-- The lane mask: the lane number below 16. -/
theorem lane : ∀ x : Fin 128, IntOp.cmpi .slt (BitVec.ofNat 32 (x : ℕ)) 16#32 = if (x : ℕ) < 16 then 1#1 else 0#1 := by decide +kernel

/-- A row's score against a meta token's key, of the blocks. -/
def score (q : FVec Ideal S512x256 .bf16) (k : FVec Ideal S128x256 .bf16) (r : Fin 512) (j : Fin 16) : EReal :=
  ∑ d : Fin 256, q (ix2 r d) * k (ix2 ⟨j, by omega⟩ d)

/-- The selected score of a lane. -/
theorem select_masked (q : FVec Ideal S512x256 .bf16) (k : FVec Ideal S128x256 .bf16) (r : Fin 512) (x : Fin 128) :
    Scalar.select (IntOp.cmpi .slt (BitVec.ofNat 32 (x : ℕ)) 16#32) (∑ d : Fin 256, q (ix2 r d) * k (ix2 x d)) (⊥ : EReal) = masked (score q k r) x := by
  rw [lane]
  unfold masked score
  split <;> rfl

/-- The payload at an index: the values weighted by the scores' powers over the powers' sum, the masked lanes gone. -/
theorem pay_at (q : FVec Ideal S512x256 .bf16) (k : FVec Ideal S128x256 .bf16) (v : FVec Ideal S128x128 .bf16) (r : Fin 512) (d : Fin 128) :
    k0_pay1 (F := Ideal) q k v (ix2 r d)
      = Ideal.div (∑ j : Fin 16, Ideal.exp2 (score q k r j - Finset.fold max ⊥ (score q k r) Finset.univ) * v (ix2 d ⟨j, by omega⟩))
          (∑ j : Fin 16, Ideal.exp2 (score q k r j - Finset.fold max ⊥ (score q k r) Finset.univ)) := by
  pointwise [k0_pay1]
  rw [bottom]
  simp only [select_masked]
  rw [show Finset.fold max ⊥ (fun x => masked (score q k r) x) Finset.univ = _ from masked_max _]
  have h := masked_sum (score q k r) (Finset.fold max ⊥ (score q k r) Finset.univ) (fun _ => 1)
  simp only [mul_one] at h
  exact congrArg₂ Ideal.div (masked_sum (score q k r) _ fun x => v (ix2 d x)) h

end Cert.AttnMetaIdeal.Value

namespace Cert.AttnMetaIdeal.Value

open Cert.Pre_attn_meta_finite Cert.Pre_attn_meta_finite.Facts

variable [Cert.Pre_attn_meta_finite.Facts]

/-- The word of infinity. -/
theorem infinity : Ideal.ofBits .bf16 0x7F80#16 = ⊤ := by simp [Ideal.ofBits, Ideal.ieee]

/-- A number whose magnitude is below infinity is finite. -/
theorem real_of_lt (x : EReal) (h : Ideal.cmp .olt (max x (-x)) (Ideal.ofBits .bf16 0x7F80#16) = 1#1) : ∃ r : ℝ, x = r := by
  rw [infinity] at h
  induction x using EReal.rec with
  | bot => simp [Ideal.cmp] at h
  | top => simp [Ideal.cmp] at h
  | coe r => exact ⟨r, rfl⟩

/-- The queries the call reads are finite under the precondition. -/
theorem queries_finite (q k : FVec Ideal S33280x4096 .bf16) (vt : FVec Ideal S2048x33280 .bf16) (h : fn (F := Ideal) q k vt = fun _ => 1#1)
    (r : Fin 512) (c : Fin 4096) : ∃ x : ℝ, q (ix2 ⟨32768 + r, by omega⟩ c) = x := by
  have e := congrFun h (Shape.Idx.first h_S_)
  simp only [fn, andi, IntOp.andi_eq_one] at e
  refine real_of_lt _ (Eq.trans ?_ (Host.reduce_andi_all _ _ _ _ _ e.1 (ix2 r c)))
  pointwise
  rfl

/-- So are the meta tokens' keys. -/
theorem keys_finite (q k : FVec Ideal S33280x4096 .bf16) (vt : FVec Ideal S2048x33280 .bf16) (h : fn (F := Ideal) q k vt = fun _ => 1#1)
    (r : Fin 16) (c : Fin 4096) : ∃ x : ℝ, k (ix2 ⟨32768 + r, by omega⟩ c) = x := by
  have e := congrFun h (Shape.Idx.first h_S_)
  simp only [fn, andi, IntOp.andi_eq_one] at e
  refine real_of_lt _ (Eq.trans ?_ (Host.reduce_andi_all _ _ _ _ _ e.2 (ix2 r c)))
  pointwise
  rfl

end Cert.AttnMetaIdeal.Value

namespace Cert.AttnMetaIdeal.Value

open Cert.AttnMetaIdeal Cert.AttnMetaIdeal.Gen
open Cert.AttnMetaRefIdeal.Value (attended scores scores_at powers powers_at greatest_at weights_at mixed_at)

/-- The block the body leaves is the reference's, where the operands' blocks read the arrays and the scores are finite. -/
theorem core (Q K : FVec Ideal Cert.AttnMetaRefIdeal.S33280x4096 .bf16) (V : FVec Ideal Cert.AttnMetaRefIdeal.S2048x33280 .bf16)
    (q : FVec Ideal S512x256 .bf16) (k : FVec Ideal S128x256 .bf16) (v : FVec Ideal S128x128 .bf16) (r : Fin 512) (d : Fin 128) (H : Fin 16)
    (hq : ∀ l : Fin 256, q (ix2 r l) = Q (ix2 ⟨32768 + r, by omega⟩ ⟨H * 256 + l, by omega⟩))
    (hk : ∀ (j : Fin 16) (l : Fin 256), k (ix2 ⟨j, by omega⟩ l) = K (ix2 ⟨32768 + j, by omega⟩ ⟨H * 256 + l, by omega⟩))
    (hv : ∀ j : Fin 16, v (ix2 d ⟨j, by omega⟩) = V (ix2 ⟨H * 128 + d, by omega⟩ ⟨32768 + j, by omega⟩))
    (fq : ∀ (r : Fin 512) (c : Fin 4096), ∃ x : ℝ, Q (ix2 ⟨32768 + r, by omega⟩ c) = x)
    (fk : ∀ (r : Fin 16) (c : Fin 4096), ∃ x : ℝ, K (ix2 ⟨32768 + r, by omega⟩ c) = x) :
    k0_pay1 (F := Ideal) q k v (ix2 r d) = attended Q K V (ix2 r ⟨H * 128 + d, by omega⟩) := by
  have hs : ∀ j, score q k r j = scores Q K (ix3 H r j) := fun j => by
    rw [scores_at]
    exact Finset.sum_congr rfl fun l _ => by rw [hq, hk]
  have hf : ∀ j, ∃ x : ℝ, score q k r j = x := fun j => sum_finite _ _ (fun l => by rw [hq]; exact fq _ _) (fun l => by rw [hk]; exact fk _ _)
  rw [pay_at, weighted _ _ (fun j => exp2_nonneg _) (sum_ne_zero _ hf)]
  unfold attended
  rw [mixed_at]
  have hp : ∀ j, powers (scores Q K) (ix3 H r j) = Ideal.exp2 (score q k r j - Finset.fold max ⊥ (score q k r) Finset.univ) := fun j => by
    rw [powers_at, pow_two, greatest_at, hs, funext hs]
  exact Finset.sum_congr rfl fun j _ => by simp only [weights_at, hp, hv]

variable (m : (ℓ : Loc nD τ sig) → Buf (Elt Ideal) ℓ)

/-- The windows' block indices at grid point `t`, the head. -/
theorem idx : ∀ t : Fin cfg0.N, win0_0.index t = ![64, t.val] ∧ win0_1.index t = ![256, t.val] ∧ win0_2.index t = ![t.val, 256] ∧ win0_3.index t = ![0, t.val] :=
  (by decide +kernel : ∀ t : Fin grid0.N, _)

variable [Cert.Pre_attn_meta_finite.Facts]

/-- What the body stores at a block index is the reference's value at the array index the block puts it at. -/
theorem point (c : Dev nD) (h : Cert.Pre_attn_meta_finite.fn (F := Ideal) (m ((c : Thread nD τ).loc main_arg0)) (m ((c : Thread nD τ).loc main_arg1))
      (m ((c : Thread nD τ).loc main_arg2)) = fun _ => 1#1) (t : Fin cfg0.N) (y : S512x128.Idx) (j : Cert.AttnMetaRefIdeal.S512x2048.Idx)
    (h0 : (j 0 : ℕ) = y 0) (h1 : (j 1 : ℕ) = t.val * 128 + y 1) :
    k0_pay1 (F := Ideal) (iblk m c 0 t) (iblk m c 1 t) (iblk m c 2 t) y
      = attended (m ((c : Thread nD τ).loc main_arg0)) (m ((c : Thread nD τ).loc main_arg1)) (m ((c : Thread nD τ).loc main_arg2)) j := by
  have ht : t.val < 16 := by have := t.isLt; have e : cfg0.N = 16 := by decide +kernel
                             omega
  have hy : (y 1 : ℕ) < 128 := (y 1).isLt
  rw [eq_ix2 y, eq_ix2 j, show j 0 = y 0 from Fin.ext h0, show j 1 = ⟨(⟨t.val, ht⟩ : Fin 16).val * 128 + (y 1).val, by show t.val * 128 + (y 1).val < 2048; omega⟩ from Fin.ext h1]
  refine core _ _ _ _ _ _ (y 0) (y 1) ⟨t.val, ht⟩ (fun l => ?_) (fun i l => ?_) (fun i => ?_) (queries_finite _ _ _ h) (keys_finite _ _ _ h)
  all_goals blk_point [iblk, V_main_arg0, V_main_arg1, V_main_arg2, idx t]

/-- The result array after the run is the reference's. -/
theorem final (c : Dev nD) (h : Cert.Pre_attn_meta_finite.fn (F := Ideal) (m ((c : Thread nD τ).loc main_arg0)) (m ((c : Thread nD τ).loc main_arg1))
      (m ((c : Thread nD τ).loc main_arg2)) = fun _ => 1#1) : (dats m 0 c).arrAt 3 (cfgs 0).N
    = attended (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c h t y _ (by blk_simp [idx t]; try omega) (by blk_simp [idx t]; try omega)

end Cert.AttnMetaIdeal.Value

end
-- ==== Proof.Keeps.lean ====
/- Running a body whose buffers hold anything: what a body of loads, stores and branches needs, and leaves, is a
   resource `R` that lends each buffer it touches. -/
module

public import Idealize.ShloMosaic.Lib.Pipeline.FrameBody
public import Idealize.ShloMosaic.Lib.Tactic

@[expose] public section

noncomputable section

namespace Cert.Keeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} [Preorder Lvl] {Λ : Labels}

variable (defs : Defs nD τ sig Val Λ) (c : Thread nD τ) (R : sProp (MT nD τ sig Ix Val Name U Lvl))
variable {s : Shape} {e : EltTy} {α β : Type}

/-- `R` lends the buffer of `m`, at some share and contents, and takes it back unchanged. -/
def Lends {cs : CoreSpace} (m : Memref sig c.2.kind cs s e) : Prop :=
  R ⊢ iprop(∃ (q : PosShare TreeShare) (f : Buf Val (m.view.loc c)), (m.view.loc c ↦[m.view.set]{q} f)
    ∗ ((m.view.loc c ↦[m.view.set]{q} f) -∗ R))

/-- `R` gives the buffer of `m` whole, and takes it back at any contents. -/
def Gives {cs : CoreSpace} (m : Memref sig c.2.kind cs s e) : Prop :=
  R ⊢ iprop(∃ f : Buf Val (m.view.loc c), (m.view.loc c ↦[m.view.set]{fullShare} f)
    ∗ (∀ g, (m.view.loc c ↦[m.view.set]{fullShare} g) -∗ R))

variable {c R} in
theorem Gives.lends {cs : CoreSpace} {m : Memref sig c.2.kind cs s e} (h : Gives c R m) : Lends c R m := by
  unfold Lends
  unfold Gives at h
  iintro H
  ihave H2 := h $$ H
  icases H2 with ⟨%f, Hf, Hk⟩
  iexists fullShare, f
  isplitl [Hf]; · iexact Hf
  iintro Hf
  iapply Hk $$ %f Hf

/-- From `R` the program `p` runs, without a fault, and leaves `R`. -/
def Keep (p : Prog (TpuEff nD τ sig Val Λ c.2) α) : Prop :=
  R ⊢ wp frame (wpE defs Variants.none c none) Set.univ p (fun _ => R)

variable {defs c R}

theorem Keep.pure (a : α) : Keep defs c R (Pure.pure a) := by
  unfold Keep
  rw [wp_pure]
  exact fupd_intro

theorem Keep.bind {p : Prog (TpuEff nD τ sig Val Λ c.2) α} {k : α → Prog (TpuEff nD τ sig Val Λ c.2) β}
    (hp : Keep defs c R p) (hk : ∀ a, Keep defs c R (k a)) : Keep defs c R (p >>= k) := by
  unfold Keep at *
  rw [wp_bind]
  exact hp.trans (wp_mono _ _ _ hk)

theorem Keep.ite {P : Prop} [Decidable P] {p q : Prog (TpuEff nD τ sig Val Λ c.2) α}
    (hp : Keep defs c R p) (hq : Keep defs c R q) : Keep defs c R (if P then p else q) := by
  split <;> assumption

theorem Keep.dite {P : Prop} [Decidable P] {p : P → Prog (TpuEff nD τ sig Val Λ c.2) α} {q : ¬ P → Prog (TpuEff nD τ sig Val Λ c.2) α}
    (hp : ∀ h, Keep defs c R (p h)) (hq : ∀ h, Keep defs c R (q h)) : Keep defs c R (if h : P then p h else q h) := by
  split
  · exact hp _
  · exact hq _

theorem Keep.load {cs : CoreSpace} {m : Memref sig c.2.kind cs s e} (h : Lends c R m) {r : LoadRect s} {hl : m.view.LoadsAt r} :
    Keep defs c R (Prog.lift (.load m r hl)) := by
  unfold Keep
  unfold Lends at h
  iintro H
  ihave H2 := h $$ H
  icases H2 with ⟨%q, %f, Hf, Hk⟩
  iapply (wp_load (defs := defs) Variants.none c none Set.univ (hl := hl) (k := .ret) (View.setOn_subset_set _ _)) $$ Hf
  iintro Hf
  rw [wp_ret]; imodintro
  iapply Hk; iexact Hf

theorem Keep.store {cs : CoreSpace} {m : Memref sig c.2.kind cs s e} (h : Gives c R m) {r : Rect s} {w : r.shape.Idx → Val e}
    {Mk : Finset r.shape.Idx} {hx : (m.access r).Stores Mk} {hm : Mk = Finset.univ ∨ ∀ a, r.stride a = 1} :
    Keep defs c R (Prog.lift (.store m r w Mk hx hm)) := by
  unfold Keep
  unfold Gives at h
  iintro H
  ihave H2 := h $$ H
  icases H2 with ⟨%f, Hf, Hk⟩
  iapply (wp_store (defs := defs) Variants.none c none Set.univ (hx := hx) (hm := hm) (k := .ret)
    (((m.access r).setOn_subset_set Mk).trans (m.view.set_slice_subset r))) $$ Hf
  iintro Hf
  rw [wp_ret]; imodintro
  iapply Hk $$ %_ Hf

theorem Keep.smemLoad {m : Memref sig c.2.kind .smem s e} (h : Lends c R m) {r : Rect s} {h1 : r.shape.numel = 1} {hp : e.packing = 1} :
    Keep defs c R (Idealize.ShloMosaic.smemLoad m r h1 hp) :=
  Keep.bind (Keep.load h (hl := View.loadsAt_rect (View.loads_smem_one hp h1))) fun f => Keep.pure (f (Shape.Idx.first (h1.symm ▸ Nat.one_pos)))

variable {S : sProp (MT nD τ sig Ix Val Name U Lvl)}

theorem Gives.left {cs : CoreSpace} {m : Memref sig c.2.kind cs s e} (h : Gives c R m) : Gives c iprop(R ∗ S) m := by
  unfold Gives at *
  iintro ⟨H, HS⟩
  ihave H2 := h $$ H
  icases H2 with ⟨%f, Hf, Hk⟩
  iexists f
  isplitl [Hf]; · iexact Hf
  iintro %g Hf
  isplitl [Hf Hk]
  · iapply Hk $$ %g Hf
  · iexact HS

theorem Gives.right {cs : CoreSpace} {m : Memref sig c.2.kind cs s e} (h : Gives c R m) : Gives c iprop(S ∗ R) m := by
  unfold Gives at *
  iintro ⟨HS, H⟩
  ihave H2 := h $$ H
  icases H2 with ⟨%f, Hf, Hk⟩
  iexists f
  isplitl [Hf]; · iexact Hf
  iintro %g Hf
  isplitl [HS]
  · iexact HS
  · iapply Hk $$ %g Hf

theorem Lends.left {cs : CoreSpace} {m : Memref sig c.2.kind cs s e} (h : Lends c R m) : Lends c iprop(R ∗ S) m := by
  unfold Lends at *
  iintro ⟨H, HS⟩
  ihave H2 := h $$ H
  icases H2 with ⟨%q, %f, Hf, Hk⟩
  iexists q, f
  isplitl [Hf]; · iexact Hf
  iintro Hf
  isplitl [Hf Hk]
  · iapply Hk; iexact Hf
  · iexact HS

theorem Lends.right {cs : CoreSpace} {m : Memref sig c.2.kind cs s e} (h : Lends c R m) : Lends c iprop(S ∗ R) m := by
  unfold Lends at *
  iintro ⟨HS, H⟩
  ihave H2 := h $$ H
  icases H2 with ⟨%q, %f, Hf, Hk⟩
  iexists q, f
  isplitl [Hf]; · iexact Hf
  iintro Hf
  isplitl [HS]
  · iexact HS
  · iapply Hk; iexact Hf

/-- A memref held at some contents is given. -/
theorem Gives.owns (m : Memref sig c.2.kind .vmem s e) :
    Gives c (iprop(∃ X, owns c m fullShare X) : sProp (MT nD τ sig Ix Val Name U Lvl)) m := by
  unfold Gives Idealize.ShloMosaic.owns
  iintro ⟨%X, %f, %hf, Hf⟩
  iexists f
  isplitl [Hf]; · iexact Hf
  iintro %g Hg
  iexists m.view.read Val g
  iexists g
  isplitr; · ipureintro; rfl
  iexact Hg

/-- A whole buffer at some contents is given. -/
theorem Gives.whole {cs : CoreSpace} (m : Memref sig c.2.kind cs s e) (hm : m.IsWhole) :
    Gives c (iprop(∃ f : Buf Val (m.view.loc c), m.view.loc c ↦{fullShare} f) : sProp (MT nD τ sig Ix Val Name U Lvl)) m := by
  unfold Gives
  rw [hm.set_eq_univ]
  iintro ⟨%f, Hf⟩
  iexists f
  isplitl [Hf]; · iexact Hf
  iintro %g Hg
  iexists g
  iexact Hg

/-- A whole buffer held at some share is lent. -/
theorem Lends.whole {cs : CoreSpace} (m : Memref sig c.2.kind cs s e) (hm : m.IsWhole) (q : PosShare TreeShare) (f : Buf Val (m.view.loc c)) :
    Lends c (iprop(m.view.loc c ↦{q} f) : sProp (MT nD τ sig Ix Val Name U Lvl)) m := by
  unfold Lends
  rw [hm.set_eq_univ]
  iintro Hf
  iexists q, f
  isplitl [Hf]; · iexact Hf
  iintro Hf
  iexact Hf

end Cert.Keeps

end
-- ==== Proof.AttnIdealKeeps.lean ====
/- The idealized attention's body runs from buffers that hold anything: each of its operations loads, stores or branches. -/
module

public import proofs.«01_k».proof.Proof.Keeps
public import proofs.«01_k».proof.Proof.Gen.AttnIdeal.Launch
public import proofs.«01_k».proof.Proof.Gen.AttnIdeal.Skeleton

@[expose] public section

set_option maxRecDepth 16384

noncomputable section

namespace Cert.AttnIdeal.Value

open Cert.AttnIdeal Cert.AttnIdeal.Gen Cert.Keeps Idealize.ShloMosaic Idealize.ShloMosaic.TcCoe Idealize.ShloMosaic.Tactic
open Idealize.SL Idealize.SL.RA Idealize.SL.BI
open scoped Idealize.SL.BI
open Idealize.SL.BI.BIBase Idealize.SL.Sem

variable {F : FTy → Type} [FloatOps F]

set_option maxHeartbeats 8000000 in
theorem keeps (c : Dev nD) (R : sProp (MT nD τ sig Unit (Elt F) ℕ (UR sig nD τ) ℕ)) (i : grid0.Coords)
    (a3 : Memref sig .tc .smem S36 .i32) (w3 : a3.IsWhole) (a4 : Memref sig .tc .smem S36 .i32) (w4 : a4.IsWhole)
    (a5 : Memref sig .tc .vmem S1024x1024 .bf16) (w5 : a5.IsWhole) (a6 : Memref sig .tc .vmem S1024x1024 .bf16) (w6 : a6.IsWhole)
    (a7 : Memref sig .tc .vmem S512x1024 .bf16) (w7 : a7.IsWhole) (a8 : Memref sig .tc .vmem S128x1024 .bf16) (w8 : a8.IsWhole)
    (a9 : Memref sig .tc .vmem S512x128 .bf16) (w9 : a9.IsWhole) (a10 : Memref sig .tc .vmem S1024x512 .bf16) (w10 : a10.IsWhole)
    (a11 : Memref sig .tc .vmem S4x1x1024 .f32) (w11 : a11.IsWhole) (a12 : Memref sig .tc .vmem S4x1x1024 .f32) (w12 : a12.IsWhole)
    (a13 : Memref sig .tc .vmem S4x128x1024 .f32) (w13 : a13.IsWhole) (a14 : Memref sig .tc .vmem S4x1024x1024 .f32) (w14 : a14.IsWhole)
    (a15 : Memref sig .tc .vmem S4x1x1024 .f32) (w15 : a15.IsWhole)
    (h3 : Lends (c : Thread nD τ) R a3) (h4 : Lends (c : Thread nD τ) R a4)
    (h5 : Gives (c : Thread nD τ) R a5) (h6 : Gives (c : Thread nD τ) R a6) (h7 : Gives (c : Thread nD τ) R a7)
    (h8 : Gives (c : Thread nD τ) R a8) (h9 : Gives (c : Thread nD τ) R a9) (h10 : Gives (c : Thread nD τ) R a10)
    (h11 : Gives (c : Thread nD τ) R a11) (h12 : Gives (c : Thread nD τ) R a12) (h13 : Gives (c : Thread nD τ) R a13)
    (h14 : Gives (c : Thread nD τ) R a14) (h15 : Gives (c : Thread nD τ) R a15) :
    Keep (defs₀ (F := F)) (c : Thread nD τ) R (cc0_mla_attn i a3 w3 a4 w4 a5 w5 a6 w6 a7 w7 a8 w8 a9 w9 a10 w10 a11 w11 a12 w12
      a13 w13 a14 w14 a15 w15) := by
  rw [cc0_mla_attn_eq_skeleton]
  unfold cc0_mla_attn_skel
  with_reducible refine Keep.bind ?_ fun _ => ?_
  · exact Keep.smemLoad h3
  with_reducible refine Keep.bind ?_ fun _ => ?_
  · exact Keep.smemLoad h4
  extract_lets v4 v5 v6 v7 v8 v9 v13 v14 v15 j5 j4 j3 j2 j1
  have k5 : ∀ u, Keep (defs₀ (F := F)) c R (j5 u) := fun _ => Keep.pure _
  clear_value j5
  have k4 : ∀ u, Keep (defs₀ (F := F)) c R (j4 u) := by
    intro u
    dsimp only [j4]
    with_reducible refine Keep.dite (fun _ => ?_) (fun _ => ?_)
    · repeat' first
        | with_reducible refine Keep.bind ?_ fun _ => ?_
        | with_reducible exact Keep.pure _
        | with_reducible exact k5 _
        | (with_reducible refine Keep.load ?_); (with_reducible refine Gives.lends ?_); with_reducible assumption
        | (with_reducible refine Keep.store ?_); with_reducible assumption
        | (simp only [k0_part100_eq_skeleton, k0_part101_eq_skeleton, k0_part102_eq_skeleton, k0_part103_eq_skeleton,
            k0_part104_eq_skeleton, k0_part105_eq_skeleton, k0_part106_eq_skeleton, k0_part107_eq_skeleton,
            k0_part108_eq_skeleton, k0_part109_eq_skeleton, k0_part110_eq_skeleton, k0_part111_eq_skeleton,
            k0_part112_eq_skeleton, k0_part113_eq_skeleton, k0_part114_eq_skeleton, k0_part115_eq_skeleton,
            k0_part116_eq_skeleton, k0_part117_eq_skeleton, k0_part118_eq_skeleton, k0_part119_eq_skeleton,
            k0_part120_eq_skeleton, k0_part121_eq_skeleton, k0_part122_eq_skeleton, k0_part123_eq_skeleton,
            k0_part124_eq_skeleton, k0_part125_eq_skeleton, k0_part126_eq_skeleton, k0_part127_eq_skeleton,
            k0_part128_eq_skeleton]
           delta k0_part100_skel k0_part101_skel k0_part102_skel k0_part103_skel k0_part104_skel k0_part105_skel
            k0_part106_skel k0_part107_skel k0_part108_skel k0_part109_skel k0_part110_skel k0_part111_skel
            k0_part112_skel k0_part113_skel k0_part114_skel k0_part115_skel k0_part116_skel k0_part117_skel
            k0_part118_skel k0_part119_skel k0_part120_skel k0_part121_skel k0_part122_skel k0_part123_skel
            k0_part124_skel k0_part125_skel k0_part126_skel k0_part127_skel k0_part128_skel)
    · with_reducible exact k5 _
  clear_value j4
  have k3 : ∀ u, Keep (defs₀ (F := F)) c R (j3 u) := by
    intro u
    dsimp only [j3]
    with_reducible refine Keep.ite ?_ ?_
    · repeat' first
        | with_reducible refine Keep.bind ?_ fun _ => ?_
        | with_reducible exact Keep.pure _
        | with_reducible exact k4 _
        | (with_reducible refine Keep.load ?_); (with_reducible refine Gives.lends ?_); with_reducible assumption
        | (with_reducible refine Keep.store ?_); with_reducible assumption
        | (simp only [k0_part70_eq_skeleton, k0_part71_eq_skeleton, k0_part72_eq_skeleton, k0_part73_eq_skeleton,
            k0_part74_eq_skeleton, k0_part75_eq_skeleton, k0_part76_eq_skeleton, k0_part77_eq_skeleton,
            k0_part78_eq_skeleton, k0_part79_eq_skeleton, k0_part80_eq_skeleton, k0_part81_eq_skeleton,
            k0_part82_eq_skeleton, k0_part83_eq_skeleton, k0_part84_eq_skeleton, k0_part85_eq_skeleton,
            k0_part86_eq_skeleton, k0_part87_eq_skeleton, k0_part88_eq_skeleton, k0_part89_eq_skeleton,
            k0_part90_eq_skeleton, k0_part91_eq_skeleton, k0_part92_eq_skeleton, k0_part93_eq_skeleton,
            k0_part94_eq_skeleton, k0_part95_eq_skeleton, k0_part96_eq_skeleton, k0_part97_eq_skeleton,
            k0_part98_eq_skeleton, k0_part99_eq_skeleton]
           delta k0_part70_skel k0_part71_skel k0_part72_skel k0_part73_skel k0_part74_skel k0_part75_skel k0_part76_skel
            k0_part77_skel k0_part78_skel k0_part79_skel k0_part80_skel k0_part81_skel k0_part82_skel k0_part83_skel
            k0_part84_skel k0_part85_skel k0_part86_skel k0_part87_skel k0_part88_skel k0_part89_skel k0_part90_skel
            k0_part91_skel k0_part92_skel k0_part93_skel k0_part94_skel k0_part95_skel k0_part96_skel k0_part97_skel
            k0_part98_skel k0_part99_skel)
    · with_reducible exact k4 _
  clear_value j3
  have k2 : ∀ u, Keep (defs₀ (F := F)) c R (j2 u) := by
    intro u
    dsimp only [j2]
    with_reducible refine Keep.ite ?_ ?_
    · repeat' first
        | with_reducible refine Keep.bind ?_ fun _ => ?_
        | with_reducible exact Keep.pure _
        | with_reducible exact k3 _
        | (with_reducible refine Keep.load ?_); (with_reducible refine Gives.lends ?_); with_reducible assumption
        | (with_reducible refine Keep.store ?_); with_reducible assumption
        | (simp only [k0_part39_eq_skeleton, k0_part40_eq_skeleton, k0_part41_eq_skeleton, k0_part42_eq_skeleton,
            k0_part43_eq_skeleton, k0_part44_eq_skeleton, k0_part45_eq_skeleton, k0_part46_eq_skeleton,
            k0_part47_eq_skeleton, k0_part48_eq_skeleton, k0_part49_eq_skeleton, k0_part50_eq_skeleton,
            k0_part51_eq_skeleton, k0_part52_eq_skeleton, k0_part53_eq_skeleton, k0_part54_eq_skeleton,
            k0_part55_eq_skeleton, k0_part56_eq_skeleton, k0_part57_eq_skeleton, k0_part58_eq_skeleton,
            k0_part59_eq_skeleton, k0_part60_eq_skeleton, k0_part61_eq_skeleton, k0_part62_eq_skeleton,
            k0_part63_eq_skeleton, k0_part64_eq_skeleton, k0_part65_eq_skeleton, k0_part66_eq_skeleton,
            k0_part67_eq_skeleton, k0_part68_eq_skeleton, k0_part69_eq_skeleton]
           delta k0_part39_skel k0_part40_skel k0_part41_skel k0_part42_skel k0_part43_skel k0_part44_skel k0_part45_skel
            k0_part46_skel k0_part47_skel k0_part48_skel k0_part49_skel k0_part50_skel k0_part51_skel k0_part52_skel
            k0_part53_skel k0_part54_skel k0_part55_skel k0_part56_skel k0_part57_skel k0_part58_skel k0_part59_skel
            k0_part60_skel k0_part61_skel k0_part62_skel k0_part63_skel k0_part64_skel k0_part65_skel k0_part66_skel
            k0_part67_skel k0_part68_skel k0_part69_skel)
    · with_reducible exact k3 _
  clear_value j2
  have k1 : ∀ u, Keep (defs₀ (F := F)) c R (j1 u) := by
    intro u
    dsimp only [j1]
    with_reducible refine Keep.ite ?_ ?_
    · repeat' first
        | with_reducible refine Keep.bind ?_ fun _ => ?_
        | with_reducible exact Keep.pure _
        | with_reducible exact k2 _
        | (with_reducible refine Keep.load ?_); (with_reducible refine Gives.lends ?_); with_reducible assumption
        | (with_reducible refine Keep.store ?_); with_reducible assumption
        | (simp only [k0_part22_eq_skeleton, k0_part23_eq_skeleton, k0_part24_eq_skeleton, k0_part25_eq_skeleton,
            k0_part26_eq_skeleton, k0_part27_eq_skeleton, k0_part28_eq_skeleton, k0_part29_eq_skeleton,
            k0_part30_eq_skeleton, k0_part31_eq_skeleton, k0_part32_eq_skeleton, k0_part33_eq_skeleton,
            k0_part34_eq_skeleton, k0_part35_eq_skeleton, k0_part36_eq_skeleton, k0_part37_eq_skeleton,
            k0_part38_eq_skeleton]
           delta k0_part22_skel k0_part23_skel k0_part24_skel k0_part25_skel k0_part26_skel k0_part27_skel k0_part28_skel
            k0_part29_skel k0_part30_skel k0_part31_skel k0_part32_skel k0_part33_skel k0_part34_skel k0_part35_skel
            k0_part36_skel k0_part37_skel k0_part38_skel)
    · with_reducible exact k2 _
  clear_value j1
  with_reducible refine Keep.ite ?_ ?_
  · repeat' first
      | with_reducible refine Keep.bind ?_ fun _ => ?_
      | with_reducible exact Keep.pure _
      | with_reducible exact k1 _
      | (with_reducible refine Keep.load ?_); (with_reducible refine Gives.lends ?_); with_reducible assumption
      | (with_reducible refine Keep.store ?_); with_reducible assumption
      | (simp only [k0_part1_eq_skeleton, k0_part2_eq_skeleton, k0_part3_eq_skeleton, k0_part4_eq_skeleton,
          k0_part5_eq_skeleton, k0_part6_eq_skeleton, k0_part7_eq_skeleton, k0_part8_eq_skeleton,
          k0_part9_eq_skeleton, k0_part10_eq_skeleton, k0_part11_eq_skeleton, k0_part12_eq_skeleton,
          k0_part13_eq_skeleton, k0_part14_eq_skeleton, k0_part15_eq_skeleton, k0_part16_eq_skeleton,
          k0_part17_eq_skeleton, k0_part18_eq_skeleton, k0_part19_eq_skeleton, k0_part20_eq_skeleton,
          k0_part21_eq_skeleton]
         delta k0_part1_skel k0_part2_skel k0_part3_skel k0_part4_skel k0_part5_skel k0_part6_skel k0_part7_skel
          k0_part8_skel k0_part9_skel k0_part10_skel k0_part11_skel k0_part12_skel k0_part13_skel k0_part14_skel
          k0_part15_skel k0_part16_skel k0_part17_skel k0_part18_skel k0_part19_skel k0_part20_skel k0_part21_skel)
  · with_reducible exact k1 _

end Cert.AttnIdeal.Value

end
-- ==== Proof.AttnIdealFrame.lean ====
/- The idealized attention's frame: its tables name blocks inside the arrays, and at every grid point its body runs from any
   staging and scratch buffers, so every run ends with the arguments as they were. -/
module

public import proofs.«01_k».proof.Proof.AttnIdealKeeps
public import Idealize.ShloMosaic.Lib.Pipeline.Frame

@[expose] public section

set_option maxRecDepth 16384

noncomputable section

namespace Cert.AttnIdeal.Value

open Cert.AttnIdeal Cert.AttnIdeal.Gen Cert.Keeps Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

/-! ## The tables -/

/-- The tables of the query and the key blocks, as the program fills them. -/
def tab : pre0.Contents (Elt F) := fun
  | 0 => fun i => lit0 (S36.rowMajor i)
  | 1 => fun i => lit1 (S36.rowMajor i)
  | ⟨_ + 2, h⟩ => absurd h (Nat.not_lt.2 (Nat.le_add_left _ _))

theorem lit0_lt : ∀ k : Fin 36, (lit0 k).toNat < 8 := by decide
theorem lit1_lt : ∀ k : Fin 36, (lit1 k).toNat < 8 := by decide

/-- A block number of a sequence below 4 and a block in it below 8 is below 32. -/
theorem block_lt {b : Nat} (hb : b < 4) {w : BitVec 32} (hw : w.toNat < 8) :
    (Scalar.addi (Scalar.muli (BitVec.ofNat 32 b) 8#32) w).toNat < 32 := by
  show (BitVec.ofNat 32 b * 8#32 + w).toNat < 32
  rw [BitVec.toNat_add, BitVec.toNat_mul, BitVec.toNat_ofNat]
  show (b % 2 ^ 32 * 8 % 2 ^ 32 + w.toNat) % 2 ^ 32 < 32
  omega

theorem coord_lt {b : Nat} (hb : b < 4) : (BitVec.ofNat 32 b).toNat < 4 := by
  rw [BitVec.toNat_ofNat]; omega

theorem tab_ok : ok0 (F := F) tab := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h0 : (i 0).val < 4 := (i 0).isLt
    have h1 : (BitVec.ofNat 32 (i 1).val).toNat < 4 := coord_lt (i 1).isLt
  · fin_cases a
    · have := block_lt h0 (lit0_lt (S36.rowMajor ((Rect.unit (s := S36) (k0_off1 i) S1.size (Facts₀.k0_off1_inb i)).emb
        (Shape.Idx.first (Facts₀.numel1_S1.symm ▸ Nat.one_pos)))))
      show ((Scalar.addi _ _).toNat + 1) * 1024 ≤ 32768
      exact (Nat.mul_le_mul_right 1024 (Nat.succ_le_of_lt this) : _ ≤ 32 * 1024)
    · show ((BitVec.ofNat 32 (i 1).val).toNat + 1) * 1024 ≤ 4096
      omega
  · fin_cases a
    · have := block_lt h0 (lit1_lt (S36.rowMajor ((Rect.unit (s := S36) (k0_off1 i) S1.size (Facts₀.k0_off1_inb i)).emb
        (Shape.Idx.first (Facts₀.numel1_S1.symm ▸ Nat.one_pos)))))
      exact (Nat.mul_le_mul_right 1024 (Nat.succ_le_of_lt this) : _ ≤ 32 * 1024)
    · show ((BitVec.ofNat 32 (i 1).val).toNat + 1) * 1024 ≤ 4096
      omega
  · fin_cases a
    · show ((BitVec.ofNat 32 (i 1).val).toNat + 1) * 512 ≤ 2048
      omega
    · have := block_lt h0 (lit1_lt (S36.rowMajor ((Rect.unit (s := S36) (k0_off1 i) S1.size (Facts₀.k0_off1_inb i)).emb
        (Shape.Idx.first (Facts₀.numel1_S1.symm ▸ Nat.one_pos)))))
      exact (Nat.mul_le_mul_right 1024 (Nat.succ_le_of_lt this) : _ ≤ 32 * 1024)
  · fin_cases a
    · have := block_lt h0 (lit0_lt (S36.rowMajor ((Rect.unit (s := S36) (k0_off1 i) S1.size (Facts₀.k0_off1_inb i)).emb
        (Shape.Idx.first (Facts₀.numel1_S1.symm ▸ Nat.one_pos)))))
      exact (Nat.mul_le_mul_right 1024 (Nat.succ_le_of_lt this) : _ ≤ 32 * 1024)
    · show ((BitVec.ofNat 32 (i 1).val).toNat + 1) * 512 ≤ 2048
      omega

/-- The tables as every call finds them. -/
abbrev adm : (p : Fin 1) → (pcfgs (F := F) p).Adm := fun _ => ⟨tab, tab_ok⟩

/-! ## The program up to the call -/

variable (m : (ℓ : Loc nD τ sig) → Buf (Elt F) ℓ) (ρ : Dev nD → PrngReg)

/-- The buffers as the call finds them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh main_chain

theorem V_tab (c : Dev nD) (k : Fin 2) : V m c (pre0.ref k) = tab k := by
  fin_cases k
  · show V m c main_c = _
    unfold V; after_results; try rfl
  · show V m c main_c_0 = _
    unfold V; after_results; try rfl

theorem V_arg0 (c : Dev nD) : V m c main_arg0 = m ((c : Thread nD τ).loc main_arg0) := by
  unfold V; after_results; try rfl
theorem V_arg1 (c : Dev nD) : V m c main_arg1 = m ((c : Thread nD τ).loc main_arg1) := by
  unfold V; after_results; try rfl
theorem V_arg2 (c : Dev nD) : V m c main_arg2 = m ((c : Thread nD τ).loc main_arg2) := by
  unfold V; after_results; try rfl

/-- The call's data: of what the body leaves in a buffer nothing is said. -/
def rdat (c : Dev nD) : RDat τ (Elt F) Unit ℕ (UR sig nD τ) ℕ (Pipeline.pin (pcfgs (F := F)) adm 0) c where
  A w := V m c (Pipeline.arrRef spec0 w)
  after _ _ _ _ := True
  Φ _ := iprop(Pipeline.ΦA spec0 c ∗ Pipeline.ΦT pre0 (adm 0).1 c)
  q _ := fullShare
  owed _ := 0

/-- A whole buffer, at some contents. -/
abbrev Any (c : Dev nD) {s : Shape} {e : EltTy} (a : Memref sig .tc .vmem s e) : sProp (MT nD τ sig Unit (Elt F) ℕ (UR sig nD τ) ℕ) :=
  iprop(∃ f : Buf (Elt F) (a.view.loc (c : Thread nD τ)), a.view.loc (c : Thread nD τ) ↦{fullShare} f)

/-- A staging buffer, at some contents. -/
abbrev Stg (c : Dev nD) {s : Shape} {e : EltTy} (a : Memref sig .tc .vmem s e) : sProp (MT nD τ sig Unit (Elt F) ℕ (UR sig nD τ) ℕ) :=
  iprop(∃ X, owns (c : Thread nD τ) a fullShare X)

/-- The body runs from the tables at half a share and the staging and the scratch buffers at any contents, whatever else is held. -/
theorem keeps_any (c : Dev nD) (X : sProp (MT nD τ sig Unit (Elt F) ℕ (UR sig nD τ) ℕ)) (i : grid0.Coords)
    (a3 : Memref sig .tc .smem S36 .i32) (w3 : a3.IsWhole) (a4 : Memref sig .tc .smem S36 .i32) (w4 : a4.IsWhole)
    (a5 : Memref sig .tc .vmem S1024x1024 .bf16) (w5 : a5.IsWhole) (a6 : Memref sig .tc .vmem S1024x1024 .bf16) (w6 : a6.IsWhole)
    (a7 : Memref sig .tc .vmem S512x1024 .bf16) (w7 : a7.IsWhole) (a8 : Memref sig .tc .vmem S128x1024 .bf16) (w8 : a8.IsWhole)
    (a9 : Memref sig .tc .vmem S512x128 .bf16) (w9 : a9.IsWhole) (a10 : Memref sig .tc .vmem S1024x512 .bf16) (w10 : a10.IsWhole)
    (a11 : Memref sig .tc .vmem S4x1x1024 .f32) (w11 : a11.IsWhole) (a12 : Memref sig .tc .vmem S4x1x1024 .f32) (w12 : a12.IsWhole)
    (a13 : Memref sig .tc .vmem S4x128x1024 .f32) (w13 : a13.IsWhole) (a14 : Memref sig .tc .vmem S4x1024x1024 .f32) (w14 : a14.IsWhole)
    (a15 : Memref sig .tc .vmem S4x1x1024 .f32) (w15 : a15.IsWhole)
    (f3 : Buf (Elt F) (a3.view.loc (c : Thread nD τ))) (f4 : Buf (Elt F) (a4.view.loc (c : Thread nD τ))) :
    Keep (defs₀ (F := F)) (c : Thread nD τ)
      iprop(((a3.view.loc (c : Thread nD τ) ↦{fullShare.right} f3) ∗ (a4.view.loc (c : Thread nD τ) ↦{fullShare.right} f4))
        ∗ (Stg c a5 ∗ Stg c a6 ∗ Stg c a7 ∗ Stg c a8 ∗ Stg c a9 ∗ Stg c a10)
        ∗ (Any c a11 ∗ Any c a12 ∗ Any c a13 ∗ Any c a14 ∗ Any c a15) ∗ X)
      (cc0_mla_attn i a3 w3 a4 w4 a5 w5 a6 w6 a7 w7 a8 w8 a9 w9 a10 w10 a11 w11 a12 w12 a13 w13 a14 w14 a15 w15) := by
  refine keeps c _ i a3 w3 a4 w4 a5 w5 a6 w6 a7 w7 a8 w8 a9 w9 a10 w10 a11 w11 a12 w12 a13 w13 a14 w14 a15 w15
    ?_ ?_ ?_ ?_ ?_ ?_ ?_ ?_ ?_ ?_ ?_ ?_ ?_
  · exact Lends.left (Lends.left (Lends.whole (c := (c : Thread nD τ)) a3 w3 fullShare.right f3))
  · exact Lends.left (Lends.right (Lends.whole (c := (c : Thread nD τ)) a4 w4 fullShare.right f4))
  · exact Gives.right (Gives.left (Gives.left (Gives.owns (c := (c : Thread nD τ)) a5)))
  · exact Gives.right (Gives.left (Gives.right (Gives.left (Gives.owns (c := (c : Thread nD τ)) a6))))
  · exact Gives.right (Gives.left (Gives.right (Gives.right (Gives.left (Gives.owns (c := (c : Thread nD τ)) a7)))))
  · exact Gives.right (Gives.left (Gives.right (Gives.right (Gives.right (Gives.left (Gives.owns (c := (c : Thread nD τ)) a8))))))
  · exact Gives.right (Gives.left (Gives.right (Gives.right (Gives.right (Gives.right (Gives.left (Gives.owns (c := (c : Thread nD τ)) a9)))))))
  · exact Gives.right (Gives.left (Gives.right (Gives.right (Gives.right (Gives.right (Gives.right (Gives.owns (c := (c : Thread nD τ)) a10)))))))
  · exact Gives.right (Gives.right (Gives.left (Gives.left (Gives.whole (c := (c : Thread nD τ)) a11 w11))))
  · exact Gives.right (Gives.right (Gives.left (Gives.right (Gives.left (Gives.whole (c := (c : Thread nD τ)) a12 w12)))))
  · exact Gives.right (Gives.right (Gives.left (Gives.right (Gives.right (Gives.left (Gives.whole (c := (c : Thread nD τ)) a13 w13))))))
  · exact Gives.right (Gives.right (Gives.left (Gives.right (Gives.right (Gives.right (Gives.left (Gives.whole (c := (c : Thread nD τ)) a14 w14)))))))
  · exact Gives.right (Gives.right (Gives.left (Gives.right (Gives.right (Gives.right (Gives.right (Gives.whole (c := (c : Thread nD τ)) a15 w15)))))))

/-- The same of the call's own buffers, in the slots `s`. -/
theorem body_keeps (c : Dev nD) (t : Fin grid0.N) (s : (w : Fin 6) → Fin (spec0 w).nbuf) (X : sProp (MT nD τ sig Unit (Elt F) ℕ (UR sig nD τ) ℕ))
    (f3 : Buf (Elt F) ((c : Thread nD τ).loc main_c)) (f4 : Buf (Elt F) ((c : Thread nD τ).loc main_c_0)) :
    Keep (defs₀ (F := F)) (c : Thread nD τ)
      iprop(((((c : Thread nD τ).loc main_c) ↦{fullShare.right} f3) ∗ (((c : Thread nD τ).loc main_c_0) ↦{fullShare.right} f4))
        ∗ (Stg c (spec0_0.stage (s 0)) ∗ Stg c (spec0_1.stage (s 1)) ∗ Stg c (spec0_2.stage (s 2)) ∗ Stg c (spec0_3.stage (s 3))
          ∗ Stg c (spec0_4.stage (s 4)) ∗ Stg c (spec0_5.stage (s 5)))
        ∗ (Any c (Memref.whole cc0_scratch0) ∗ Any c (Memref.whole cc0_scratch1) ∗ Any c (Memref.whole cc0_scratch2)
          ∗ Any c (Memref.whole cc0_scratch3) ∗ Any c (Memref.whole cc0_scratch4)) ∗ X)
      (defs₀ .tc 0 (t, s)) :=
  keeps_any c X (grid0.coords t) (Memref.whole main_c) (Memref.isWhole_whole _) (Memref.whole main_c_0) (Memref.isWhole_whole _)
    (spec0_0.stage (s 0)) (hstage0_0 ((s 0).cast nbuf0_0)) (spec0_1.stage (s 1)) (hstage0_1 ((s 1).cast nbuf0_1))
    (spec0_2.stage (s 2)) (hstage0_2 ((s 2).cast nbuf0_2)) (spec0_3.stage (s 3)) (hstage0_3 ((s 3).cast nbuf0_3))
    (spec0_4.stage (s 4)) (hstage0_4 ((s 4).cast nbuf0_4)) (spec0_5.stage (s 5)) (hstage0_5 ((s 5).cast nbuf0_5))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) f3 f4

/-- The invariant, its buffers named. -/
theorem Φ_eq (c : Dev nD) (k) : (rdat m c).Φ k
    = iprop(((Any (F := F) c (Memref.whole cc0_scratch0) ∗ Any (F := F) c (Memref.whole cc0_scratch1) ∗ Any (F := F) c (Memref.whole cc0_scratch2) ∗ Any (F := F) c (Memref.whole cc0_scratch3)
      ∗ Any (F := F) c (Memref.whole cc0_scratch4)) ∗ ∃ r, prngReg c r)
      ∗ (((c : Thread nD τ).loc main_c) ↦{fullShare.right} tab (F := F) 0) ∗ (((c : Thread nD τ).loc main_c_0) ↦{fullShare.right} tab (F := F) 1)) := by
  show iprop(Pipeline.ΦA spec0 c ∗ Pipeline.ΦT pre0 (tab (F := F)) c) = _
  unfold Pipeline.ΦA Pipeline.ΦT Pipeline.prefHeld
  rw [scopedRest0_eq, bigSep_univ_eq_bigSepL [(0 : Fin 2), 1] (by decide) (by decide)]
  rfl

theorem body (c : Dev nD) : (rdat m c).BodyObligation defs₀ Variants.none () Set.univ := by
  intro t Y _
  rw [Φ_eq, Φ_eq, show (rdat m c).owesAt () t.succ = (rdat m c).owesAt () t.castSucc from rfl]
  refine BIBase.Entails.trans ?_ ((body_keeps c t ((Pipeline.pin (pcfgs (F := F)) adm 0).slots t)
    iprop((∃ r, prngReg c r) ∗ (rdat m c).owesAt () t.castSucc) (tab 0) (tab 1)).trans (wp_mono _ _ _ fun _ => ?_))
  · refine BIBase.Entails.trans (sep_mono_right (sep_mono_right (Entails.of_eq (bigSep_W0 _)))) ?_
    iintro ⟨⟨⟨HS, Hp⟩, HT⟩, Ho, H0, H1, H2, H3, H4, H5⟩
    isplitl [HT]; · iexact HT
    isplitl [H0 H1 H2 H3 H4 H5]
    · isplitl [H0]; · iexists Y 0; iexact H0
      isplitl [H1]; · iexists Y 1; iexact H1
      isplitl [H2]; · iexists Y 2; iexact H2
      isplitl [H3]; · iexists Y 3; iexact H3
      isplitl [H4]; · iexists Y 4; iexact H4
      iexists Y 5; iexact H5
    isplitl [HS]; · iexact HS
    isplitl [Hp]; · iexact Hp
    iexact Ho
  · refine BIBase.Entails.trans ?_ (sep_mono_right (sep_mono_right (Entails.of_eq (bigSep_W0 _).symm)))
    iintro ⟨HT, ⟨⟨%Y0, H0⟩, ⟨%Y1, H1⟩, ⟨%Y2, H2⟩, ⟨%Y3, H3⟩, ⟨%Y4, H4⟩, ⟨%Y5, H5⟩⟩, HS, Hp, Ho⟩
    isplitl [HT HS Hp]
    · isplitl [HS Hp]
      · isplitl [HS]; · iexact HS
        iexact Hp
      · iexact HT
    isplitl [Ho]; · iexact Ho
    isplitl [H0]; · iexists Y0; isplitr; · ipureintro; trivial
                    iexact H0
    isplitl [H1]; · iexists Y1; isplitr; · ipureintro; trivial
                    iexact H1
    isplitl [H2]; · iexists Y2; isplitr; · ipureintro; trivial
                    iexact H2
    isplitl [H3]; · iexists Y3; isplitr; · ipureintro; trivial
                    iexact H3
    isplitl [H4]; · iexists Y4; isplitr; · ipureintro; trivial
                    iexact H4
    iexists Y5; isplitr; · ipureintro; trivial
    iexact H5

set_option backward.isDefEq.respectTransparency.types false in
theorem run_main : θ_run defs (onTc (τ := τ) (main (F := F))) (s₀ m ρ)
    (fun r => RDat.FramePost (Pipeline.pin (pcfgs (F := F)) adm 0) (rdat m) (V m) r ∧ r.2.sem = fun _ => 0) :=
  Pipeline.RDat.θ_run_frameP (Q' := _) pcfgs adm (0 : Fin 1) launch0 defs₀ Variants.none (rdat m) m ρ main
    (hbody := body m) (hshare := fun c => (rdat m c).share_full fun _ => rfl)
    (howed := fun _ _ => rfl) (V := V m) (hmain := hmain m) (hA := fun _ _ => rfl) (hpf := fun c k => V_tab m c k)
    (hΦ := fun _ _ => rfl)

/-- Every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).2 main_arg0 (Pipeline.mem_restRefs_of (win := spec0) main_arg0 (by decide) (by decide))).trans (V_arg0 m c),
     (RDat.FramePost.arr_in h.1 c 3 rfl).trans (V_arg1 m c),
     (RDat.FramePost.arr_in h.1 c 4 rfl).trans (V_arg2 m c)⟩, h.2⟩) (run_main m ρ)

end Cert.AttnIdeal.Value

end
-- ==== Proof.AttnReference.lean ====
/- The attention's reference runs and leaves its arguments unchanged. -/
module

public import proofs.«01_k».proof.Proof.Gen.AttnRefIdeal
public import Idealize.ShloMosaic.Lib.Claim
public import Idealize.ShloMosaic.Lib.Quiescent
public import Idealize.ShloMosaic.Adequacy
public import Idealize.ShloMosaic.Init

@[expose] public section

set_option maxRecDepth 16384

noncomputable section

namespace Cert.AttnRefIdeal.Value

open Cert.AttnRefIdeal Cert.AttnRefIdeal.Gen Idealize.ShloMosaic Idealize.ShloMosaic.TcCoe Idealize.SL.Sem

variable {F : FTy → Type} [FloatOps F] (m : (ℓ : Loc nD τ sig) → Buf (Elt F) ℓ) (ρ : Dev nD → PrngReg)

/-- Every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  hlo_run
  · exact fun _ => ⟨trivial, trivial, trivial⟩
  · exact sem_eq_zero_of_no_sems (sig := Cert.AttnRefIdeal.sig) (by decide) _

end Cert.AttnRefIdeal.Value

end
-- ==== Proof.lean ====
module

public import proofs.«01_k».proof.Defs
public import proofs.«01_k».proof.Proof.FfnUpValue
public import proofs.«01_k».proof.Proof.Gen.FfnUp.Frame
public import proofs.«01_k».proof.Proof.Gen.FfnUp
public import proofs.«01_k».proof.Proof.Gen.FfnUpIdeal
public import proofs.«01_k».proof.Proof.Gen.FfnUpRefIdeal
public import proofs.«01_k».proof.Proof.Gen.FfnUpRefIdeal.Run
public import proofs.«01_k».proof.Proof.InGatesValue
public import proofs.«01_k».proof.Proof.Gen.InGates.Frame
public import proofs.«01_k».proof.Proof.Gen.InGates
public import proofs.«01_k».proof.Proof.Gen.InGatesIdeal
public import proofs.«01_k».proof.Proof.Gen.InGatesRefIdeal
public import proofs.«01_k».proof.Proof.Gen.InGatesRefIdeal.Run
public import proofs.«01_k».proof.Proof.InConvValue
public import proofs.«01_k».proof.Proof.Gen.InConv.Frame
public import proofs.«01_k».proof.Proof.Gen.InConv
public import proofs.«01_k».proof.Proof.Gen.InConvIdeal
public import proofs.«01_k».proof.Proof.Gen.InConvRefIdeal
public import proofs.«01_k».proof.Proof.Gen.InConvRefIdeal.Run
public import proofs.«01_k».proof.Proof.InUValue
public import proofs.«01_k».proof.Proof.Gen.InU.Frame
public import proofs.«01_k».proof.Proof.Gen.InU
public import proofs.«01_k».proof.Proof.Gen.InUIdeal
public import proofs.«01_k».proof.Proof.Gen.InURefIdeal
public import proofs.«01_k».proof.Proof.Gen.InURefIdeal.Run
public import proofs.«01_k».proof.Proof.InCkvValue
public import proofs.«01_k».proof.Proof.Gen.InCkv.Frame
public import proofs.«01_k».proof.Proof.Gen.InCkv
public import proofs.«01_k».proof.Proof.Gen.InCkvIdeal
public import proofs.«01_k».proof.Proof.Gen.InCkvRefIdeal
public import proofs.«01_k».proof.Proof.Gen.InCkvRefIdeal.Run
public import proofs.«01_k».proof.Proof.InQValue
public import proofs.«01_k».proof.Proof.Gen.InQ.Frame
public import proofs.«01_k».proof.Proof.Gen.InQ
public import proofs.«01_k».proof.Proof.Gen.InQIdeal
public import proofs.«01_k».proof.Proof.Gen.InQRefIdeal
public import proofs.«01_k».proof.Proof.Gen.InQRefIdeal.Run
public import proofs.«01_k».proof.Proof.MixValue
public import proofs.«01_k».proof.Proof.Gen.Mix.Frame
public import proofs.«01_k».proof.Proof.Gen.Mix
public import proofs.«01_k».proof.Proof.Gen.MixIdeal
public import proofs.«01_k».proof.Proof.Gen.MixRefIdeal
public import proofs.«01_k».proof.Proof.Gen.MixRefIdeal.Run
public import proofs.«01_k».proof.Proof.MmOutValue
public import proofs.«01_k».proof.Proof.Gen.MmOut.Frame
public import proofs.«01_k».proof.Proof.Gen.MmOut
public import proofs.«01_k».proof.Proof.Gen.MmOutIdeal
public import proofs.«01_k».proof.Proof.Gen.MmOutRefIdeal
public import proofs.«01_k».proof.Proof.Gen.MmOutRefIdeal.Run
public import proofs.«01_k».proof.Proof.MmDownValue
public import proofs.«01_k».proof.Proof.Gen.MmDown.Frame
public import proofs.«01_k».proof.Proof.Gen.MmDown
public import proofs.«01_k».proof.Proof.Gen.MmDownIdeal
public import proofs.«01_k».proof.Proof.Gen.MmDownRefIdeal
public import proofs.«01_k».proof.Proof.Gen.MmDownRefIdeal.Run
public import proofs.«01_k».proof.Proof.KvUpValue
public import proofs.«01_k».proof.Proof.Gen.KvUp.Frame
public import proofs.«01_k».proof.Proof.Gen.KvUp
public import proofs.«01_k».proof.Proof.Gen.KvUpIdeal
public import proofs.«01_k».proof.Proof.Gen.KvUpRefIdeal
public import proofs.«01_k».proof.Proof.Gen.KvUpRefIdeal.Run
public import proofs.«01_k».proof.Proof.Ln0Value
public import proofs.«01_k».proof.Proof.Gen.Ln0.Frame
public import proofs.«01_k».proof.Proof.Gen.Ln0
public import proofs.«01_k».proof.Proof.Gen.Ln0Ideal
public import proofs.«01_k».proof.Proof.Gen.Ln0RefIdeal
public import proofs.«01_k».proof.Proof.Gen.Ln0RefIdeal.Run
public import proofs.«01_k».proof.Proof.SsmMetaValue
public import proofs.«01_k».proof.Proof.Gen.SsmMeta.Frame
public import proofs.«01_k».proof.Proof.Gen.SsmMeta
public import proofs.«01_k».proof.Proof.Gen.SsmMetaIdeal
public import proofs.«01_k».proof.Proof.Gen.SsmMetaRefIdeal
public import proofs.«01_k».proof.Proof.Gen.SsmMetaRefIdeal.Run
public import proofs.«01_k».proof.Proof.AttnMetaValue
public import proofs.«01_k».proof.Proof.Gen.Pre_attn_meta_finite
public import proofs.«01_k».proof.Proof.Gen.AttnMeta.Frame
public import proofs.«01_k».proof.Proof.Gen.AttnMeta
public import proofs.«01_k».proof.Proof.Gen.AttnMetaIdeal
public import proofs.«01_k».proof.Proof.Gen.AttnMetaRefIdeal
public import proofs.«01_k».proof.Proof.Gen.AttnMetaRefIdeal.Run
public import proofs.«01_k».proof.Proof.AttnFrame
public import proofs.«01_k».proof.Proof.AttnIdealFrame
public import proofs.«01_k».proof.Proof.AttnReference
public import proofs.«01_k».proof.Proof.Gen.Attn
public import proofs.«01_k».proof.Proof.Gen.AttnIdeal
public import proofs.«01_k».proof.Proof.Gen.AttnRefIdeal
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The gated up projection of the feed-forward agrees with its reference. -/
theorem algebraicFfnUp : Cert.algebraic_FfnUpIdeal_FfnUpRefIdeal := by
  pair_intro
  · run_from Cert.FfnUpIdeal.Gen.run_main m g
  · hlo_run
    exact (Cert.FfnUpIdeal.Value.final m c).symm

/-- The gates' projection agrees with its reference. -/
theorem algebraicInGates : Cert.algebraic_InGatesIdeal_InGatesRefIdeal := by
  pair_intro
  · run_from Cert.InGatesIdeal.Gen.run_main m g
  · hlo_run
    exact (Cert.InGatesIdeal.Value.final m c).symm

/-- The convolution branch's input projection agrees with its reference. -/
theorem algebraicInConv : Cert.algebraic_InConvIdeal_InConvRefIdeal := by
  pair_intro
  · run_from Cert.InConvIdeal.Gen.run_main m g
  · hlo_run
    exact (Cert.InConvIdeal.Value.final m c).symm

/-- The state-space branch's input projection agrees with its reference. -/
theorem algebraicInU : Cert.algebraic_InUIdeal_InURefIdeal := by
  pair_intro
  · run_from Cert.InUIdeal.Gen.run_main m g
  · hlo_run
    exact (Cert.InUIdeal.Value.final m c).symm

/-- The latent keys' and values' projection agrees with its reference. -/
theorem algebraicInCkv : Cert.algebraic_InCkvIdeal_InCkvRefIdeal := by
  pair_intro
  · run_from Cert.InCkvIdeal.Gen.run_main m g
  · hlo_run
    exact (Cert.InCkvIdeal.Value.final m c).symm

/-- The queries' projection agrees with its reference. -/
theorem algebraicInQ : Cert.algebraic_InQIdeal_InQRefIdeal := by
  pair_intro
  · run_from Cert.InQIdeal.Gen.run_main m g
  · run_from Cert.InQRefIdeal.Value.run_queries m' g'
    exact (Cert.InQIdeal.Value.final m c).symm

/-- The gated mix of the three branches agrees with its reference. -/
theorem algebraicMix : Cert.algebraic_MixIdeal_MixRefIdeal := by
  pair_intro
  · run_from Cert.MixIdeal.Gen.run_main m g
  · run_from Cert.MixRefIdeal.Value.run m' g'
    rw [(hagree c).2.2.2.1, (hagree c).2.2.2.2.1]
    exact (Cert.MixIdeal.Value.final m c).symm

/-- The output projection with its residual and normalisation agrees with its reference. -/
theorem algebraicMmOut : Cert.algebraic_MmOutIdeal_MmOutRefIdeal := by
  pair_intro
  · run_from Cert.MmOutIdeal.Gen.run_main m g
  · hlo_run
    · exact (Cert.MmOutIdeal.Value.final5 m c).symm
    · exact (Cert.MmOutIdeal.Value.final6 m c).symm

/-- The down projection of the feed-forward with its residual and normalisation agrees with its reference. -/
theorem algebraicMmDown : Cert.algebraic_MmDownIdeal_MmDownRefIdeal := by
  pair_intro
  · run_from Cert.MmDownIdeal.Gen.run_main m g
  · hlo_run
    · exact (Cert.MmDownIdeal.Value.result5 m c).symm
    · exact (Cert.MmDownIdeal.Value.result6 m c).symm

/-- The up projection of the latent keys and values agrees with its reference. -/
theorem algebraicKvUp : Cert.algebraic_KvUpIdeal_KvUpRefIdeal := by
  pair_intro
  · run_from Cert.KvUpIdeal.Gen.run_main m g
  · run_from Cert.KvUpRefIdeal.Value.run_keys m' g'
    · exact (Cert.KvUpIdeal.Value.final5 m c).symm
    · exact (Cert.KvUpIdeal.Value.final6 m c).symm

/-- The normalisation of the inputs agrees with its reference. -/
theorem algebraicLn0 : Cert.algebraic_Ln0Ideal_Ln0RefIdeal := by
  pair_intro
  · run_from Cert.Ln0Ideal.Gen.run_main m g
  · run_from Cert.Ln0RefIdeal.Value.run_normed m' g'
    · exact (Cert.Ln0Ideal.Value.final4 m c).symm
    · exact (Cert.Ln0Ideal.Value.final5 m c).symm

/-- The state-space branch's output of the meta tokens agrees with its reference. -/
theorem algebraicSsmMeta : Cert.algebraic_SsmMetaIdeal_SsmMetaRefIdeal := by
  pair_intro
  · run_from Cert.SsmMetaIdeal.Gen.run_main m g
  · run_from Cert.SsmMetaRefIdeal.Value.run_padded m' g'
    exact (Cert.SsmMetaIdeal.Value.final m c).symm

/-- The meta tokens' attention agrees with its reference where its queries and keys are finite. -/
theorem algebraicAttnMeta : Cert.algebraic_AttnMetaIdeal_AttnMetaRefIdeal_pre_attn_meta_finite (hPre_attn_meta_finite := Cert.Pre_attn_meta_finite.Gen.facts) := by
  pair_intro
  · run_from Cert.AttnMetaIdeal.Gen.run_main m g
  · run_from Cert.AttnMetaRefIdeal.Value.run_attended m' g'
    exact (Cert.AttnMetaIdeal.Value.final m c (hpre c)).symm

/-- The reference `FfnUpRefIdeal` runs and leaves its arguments unchanged. -/
theorem referenceFfnUp : Cert.quiescent_FfnUpRefIdeal := fun m g _ =>
  θ_run_mono (Cert.FfnUpRefIdeal.Value.run m g) fun r h =>
    ⟨fun c => (h c).2, sem_eq_zero_of_no_sems (sig := Cert.FfnUpRefIdeal.sig) (by decide) _⟩

/-- The reference `InGatesRefIdeal` runs and leaves its arguments unchanged. -/
theorem referenceInGates : Cert.quiescent_InGatesRefIdeal := fun m g _ =>
  θ_run_mono (Cert.InGatesRefIdeal.Value.run m g) fun r h =>
    ⟨fun c => (h c).2, sem_eq_zero_of_no_sems (sig := Cert.InGatesRefIdeal.sig) (by decide) _⟩

/-- The reference `InConvRefIdeal` runs and leaves its arguments unchanged. -/
theorem referenceInConv : Cert.quiescent_InConvRefIdeal := fun m g _ =>
  θ_run_mono (Cert.InConvRefIdeal.Value.run m g) fun r h =>
    ⟨fun c => (h c).2, sem_eq_zero_of_no_sems (sig := Cert.InConvRefIdeal.sig) (by decide) _⟩

/-- The reference `InURefIdeal` runs and leaves its arguments unchanged. -/
theorem referenceInU : Cert.quiescent_InURefIdeal := fun m g _ =>
  θ_run_mono (Cert.InURefIdeal.Value.run m g) fun r h =>
    ⟨fun c => (h c).2, sem_eq_zero_of_no_sems (sig := Cert.InURefIdeal.sig) (by decide) _⟩

/-- The reference `InCkvRefIdeal` runs and leaves its arguments unchanged. -/
theorem referenceInCkv : Cert.quiescent_InCkvRefIdeal := fun m g _ =>
  θ_run_mono (Cert.InCkvRefIdeal.Value.run m g) fun r h =>
    ⟨fun c => (h c).2, sem_eq_zero_of_no_sems (sig := Cert.InCkvRefIdeal.sig) (by decide) _⟩

/-- The reference `InQRefIdeal` runs and leaves its arguments unchanged. -/
theorem referenceInQ : Cert.quiescent_InQRefIdeal := fun m g _ =>
  θ_run_mono (Cert.InQRefIdeal.Value.run m g) fun r h =>
    ⟨fun c => (h c).2, sem_eq_zero_of_no_sems (sig := Cert.InQRefIdeal.sig) (by decide) _⟩

/-- The reference `MixRefIdeal` runs and leaves its arguments unchanged. -/
theorem referenceMix : Cert.quiescent_MixRefIdeal := fun m g _ =>
  θ_run_mono (Cert.MixRefIdeal.Value.run m g) fun r h =>
    ⟨fun c => (h c).2, sem_eq_zero_of_no_sems (sig := Cert.MixRefIdeal.sig) (by decide) _⟩

/-- The reference `MmOutRefIdeal` runs and leaves its arguments unchanged. -/
theorem referenceMmOut : Cert.quiescent_MmOutRefIdeal := fun m g _ =>
  θ_run_mono (Cert.MmOutRefIdeal.Value.run m g) fun r h =>
    ⟨fun c => (h c).2.2, sem_eq_zero_of_no_sems (sig := Cert.MmOutRefIdeal.sig) (by decide) _⟩

/-- The reference `MmDownRefIdeal` runs and leaves its arguments unchanged. -/
theorem referenceMmDown : Cert.quiescent_MmDownRefIdeal := fun m g _ =>
  θ_run_mono (Cert.MmDownRefIdeal.Value.run m g) fun r h =>
    ⟨fun c => (h c).2.2, sem_eq_zero_of_no_sems (sig := Cert.MmDownRefIdeal.sig) (by decide) _⟩

/-- The reference `KvUpRefIdeal` runs and leaves its arguments unchanged. -/
theorem referenceKvUp : Cert.quiescent_KvUpRefIdeal := fun m g _ =>
  θ_run_mono (Cert.KvUpRefIdeal.Value.run m g) fun r h =>
    ⟨fun c => (h c).2.2, sem_eq_zero_of_no_sems (sig := Cert.KvUpRefIdeal.sig) (by decide) _⟩

/-- The reference `Ln0RefIdeal` runs and leaves its arguments unchanged. -/
theorem referenceLn0 : Cert.quiescent_Ln0RefIdeal := fun m g _ =>
  θ_run_mono (Cert.Ln0RefIdeal.Value.run m g) fun r h =>
    ⟨fun c => (h c).2.2, sem_eq_zero_of_no_sems (sig := Cert.Ln0RefIdeal.sig) (by decide) _⟩

/-- The reference `SsmMetaRefIdeal` runs and leaves its arguments unchanged. -/
theorem referenceSsmMeta : Cert.quiescent_SsmMetaRefIdeal := fun m g _ =>
  θ_run_mono (Cert.SsmMetaRefIdeal.Value.run m g) fun r h =>
    ⟨fun c => (h c).2, sem_eq_zero_of_no_sems (sig := Cert.SsmMetaRefIdeal.sig) (by decide) _⟩

/-- The reference `AttnMetaRefIdeal` runs and leaves its arguments unchanged. -/
theorem referenceAttnMeta : Cert.quiescent_AttnMetaRefIdeal := fun m g _ =>
  θ_run_mono (Cert.AttnMetaRefIdeal.Value.run m g) fun r h =>
    ⟨fun c => (h c).2, sem_eq_zero_of_no_sems (sig := Cert.AttnMetaRefIdeal.sig) (by decide) _⟩

theorem claim : Cert.Claim :=
  ⟨Cert.FfnUp.Gen.facts, Cert.FfnUpIdeal.Gen.facts, Cert.FfnUpRefIdeal.Gen.facts,
    Cert.InGates.Gen.facts, Cert.InGatesIdeal.Gen.facts, Cert.InGatesRefIdeal.Gen.facts,
    Cert.InConv.Gen.facts, Cert.InConvIdeal.Gen.facts, Cert.InConvRefIdeal.Gen.facts,
    Cert.InU.Gen.facts, Cert.InUIdeal.Gen.facts, Cert.InURefIdeal.Gen.facts,
    Cert.InCkv.Gen.facts, Cert.InCkvIdeal.Gen.facts, Cert.InCkvRefIdeal.Gen.facts,
    Cert.InQ.Gen.facts, Cert.InQIdeal.Gen.facts, Cert.InQRefIdeal.Gen.facts,
    Cert.Mix.Gen.facts, Cert.MixIdeal.Gen.facts, Cert.MixRefIdeal.Gen.facts,
    Cert.MmOut.Gen.facts, Cert.MmOutIdeal.Gen.facts, Cert.MmOutRefIdeal.Gen.facts,
    Cert.MmDown.Gen.facts, Cert.MmDownIdeal.Gen.facts, Cert.MmDownRefIdeal.Gen.facts,
    Cert.KvUp.Gen.facts, Cert.KvUpIdeal.Gen.facts, Cert.KvUpRefIdeal.Gen.facts,
    Cert.Ln0.Gen.facts, Cert.Ln0Ideal.Gen.facts, Cert.Ln0RefIdeal.Gen.facts,
    Cert.SsmMeta.Gen.facts, Cert.SsmMetaIdeal.Gen.facts, Cert.SsmMetaRefIdeal.Gen.facts,
    Cert.AttnMeta.Gen.facts, Cert.AttnMetaIdeal.Gen.facts, Cert.AttnMetaRefIdeal.Gen.facts,
    Cert.Attn.Gen.facts, Cert.AttnIdeal.Gen.facts, Cert.AttnRefIdeal.Gen.facts,
    Cert.Pre_attn_meta_finite.Gen.facts,
    fun m g _ => Cert.FfnUp.Gen.frame m g, fun m g _ => Cert.FfnUpIdeal.Gen.frame m g, referenceFfnUp,
    fun m g _ => Cert.InGates.Gen.frame m g, fun m g _ => Cert.InGatesIdeal.Gen.frame m g, referenceInGates,
    fun m g _ => Cert.InConv.Gen.frame m g, fun m g _ => Cert.InConvIdeal.Gen.frame m g, referenceInConv,
    fun m g _ => Cert.InU.Gen.frame m g, fun m g _ => Cert.InUIdeal.Gen.frame m g, referenceInU,
    fun m g _ => Cert.InCkv.Gen.frame m g, fun m g _ => Cert.InCkvIdeal.Gen.frame m g, referenceInCkv,
    fun m g _ => Cert.InQ.Gen.frame m g, fun m g _ => Cert.InQIdeal.Gen.frame m g, referenceInQ,
    fun m g _ => Cert.Mix.Gen.frame m g, fun m g _ => Cert.MixIdeal.Gen.frame m g, referenceMix,
    fun m g _ => Cert.MmOut.Gen.frame m g, fun m g _ => Cert.MmOutIdeal.Gen.frame m g, referenceMmOut,
    fun m g _ => Cert.MmDown.Gen.frame m g, fun m g _ => Cert.MmDownIdeal.Gen.frame m g, referenceMmDown,
    fun m g _ => Cert.KvUp.Gen.frame m g, fun m g _ => Cert.KvUpIdeal.Gen.frame m g, referenceKvUp,
    fun m g _ => Cert.Ln0.Gen.frame m g, fun m g _ => Cert.Ln0Ideal.Gen.frame m g, referenceLn0,
    fun m g _ => Cert.SsmMeta.Gen.frame m g, fun m g _ => Cert.SsmMetaIdeal.Gen.frame m g, referenceSsmMeta,
    fun m g _ => Cert.AttnMeta.Gen.frame m g, fun m g _ => Cert.AttnMetaIdeal.Gen.frame m g, fun m g _ => Cert.AttnMetaIdeal.Gen.frame m g,
    referenceAttnMeta, fun m g _ => referenceAttnMeta m g trivial,
    fun m g _ => Cert.Attn.Value.frame m g, fun m g _ => Cert.AttnIdeal.Value.frame m g, fun m g _ => Cert.AttnRefIdeal.Value.frame m g,
    trivial, algebraicFfnUp,
    trivial, algebraicInGates,
    trivial, algebraicInConv,
    trivial, algebraicInU,
    trivial, algebraicInCkv,
    trivial, algebraicInQ,
    trivial, algebraicMix,
    trivial, algebraicMmOut,
    trivial, algebraicMmDown,
    trivial, algebraicKvUp,
    trivial, algebraicLn0,
    trivial, algebraicSsmMeta,
    trivial, algebraicAttnMeta,
    trivial⟩

end Cert.Proof

end
